-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "gelu_cub" .f32 0x3E922279#32 ((80338380498831 / 281474976710656 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  IdealRules.named_const.Statement Cert.Kernel2Ideal.κ "gelu_cub" .f32 0x3E922279#32 ((80338380498831 / 281474976710656 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v66_0)) (v1 : (c : Dev Cert.Kernel4Ideal.nD) → Buf (Elt Ideal) ((c.tc : Thread Cert.Kernel4Ideal.nD Cert.Kernel4Ideal.τ).loc Cert.Kernel4Ideal.main_v66_1)) (v2 : (c : Dev Cert.Kernel4Ideal.nD) → Buf (Elt Ideal) ((c.tc : Thread Cert.Kernel4Ideal.nD Cert.Kernel4Ideal.τ).loc Cert.Kernel4Ideal.main_v66_3)) (v3 : (c : Dev Cert.Kernel4Ideal.nD) → Buf (Elt Ideal) ((c.tc : Thread Cert.Kernel4Ideal.nD Cert.Kernel4Ideal.τ).loc Cert.Kernel4Ideal.main_v66_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v66_0) = v0 c
          ∧ r.2.mem ((c.tc : Thread Cert.Kernel4Ideal.nD Cert.Kernel4Ideal.τ).loc Cert.Kernel4Ideal.main_v66_1) = v1 c
          ∧ r.2.mem ((c.tc : Thread Cert.Kernel4Ideal.nD Cert.Kernel4Ideal.τ).loc Cert.Kernel4Ideal.main_v66_3) = v2 c
          ∧ r.2.mem ((c.tc : Thread Cert.Kernel4Ideal.nD Cert.Kernel4Ideal.τ).loc Cert.Kernel4Ideal.main_v66_4) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v57) = v1 c
          ∧ r.2.mem ((c.tc : Thread Cert.Reference4Ideal.nD Cert.Reference4Ideal.τ).loc Cert.Reference4Ideal.main_v59) = v2 c
          ∧ r.2.mem ((c.tc : Thread Cert.Reference4Ideal.nD Cert.Reference4Ideal.τ).loc Cert.Reference4Ideal.main_v61) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ preserves_Kernel4_Kernel4Ideal
    ∧ algebraic_Kernel4Ideal_Reference4Ideal (hKernel4Ideal := hKernel4Ideal) (hReference4Ideal := hReference4Ideal)
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1024x6144 : Shape := ⟨2, ![1024, 6144]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S16384x1024 : Shape := ⟨2, ![16384, 1024]⟩
abbrev S1x1024 : Shape := ⟨2, ![1, 1024]⟩
abbrev S1x2048 : Shape := ⟨2, ![1, 2048]⟩
abbrev S128x8 : Shape := ⟨2, ![128, 8]⟩
abbrev S512x1024 : Shape := ⟨2, ![512, 1024]⟩
abbrev S512x2048 : Shape := ⟨2, ![512, 2048]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩
abbrev S512 : Shape := ⟨1, ![512]⟩
abbrev S512x1 : Shape := ⟨2, ![512, 1]⟩
abbrev S1024x2048 : Shape := ⟨2, ![1024, 2048]⟩
abbrev S128x128 : Shape := ⟨2, ![128, 128]⟩
abbrev S1024x256 : Shape := ⟨2, ![1024, 256]⟩
abbrev S512x256 : Shape := ⟨2, ![512, 256]⟩
abbrev S1x128x128 : Shape := ⟨3, ![1, 128, 128]⟩
abbrev S128x1 : Shape := ⟨2, ![128, 1]⟩
abbrev S128x256 : Shape := ⟨2, ![128, 256]⟩

abbrev nBuf : Space → Nat
  | .hbm => 17
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S1024x1024, .f32⟩
  | .hbm, ⟨3, _⟩ => ⟨S1024, .f32⟩
  | .hbm, ⟨4, _⟩ => ⟨S1024x6144, .f32⟩
  | .hbm, ⟨5, _⟩ => ⟨S2048, .f32⟩
  | .hbm, ⟨6, _⟩ => ⟨S8x128x128, .f32⟩
  | .hbm, ⟨7, _⟩ => ⟨S8x128, .f32⟩
  | .hbm, ⟨8, _⟩ => ⟨S2048x1024, .f32⟩
  | .hbm, ⟨9, _⟩ => ⟨S16384x1024, .f32⟩
  | .hbm, ⟨10, _⟩ => ⟨S16384x1024, .bf16⟩
  | .hbm, ⟨11, _⟩ => ⟨S1024x1024, .bf16⟩
  | .hbm, ⟨12, _⟩ => ⟨S1x1024, .f32⟩
  | .hbm, ⟨13, _⟩ => ⟨S1x2048, .f32⟩
  | .hbm, ⟨14, _⟩ => ⟨S128x8, .f32⟩
  | .hbm, ⟨15, _⟩ => ⟨S2048x1024, .bf16⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x2048, .f32⟩
  | .local _ .vmem, ⟨7, _⟩ => ⟨S8x128x128, .f32⟩
  | .local _ .vmem, ⟨8, _⟩ => ⟨S128x8, .f32⟩
  | .local _ .vmem, ⟨9, _⟩ => ⟨S2048x1024, .bf16⟩
  | .local _ .vmem, ⟨10, _⟩ => ⟨S512x1024, .f32⟩
  | .local _ .vmem, ⟨11, _⟩ => ⟨S512x1024, .f32⟩
  | .local _ .vmem, ⟨12, _⟩ => ⟨S512x2048, .bf16⟩
  | .local _ .vmem, ⟨13, _⟩ => ⟨S512x2048, .bf16⟩
  | .local _ .vmem, ⟨14, _⟩ => ⟨S1024x6144, .bf16⟩
  | .local _ .vmem, ⟨15, _⟩ => ⟨S2x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "gelu_cub" => some ((80338380498831 / 281474976710656 : ℝ) : EReal)
  | _ => none
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1024x6144 : Shape := ⟨2, ![1024, 6144]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x6144 : Shape := ⟨3, ![8, 2048, 6144]⟩
abbrev S8x2048x2048 : Shape := ⟨3, ![8, 2048, 2048]⟩
abbrev S1x1x2048 : Shape := ⟨3, ![1, 1, 2048]⟩
abbrev S8x16x128x8x256 : Shape := ⟨5, ![8, 16, 128, 8, 256]⟩
abbrev S128x128 : Shape := ⟨2, ![128, 128]⟩
abbrev S1x128x128 : Shape := ⟨3, ![1, 128, 128]⟩
abbrev S8x8x16x256x128 : Shape := ⟨5, ![8, 8, 16, 256, 128]⟩
abbrev S128x8 : Shape := ⟨2, ![128, 8]⟩
abbrev S1x1x128x8x1 : Shape := ⟨5, ![1, 1, 128, 8, 1]⟩
abbrev S16384x1024 : Shape := ⟨2, ![16384, 1024]⟩

abbrev nBuf : Space → Nat
  | .hbm => 121
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S1024x1024, .f32⟩
  | .hbm, ⟨3, _⟩ => ⟨S1024, .f32⟩
  | .hbm, ⟨4, _⟩ => ⟨S1024x6144, .f32⟩
  | .hbm, ⟨5, _⟩ => ⟨S2048, .f32⟩
  | .hbm, ⟨6, _⟩ => ⟨S8x128x128, .f32⟩
  | .hbm, ⟨7, _⟩ => ⟨S8x128, .f32⟩
  | .hbm, ⟨8, _⟩ => ⟨S2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S8x2048x6144, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S_, .f32⟩
  | .hbm, ⟨56, _⟩ => ⟨S8x2048x2048, .f32⟩
  | .hbm, ⟨57, _⟩ => ⟨S8x2048x2048, .f32⟩
  | .hbm, ⟨58, _⟩ => ⟨S8x2048x2048, .f32⟩
  | .hbm, ⟨59, _⟩ => ⟨S_, .f32⟩
  | .hbm, ⟨60, _⟩ => ⟨S8x2048x2048, .f32⟩
  | .hbm, ⟨61, _⟩ => ⟨S8x2048x2048, .f32⟩
  | .hbm, ⟨62, _⟩ => ⟨S_, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S8x2048x2048, .f32⟩
  | .hbm, ⟨67, _⟩ => ⟨S_, .f32⟩
  | .hbm, ⟨68, _⟩ => ⟨S8x2048, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S8x2048x1, .f32⟩
  | .hbm, ⟨77, _⟩ => ⟨S8x2048x2048, .f32⟩
  | .hbm, ⟨78, _⟩ => ⟨S8x2048x2048, .f32⟩
  | .hbm, ⟨79, _⟩ => ⟨S1x1x2048, .f32⟩
  | .hbm, ⟨80, _⟩ => ⟨S8x2048x2048, .f32⟩
  | .hbm, ⟨81, _⟩ => ⟨S8x2048x2048, .f32⟩
  | .hbm, ⟨82, _⟩ => ⟨S8x16x128x8x256, .f32⟩
  | .hbm, ⟨83, _⟩ => ⟨S_, .i1⟩
  | .hbm, ⟨84, _⟩ => ⟨S128x128, .i1⟩
  | .hbm, ⟨85, _⟩ => ⟨S128x128, .i32⟩
  | .hbm, ⟨86, _⟩ => ⟨S_, .i32⟩
  | .hbm, ⟨87, _⟩ => ⟨S128x128, .i32⟩
  | .hbm, ⟨88, _⟩ => ⟨S128x128, .i32⟩
  | .hbm, ⟨89, _⟩ => ⟨S128x128, .i32⟩
  | .hbm, ⟨90, _⟩ => ⟨S128x128, .i1⟩
  | .hbm, ⟨91, _⟩ => ⟨S_, .i1⟩
  | .hbm, ⟨92, _⟩ => ⟨S128x128, .i1⟩
  | .hbm, ⟨93, _⟩ => ⟨S128x128, .i1⟩
  | .hbm, ⟨94, _⟩ => ⟨S1x128x128, .i1⟩
  | .hbm, ⟨95, _⟩ => ⟨S_, .f32⟩
  | .hbm, ⟨96, _⟩ => ⟨S_, .f32⟩
  | .hbm, ⟨97, _⟩ => ⟨S8x128x128, .i1⟩
  | .hbm, ⟨98, _⟩ => ⟨S8x128x128, .f32⟩
  | .hbm, ⟨99, _⟩ => ⟨S8x128x128, .f32⟩
  | .hbm, ⟨100, _⟩ => ⟨S8x8x16x256x128, .f32⟩
  | .hbm, ⟨101, _⟩ => ⟨S8x16x128x8x256, .f32⟩
  | .hbm, ⟨102, _⟩ => ⟨S128x8, .f32⟩
  | .hbm, ⟨103, _⟩ => ⟨S1x1x128x8x1, .f32⟩
  | .hbm, ⟨104, _⟩ => ⟨S8x16x128x8x256, .f32⟩
  | .hbm, ⟨105, _⟩ => ⟨S8x16x128x8x256, .f32⟩
  | .hbm, ⟨106, _⟩ => ⟨S8x2048x2048, .f32⟩
  | .hbm, ⟨107, _⟩ => ⟨S8x2048x2048, .f32⟩
  | .hbm, ⟨108, _⟩ => ⟨S8x2048x2048, .f32⟩
  | .hbm, ⟨109, _⟩ => ⟨S8x2048x2048, .f32⟩
  | .hbm, ⟨110, _⟩ => ⟨S_, .f32⟩
  | .hbm, ⟨111, _⟩ => ⟨S8x2048x2048, .f32⟩
  | .hbm, ⟨112, _⟩ => ⟨S8x2048x2048, .f32⟩
  | .hbm, ⟨113, _⟩ => ⟨S_, .f32⟩
  | .hbm, ⟨114, _⟩ => ⟨S8x2048x2048, .f32⟩
  | .hbm, ⟨115, _⟩ => ⟨S8x2048x2048, .f32⟩
  | .hbm, ⟨116, _⟩ => ⟨S8x2048x2048, .f32⟩
  | .hbm, ⟨117, _⟩ => ⟨S8x2048x2048, .f32⟩
  | .hbm, ⟨118, _⟩ => ⟨S8x2048x1024, .f32⟩
  | .hbm, ⟨119, _⟩ => ⟨S8x2048x1024, .f32⟩
  | .hbm, ⟨120, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c : Ref sig .tc := ⟨.hbm, 83, rfl⟩
abbrev main_v60 : Ref sig .tc := ⟨.hbm, 84, rfl⟩
abbrev main_call0_v0 : Ref sig .tc := ⟨.hbm, 85, rfl⟩
abbrev main_call0_c : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_c_0 : Ref sig .tc := ⟨.hbm, 91, rfl⟩
abbrev main_call0_v5 : Ref sig .tc := ⟨.hbm, 92, rfl⟩
abbrev main_v61 : Ref sig .tc := ⟨.hbm, 93, rfl⟩
abbrev main_v62 : Ref sig .tc := ⟨.hbm, 94, rfl⟩
abbrev main_cst_13 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_call2_v0 : Ref sig .tc := ⟨.hbm, 108, rfl⟩
abbrev main_call2_v1 : Ref sig .tc := ⟨.hbm, 109, rfl⟩
abbrev main_call2_cst : Ref sig .tc := ⟨.hbm, 110, rfl⟩
abbrev main_call2_v2 : Ref sig .tc := ⟨.hbm, 111, rfl⟩
abbrev main_call2_v3 : Ref sig .tc := ⟨.hbm, 112, rfl⟩
abbrev main_call2_cst_0 : Ref sig .tc := ⟨.hbm, 113, rfl⟩
abbrev main_call2_v4 : Ref sig .tc := ⟨.hbm, 114, rfl⟩
abbrev main_call2_v5 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S1024x6144 : Shape := ⟨2, ![1024, 6144]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S16384x1024 : Shape := ⟨2, ![16384, 1024]⟩
abbrev S1x1024 : Shape := ⟨2, ![1, 1024]⟩
abbrev S1x2048 : Shape := ⟨2, ![1, 2048]⟩
abbrev S128x8 : Shape := ⟨2, ![128, 8]⟩
abbrev S512x1024 : Shape := ⟨2, ![512, 1024]⟩
abbrev S512x2048 : Shape := ⟨2, ![512, 2048]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024x2048 : Shape := ⟨2, ![1024, 2048]⟩
abbrev S128x128 : Shape := ⟨2, ![128, 128]⟩
abbrev S1024x256 : Shape := ⟨2, ![1024, 256]⟩
abbrev S512x256 : Shape := ⟨2, ![512, 256]⟩
abbrev S1x128x128 : Shape := ⟨3, ![1, 128, 128]⟩
abbrev S128x1 : Shape := ⟨2, ![128, 1]⟩
abbrev S128x256 : Shape := ⟨2, ![128, 256]⟩

abbrev nBuf : Space → Nat
  | .hbm => 13
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6144, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S2048x1024, .f32⟩
  | .hbm, ⟨7, _⟩ => ⟨S16384x1024, .f32⟩
  | .hbm, ⟨8, _⟩ => ⟨S1x1024, .f32⟩
  | .hbm, ⟨9, _⟩ => ⟨S1x2048, .f32⟩
  | .hbm, ⟨10, _⟩ => ⟨S128x8, .f32⟩
  | .hbm, ⟨11, _⟩ => ⟨S2048x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x2048, .f32⟩
  | .local _ .vmem, ⟨4, _⟩ => ⟨S8x128x128, .f32⟩
  | .local _ .vmem, ⟨5, _⟩ => ⟨S128x8, .f32⟩
  | .local _ .vmem, ⟨6, _⟩ => ⟨S2048x1024, .bf16⟩
  | .local _ .vmem, ⟨7, _⟩ => ⟨S512x1024, .f32⟩
  | .local _ .vmem, ⟨8, _⟩ => ⟨S512x1024, .f32⟩
  | .local _ .vmem, ⟨9, _⟩ => ⟨S512x2048, .bf16⟩
  | .local _ .vmem, ⟨10, _⟩ => ⟨S512x2048, .bf16⟩
  | .local _ .vmem, ⟨11, _⟩ => ⟨S1024x6144, .bf16⟩
  | .local _ .vmem, ⟨12, _⟩ => ⟨S2x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel2Ideal.lean ====
variable {F : FTy → Type} [FloatOps F] [Named F]
def κ : String → Option EReal := fun
  | "gelu_cub" => some ((80338380498831 / 281474976710656 : ℝ) : EReal)
  | _ => none
-- ==== Reference2Ideal.lean ====
abbrev S8x2048x1024 : Shape := ⟨3, ![8, 2048, 1024]⟩
abbrev S1024 : Shape := ⟨1, ![1024]⟩
abbrev S1024x6144 : Shape := ⟨2, ![1024, 6144]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x6144 : Shape := ⟨3, ![8, 2048, 6144]⟩
abbrev S8x2048x2048 : Shape := ⟨3, ![8, 2048, 2048]⟩
abbrev S1x1x2048 : Shape := ⟨3, ![1, 1, 2048]⟩
abbrev S8x16x128x8x256 : Shape := ⟨5, ![8, 16, 128, 8, 256]⟩
abbrev S128x128 : Shape := ⟨2, ![128, 128]⟩
abbrev S1x128x128 : Shape := ⟨3, ![1, 128, 128]⟩
abbrev S8x8x16x256x128 : Shape := ⟨5, ![8, 8, 16, 256, 128]⟩
abbrev S128x8 : Shape := ⟨2, ![128, 8]⟩
abbrev S1x1x128x8x1 : Shape := ⟨5, ![1, 1, 128, 8, 1]⟩
abbrev S16384x1024 : Shape := ⟨2, ![16384, 1024]⟩

abbrev nBuf : Space → Nat
  | .hbm => 116
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6144, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S2048x1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x2048x6144, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S_, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S_, .f32⟩
  | .hbm, ⟨55, _⟩ => ⟨S8x2048x2048, .f32⟩
  | .hbm, ⟨56, _⟩ => ⟨S8x2048x2048, .f32⟩
  | .hbm, ⟨57, _⟩ => ⟨S_, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S_, .f32⟩
  | .hbm, ⟨63, _⟩ => ⟨S8x2048, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S8x2048x2048, .f32⟩
  | .hbm, ⟨73, _⟩ => ⟨S8x2048x2048, .f32⟩
  | .hbm, ⟨74, _⟩ => ⟨S1x1x2048, .f32⟩
  | .hbm, ⟨75, _⟩ => ⟨S8x2048x2048, .f32⟩
  | .hbm, ⟨76, _⟩ => ⟨S8x2048x2048, .f32⟩
  | .hbm, ⟨77, _⟩ => ⟨S8x16x128x8x256, .f32⟩
  | .hbm, ⟨78, _⟩ => ⟨S_, .i1⟩
  | .hbm, ⟨79, _⟩ => ⟨S128x128, .i1⟩
  | .hbm, ⟨80, _⟩ => ⟨S128x128, .i32⟩
  | .hbm, ⟨81, _⟩ => ⟨S_, .i32⟩
  | .hbm, ⟨82, _⟩ => ⟨S128x128, .i32⟩
  | .hbm, ⟨83, _⟩ => ⟨S128x128, .i32⟩
  | .hbm, ⟨84, _⟩ => ⟨S128x128, .i32⟩
  | .hbm, ⟨85, _⟩ => ⟨S128x128, .i1⟩
  | .hbm, ⟨86, _⟩ => ⟨S_, .i1⟩
  | .hbm, ⟨87, _⟩ => ⟨S128x128, .i1⟩
  | .hbm, ⟨88, _⟩ => ⟨S128x128, .i1⟩
  | .hbm, ⟨89, _⟩ => ⟨S1x128x128, .i1⟩
  | .hbm, ⟨90, _⟩ => ⟨S_, .f32⟩
  | .hbm, ⟨91, _⟩ => ⟨S_, .f32⟩
  | .hbm, ⟨92, _⟩ => ⟨S8x128x128, .i1⟩
  | .hbm, ⟨93, _⟩ => ⟨S8x128x128, .f32⟩
  | .hbm, ⟨94, _⟩ => ⟨S8x128x128, .f32⟩
  | .hbm, ⟨95, _⟩ => ⟨S8x8x16x256x128, .f32⟩
  | .hbm, ⟨96, _⟩ => ⟨S8x16x128x8x256, .f32⟩
  | .hbm, ⟨97, _⟩ => ⟨S128x8, .f32⟩
  | .hbm, ⟨98, _⟩ => ⟨S1x1x128x8x1, .f32⟩
  | .hbm, ⟨99, _⟩ => ⟨S8x16x128x8x256, .f32⟩
  | .hbm, ⟨100, _⟩ => ⟨S8x16x128x8x256, .f32⟩
  | .hbm, ⟨101, _⟩ => ⟨S8x2048x2048, .f32⟩
  | .hbm, ⟨102, _⟩ => ⟨S8x2048x2048, .f32⟩
  | .hbm, ⟨103, _⟩ => ⟨S8x2048x2048, .f32⟩
  | .hbm, ⟨104, _⟩ => ⟨S8x2048x2048, .f32⟩
  | .hbm, ⟨105, _⟩ => ⟨S_, .f32⟩
  | .hbm, ⟨106, _⟩ => ⟨S8x2048x2048, .f32⟩
  | .hbm, ⟨107, _⟩ => ⟨S8x2048x2048, .f32⟩
  | .hbm, ⟨108, _⟩ => ⟨S_, .f32⟩
  | .hbm, ⟨109, _⟩ => ⟨S8x2048x2048, .f32⟩
  | .hbm, ⟨110, _⟩ => ⟨S8x2048x2048, .f32⟩
  | .hbm, ⟨111, _⟩ => ⟨S8x2048x2048, .f32⟩
  | .hbm, ⟨112, _⟩ => ⟨S8x2048x2048, .f32⟩
  | .hbm, ⟨113, _⟩ => ⟨S8x2048x1024, .f32⟩
  | .hbm, ⟨114, _⟩ => ⟨S8x2048x1024, .f32⟩
  | .hbm, ⟨115, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c : Ref sig .tc := ⟨.hbm, 78, rfl⟩
abbrev main_v57 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_c_0 : Ref sig .tc := ⟨.hbm, 86, rfl⟩
abbrev main_call0_v5 : Ref sig .tc := ⟨.hbm, 87, rfl⟩
abbrev main_v58 : Ref sig .tc := ⟨.hbm, 88, rfl⟩
abbrev main_v59 : Ref sig .tc := ⟨.hbm, 89, rfl⟩
abbrev main_cst_13 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_call2_v0 : Ref sig .tc := ⟨.hbm, 103, rfl⟩
abbrev main_call2_v1 : Ref sig .tc := ⟨.hbm, 104, rfl⟩
abbrev main_call2_cst : Ref sig .tc := ⟨.hbm, 105, rfl⟩
abbrev main_call2_v2 : Ref sig .tc := ⟨.hbm, 106, rfl⟩
abbrev main_call2_v3 : Ref sig .tc := ⟨.hbm, 107, rfl⟩
abbrev main_call2_cst_0 : Ref sig .tc := ⟨.hbm, 108, rfl⟩
abbrev main_call2_v4 : Ref sig .tc := ⟨.hbm, 109, rfl⟩
abbrev main_call2_v5 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S1024x3072 : Shape := ⟨2, ![1024, 3072]⟩
abbrev S4x1536 : Shape := ⟨2, ![4, 1536]⟩
abbrev S1536 : Shape := ⟨1, ![1536]⟩
abbrev S16x96x96 : Shape := ⟨3, ![16, 96, 96]⟩
abbrev S1536x1024 : Shape := ⟨2, ![1536, 1024]⟩
abbrev S1024x1536 : Shape := ⟨2, ![1024, 1536]⟩
abbrev S_ : Shape := ⟨0, ![]⟩
abbrev S1x1024 : Shape := ⟨2, ![1, 1024]⟩
abbrev S1x1536 : Shape := ⟨2, ![1, 1536]⟩
abbrev S4x4x96x96 : Shape := ⟨4, ![4, 4, 96, 96]⟩
abbrev S4x4 : Shape := ⟨2, ![4, 4]⟩
abbrev S4x4x96x1x96 : Shape := ⟨5, ![4, 4, 96, 1, 96]⟩
abbrev S1x4x1x4x1 : Shape := ⟨5, ![1, 4, 1, 4, 1]⟩
abbrev S4x4x96x4x96 : Shape := ⟨5, ![4, 4, 96, 4, 96]⟩
abbrev S4x384x384 : Shape := ⟨3, ![4, 384, 384]⟩
abbrev S4x384x768 : Shape := ⟨3, ![4, 384, 768]⟩
abbrev S8x64x1024 : Shape := ⟨3, ![8, 64, 1024]⟩
abbrev S8x512x128 : Shape := ⟨3, ![8, 512, 128]⟩
abbrev S536x1536 : Shape := ⟨2, ![536, 1536]⟩
abbrev S512x1536 : Shape := ⟨2, ![512, 1536]⟩
abbrev S8x1536 : Shape := ⟨2, ![8, 1536]⟩
abbrev S24x1536 : Shape := ⟨2, ![24, 1536]⟩
abbrev S1x64x1024 : Shape := ⟨3, ![1, 64, 1024]⟩
abbrev S64x1024 : Shape := ⟨2, ![64, 1024]⟩
abbrev S64 : Shape := ⟨1, ![64]⟩
abbrev S64x1 : Shape := ⟨2, ![64, 1]⟩
abbrev S64x128 : Shape := ⟨2, ![64, 128]⟩
abbrev S1x64x128 : Shape := ⟨3, ![1, 64, 128]⟩
abbrev S1x512x128 : Shape := ⟨3, ![1, 512, 128]⟩
abbrev S512x128 : Shape := ⟨2, ![512, 128]⟩
abbrev S512x1024 : Shape := ⟨2, ![512, 1024]⟩
abbrev S512x384 : Shape := ⟨2, ![512, 384]⟩
abbrev S1x384x768 : Shape := ⟨3, ![1, 384, 768]⟩
abbrev S384x768 : Shape := ⟨2, ![384, 768]⟩
abbrev S512x768 : Shape := ⟨2, ![512, 768]⟩
abbrev S1x384 : Shape := ⟨2, ![1, 384]⟩

abbrev nBuf : Space → Nat
  | .hbm => 65
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3072, .f32⟩
  | .hbm, ⟨3, _⟩ => ⟨S4x1536, .f32⟩
  | .hbm, ⟨4, _⟩ => ⟨S1536, .f32⟩
  | .hbm, ⟨5, _⟩ => ⟨S16x96x96, .f32⟩
  | .hbm, ⟨6, _⟩ => ⟨S1536, .f32⟩
  | .hbm, ⟨7, _⟩ => ⟨S16x96x96, .f32⟩
  | .hbm, ⟨8, _⟩ => ⟨S1536, .f32⟩
  | .hbm, ⟨9, _⟩ => ⟨S1536, .f32⟩
  | .hbm, ⟨10, _⟩ => ⟨S1536x1024, .f32⟩
  | .hbm, ⟨11, _⟩ => ⟨S1024x1536, .f32⟩
  | .hbm, ⟨12, _⟩ => ⟨S1024x1536, .bf16⟩
  | .hbm, ⟨13, _⟩ => ⟨S1024x1536, .f32⟩
  | .hbm, ⟨14, _⟩ => ⟨S_, .f32⟩
  | .hbm, ⟨15, _⟩ => ⟨S1024x1536, .f32⟩
  | .hbm, ⟨16, _⟩ => ⟨S1024x1536, .f32⟩
  | .hbm, ⟨17, _⟩ => ⟨S1024x1536, .bf16⟩
  | .hbm, ⟨18, _⟩ => ⟨S1024x3072, .bf16⟩
  | .hbm, ⟨19, _⟩ => ⟨S1x1024, .f32⟩
  | .hbm, ⟨20, _⟩ => ⟨S1x1536, .f32⟩
  | .hbm, ⟨21, _⟩ => ⟨S4x4x96x96, .f32⟩
  | .hbm, ⟨22, _⟩ => ⟨S4x4, .i32⟩
  | .hbm, ⟨23, _⟩ => ⟨S4x4, .i32⟩
  | .hbm, ⟨24, _⟩ => ⟨S_, .i32⟩
  | .hbm, ⟨25, _⟩ => ⟨S4x4, .i32⟩
  | .hbm, ⟨26, _⟩ => ⟨S4x4, .i32⟩
  | .hbm, ⟨27, _⟩ => ⟨S4x4, .i1⟩
  | .hbm, ⟨28, _⟩ => ⟨S4x4, .f32⟩
  | .hbm, ⟨29, _⟩ => ⟨S4x4x96x1x96, .f32⟩
  | .hbm, ⟨30, _⟩ => ⟨S1x4x1x4x1, .f32⟩
  | .hbm, ⟨31, _⟩ => ⟨S4x4x96x4x96, .f32⟩
  | .hbm, ⟨32, _⟩ => ⟨S4x4x96x4x96, .f32⟩
  | .hbm, ⟨33, _⟩ => ⟨S4x4x96x4x96, .f32⟩
  | .hbm, ⟨34, _⟩ => ⟨S4x384x384, .f32⟩
  | .hbm, ⟨35, _⟩ => ⟨S4x4x96x96, .f32⟩
  | .hbm, ⟨36, _⟩ => ⟨S4x4, .i32⟩
  | .hbm, ⟨37, _⟩ => ⟨S4x4, .i32⟩
  | .hbm, ⟨38, _⟩ => ⟨S_, .i32⟩
  | .hbm, ⟨39, _⟩ => ⟨S4x4, .i32⟩
  | .hbm, ⟨40, _⟩ => ⟨S4x4, .i32⟩
  | .hbm, ⟨41, _⟩ => ⟨S4x4, .i1⟩
  | .hbm, ⟨42, _⟩ => ⟨S4x4, .f32⟩
  | .hbm, ⟨43, _⟩ => ⟨S4x4x96x1x96, .f32⟩
  | .hbm, ⟨44, _⟩ => ⟨S1x4x1x4x1, .f32⟩
  | .hbm, ⟨45, _⟩ => ⟨S4x4x96x4x96, .f32⟩
  | .hbm, ⟨46, _⟩ => ⟨S4x4x96x4x96, .f32⟩
  | .hbm, ⟨47, _⟩ => ⟨S4x4x96x4x96, .f32⟩
  | .hbm, ⟨48, _⟩ => ⟨S4x384x384, .f32⟩
  | .hbm, ⟨49, _⟩ => ⟨S4x384x768, .f32⟩
  | .hbm, ⟨50, _⟩ => ⟨S_, .f32⟩
  | .hbm, ⟨51, _⟩ => ⟨S4x384x768, .f32⟩
  | .hbm, ⟨52, _⟩ => ⟨S4x384x768, .f32⟩
  | .hbm, ⟨53, _⟩ => ⟨S4x384x768, .bf16⟩
  | .hbm, ⟨54, _⟩ => ⟨S_, .f32⟩
  | .hbm, ⟨55, _⟩ => ⟨S1536, .f32⟩
  | .hbm, ⟨56, _⟩ => ⟨S1536, .f32⟩
  | .hbm, ⟨57, _⟩ => ⟨S1x1536, .f32⟩
  | .hbm, ⟨58, _⟩ => ⟨S_, .f32⟩
  | .hbm, ⟨59, _⟩ => ⟨S1536, .f32⟩
  | .hbm, ⟨60, _⟩ => ⟨S1536, .f32⟩
  | .hbm, ⟨61, _⟩ => ⟨S1x1536, .f32⟩
  | .hbm, ⟨62, _⟩ => ⟨S1x1536, .f32⟩
  | .hbm, ⟨63, _⟩ => ⟨S1536x1024, .bf16⟩
  | .hbm, ⟨64, _⟩ => ⟨S8x2048x1024, .f32⟩
  | .local _ .vmem, ⟨0, _⟩ => ⟨S8x64x1024, .f32⟩
  | .local _ .vmem, ⟨1, _⟩ => ⟨S8x64x1024, .f32⟩
  | .local _ .vmem, ⟨2, _⟩ => ⟨S1x1024, .f32⟩
  | .local _ .vmem, ⟨3, _⟩ => ⟨S1024x3072, .bf16⟩
  | .local _ .vmem, ⟨4, _⟩ => ⟨S4x1536, .f32⟩
  | .local _ .vmem, ⟨5, _⟩ => ⟨S1x1536, .f32⟩
  | .local _ .vmem, ⟨6, _⟩ => ⟨S4x384x768, .bf16⟩
  | .local _ .vmem, ⟨7, _⟩ => ⟨S1x1536, .f32⟩
  | .local _ .vmem, ⟨8, _⟩ => ⟨S1x1536, .f32⟩
  | .local _ .vmem, ⟨9, _⟩ => ⟨S1x1536, .f32⟩
  | .local _ .vmem, ⟨10, _⟩ => ⟨S1536x1024, .bf16⟩
  | .local _ .vmem, ⟨11, _⟩ => ⟨S8x64x1024, .f32⟩
  | .local _ .vmem, ⟨12, _⟩ => ⟨S8x64x1024, .f32⟩
  | .local _ .vmem, ⟨13, _⟩ => ⟨S8x512x128, .f32⟩
  | .local _ .vmem, ⟨14, _⟩ => ⟨S536x1536, .f32⟩
  | .local _ .vmem, ⟨15, _⟩ => ⟨S512x1536, .f32⟩
  | .local _ .vmem, ⟨16, _⟩ => ⟨S512x1536, .f32⟩
  | .local _ .vmem, ⟨17, _⟩ => ⟨S8x1536, .f32⟩
  | .local _ .vmem, ⟨18, _⟩ => ⟨S8x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_1 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_2 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_3 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x384x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1536x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8x2048x1024 : Shape := ⟨3, ![8, 2048, 1024]⟩
abbrev S1024 : Shape := ⟨1, ![1024]⟩
abbrev S1024x3072 : Shape := ⟨2, ![1024, 3072]⟩
abbrev S4x1536 : Shape := ⟨2, ![4, 1536]⟩
abbrev S1536 : Shape := ⟨1, ![1536]⟩
abbrev S16x96x96 : Shape := ⟨3, ![16, 96, 96]⟩
abbrev S1536x1024 : Shape := ⟨2, ![1536, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8x2048x1536 : Shape := ⟨3, ![8, 2048, 1536]⟩
abbrev S8x2051x1536 : Shape := ⟨3, ![8, 2051, 1536]⟩
abbrev S1x1536 : Shape := ⟨2, ![1, 1536]⟩
abbrev S1x1x1536 : Shape := ⟨3, ![1, 1, 1536]⟩
abbrev S8x2048x16x96 : Shape := ⟨4, ![8, 2048, 16, 96]⟩
abbrev S16x96x8x2048 : Shape := ⟨4, ![16, 96, 8, 2048]⟩
abbrev S8x1024x1536 : Shape := ⟨3, ![8, 1024, 1536]⟩
abbrev S8x512x1536 : Shape := ⟨3, ![8, 512, 1536]⟩
abbrev S8x256x1536 : Shape := ⟨3, ![8, 256, 1536]⟩
abbrev S8x128x1536 : Shape := ⟨3, ![8, 128, 1536]⟩
abbrev S8x64x1536 : Shape := ⟨3, ![8, 64, 1536]⟩
abbrev S8x32x1536 : Shape := ⟨3, ![8, 32, 1536]⟩
abbrev S8x16x1536 : Shape := ⟨3, ![8, 16, 1536]⟩
abbrev S8x8x1536 : Shape := ⟨3, ![8, 8, 1536]⟩
abbrev S8x4x1536 : Shape := ⟨3, ![8, 4, 1536]⟩
abbrev S8x2x1536 : Shape := ⟨3, ![8, 2, 1536]⟩
abbrev S8x1x1536 : Shape := ⟨3, ![8, 1, 1536]⟩
abbrev S8x0x1536 : Shape := ⟨3, ![8, 0, 1536]⟩
abbrev S8x3x1536 : Shape := ⟨3, ![8, 3, 1536]⟩
abbrev S8x7x1536 : Shape := ⟨3, ![8, 7, 1536]⟩
abbrev S8x15x1536 : Shape := ⟨3, ![8, 15, 1536]⟩
abbrev S8x31x1536 : Shape := ⟨3, ![8, 31, 1536]⟩
abbrev S8x63x1536 : Shape := ⟨3, ![8, 63, 1536]⟩
abbrev S8x127x1536 : Shape := ⟨3, ![8, 127, 1536]⟩
abbrev S8x255x1536 : Shape := ⟨3, ![8, 255, 1536]⟩
abbrev S8x511x1536 : Shape := ⟨3, ![8, 511, 1536]⟩
abbrev S8x1023x1536 : Shape := ⟨3, ![8, 1023, 1536]⟩

abbrev nBuf : Space → Nat
  | .hbm => 445
  | .vmem => 0
  | .smem => 0
  | _ => 0

abbrev hbmTy0_0 (i : Nat) : BufTy := match i % 128 with
  | 0 => ⟨S8x2048x1024, .f32⟩
  | 1 => ⟨S1024, .f32⟩
  | 2 => ⟨S1024x3072, .f32⟩
  | 3 => ⟨S4x1536, .f32⟩
  | 4 => ⟨S1536, .f32⟩
  | 5 => ⟨S16x96x96, .f32⟩
  | 6 => ⟨S1536, .f32⟩
  | 7 => ⟨S16x96x96, .f32⟩
  | 8 => ⟨S1536, .f32⟩
  | 9 => ⟨S1536, .f32⟩
  | 10 => ⟨S1536x1024, .f32⟩
  | 11 => ⟨S8x2048x1024, .f32⟩
  | 12 => ⟨S_, .f32⟩
  | 13 => ⟨S8x2048, .f32⟩
  | 14 => ⟨S8x2048x1, .f32⟩
  | 15 => ⟨S_, .f32⟩
  | 16 => ⟨S8x2048x1, .f32⟩
  | 17 => ⟨S8x2048x1, .f32⟩
  | 18 => ⟨S_, .f32⟩
  | 19 => ⟨S8x2048x1, .f32⟩
  | 20 => ⟨S8x2048x1, .f32⟩
  | 21 => ⟨S8x2048x1, .f32⟩
  | 22 => ⟨S8x2048x1024, .f32⟩
  | 23 => ⟨S8x2048x1024, .f32⟩
  | 24 => ⟨S1x1x1024, .f32⟩
  | 25 => ⟨S8x2048x1024, .f32⟩
  | 26 => ⟨S8x2048x1024, .f32⟩
  | 27 => ⟨S8x2048x3072, .f32⟩
  | 28 => ⟨S8x2048x1536, .f32⟩
  | 29 => ⟨S8x2048x1536, .f32⟩
  | 30 => ⟨S_, .i32⟩
  | 31 => ⟨S_, .f32⟩
  | 32 => ⟨S8x2051x1536, .f32⟩
  | 33 => ⟨S8x2048x1536, .f32⟩
  | 34 => ⟨S1x1536, .f32⟩
  | 35 => ⟨S1536, .f32⟩
  | 36 => ⟨S1x1x1536, .f32⟩
  | 37 => ⟨S8x2048x1536, .f32⟩
  | 38 => ⟨S8x2048x1536, .f32⟩
  | 39 => ⟨S_, .f32⟩
  | 40 => ⟨S8x2048x1536, .f32⟩
  | 41 => ⟨S8x2048x1536, .f32⟩
  | 42 => ⟨S8x2048x1536, .f32⟩
  | 43 => ⟨S1x1536, .f32⟩
  | 44 => ⟨S1536, .f32⟩
  | 45 => ⟨S1x1x1536, .f32⟩
  | 46 => ⟨S8x2048x1536, .f32⟩
  | 47 => ⟨S8x2048x1536, .f32⟩
  | 48 => ⟨S8x2048x1536, .f32⟩
  | 49 => ⟨S8x2048x1536, .f32⟩
  | 50 => ⟨S1x1536, .f32⟩
  | 51 => ⟨S1536, .f32⟩
  | 52 => ⟨S1x1x1536, .f32⟩
  | 53 => ⟨S8x2048x1536, .f32⟩
  | 54 => ⟨S8x2048x1536, .f32⟩
  | 55 => ⟨S8x2048x1536, .f32⟩
  | 56 => ⟨S8x2048x1536, .f32⟩
  | 57 => ⟨S1x1536, .f32⟩
  | 58 => ⟨S1536, .f32⟩
  | 59 => ⟨S1x1x1536, .f32⟩
  | 60 => ⟨S8x2048x1536, .f32⟩
  | 61 => ⟨S8x2048x1536, .f32⟩
  | 62 => ⟨S8x2048x1536, .f32⟩
  | 63 => ⟨S1x1x1536, .f32⟩
  | 64 => ⟨S8x2048x1536, .f32⟩
  | 65 => ⟨S8x2048x1536, .f32⟩
  | 66 => ⟨S8x2048x16x96, .f32⟩
  | 67 => ⟨S16x96x8x2048, .f32⟩
  | 68 => ⟨S8x2048x16x96, .f32⟩
  | 69 => ⟨S8x2048x1536, .f32⟩
  | 70 => ⟨S1x1x1536, .f32⟩
  | 71 => ⟨S8x2048x1536, .f32⟩
  | 72 => ⟨S8x2048x1536, .f32⟩
  | 73 => ⟨S8x2048x1536, .f32⟩
  | 74 => ⟨S8x2048x1536, .f32⟩
  | 75 => ⟨S_, .f32⟩
  | 76 => ⟨S8x2048x1536, .f32⟩
  | 77 => ⟨S8x2048x1536, .f32⟩
  | 78 => ⟨S_, .f32⟩
  | 79 => ⟨S8x2048x1536, .f32⟩
  | 80 => ⟨S8x2048x1536, .f32⟩
  | 81 => ⟨S16x96x8x2048, .f32⟩
  | 82 => ⟨S8x2048x16x96, .f32⟩
  | 83 => ⟨S8x2048x1536, .f32⟩
  | 84 => ⟨S1x1x1536, .f32⟩
  | 85 => ⟨S8x2048x1536, .f32⟩
  | 86 => ⟨S8x2048x1536, .f32⟩
  | 87 => ⟨S8x2048x1536, .f32⟩
  | 88 => ⟨S8x2048x1536, .f32⟩
  | 89 => ⟨S_, .f32⟩
  | 90 => ⟨S8x2048x1536, .f32⟩
  | 91 => ⟨S8x2048x1536, .f32⟩
  | 92 => ⟨S_, .f32⟩
  | 93 => ⟨S8x2048x1536, .f32⟩
  | 94 => ⟨S8x2048x1536, .f32⟩
  | 95 => ⟨S_, .f32⟩
  | 96 => ⟨S8x2048x1536, .f32⟩
  | 97 => ⟨S8x2048x1536, .f32⟩
  | 98 => ⟨S1536, .f32⟩
  | 99 => ⟨S_, .f32⟩
  | 100 => ⟨S1536, .f32⟩
  | 101 => ⟨S1536, .f32⟩
  | 102 => ⟨S1536, .f32⟩
  | 103 => ⟨S1536, .f32⟩
  | 104 => ⟨S1536, .i1⟩
  | 105 => ⟨S1536, .f32⟩
  | 106 => ⟨S1536, .f32⟩
  | 107 => ⟨S1536, .f32⟩
  | 108 => ⟨S1536, .f32⟩
  | 109 => ⟨S1536, .f32⟩
  | 110 => ⟨S1536, .f32⟩
  | 111 => ⟨S1536, .f32⟩
  | 112 => ⟨S1536, .f32⟩
  | 113 => ⟨S1x1x1536, .f32⟩
  | 114 => ⟨S8x2048x1536, .f32⟩
  | 115 => ⟨S8x2048x1536, .f32⟩
  | 116 => ⟨S8x2048x1536, .f32⟩
  | 117 => ⟨S_, .f32⟩
  | 118 => ⟨S8x2048x1536, .f32⟩
  | 119 => ⟨S8x2048x1536, .f32⟩
  | 120 => ⟨S8x2048x1536, .f32⟩
  | 121 => ⟨S8x2048x1536, .f32⟩
  | 122 => ⟨S8x2048x1536, .f32⟩
  | 123 => ⟨S8x2048x1536, .f32⟩
  | 124 => ⟨S8x2048x1536, .f32⟩
  | 125 => ⟨S8x1024x1536, .f32⟩
  | 126 => ⟨S8x1024x1536, .f32⟩
  | 127 => ⟨S8x1024x1536, .f32⟩
  | _ => ⟨S8x2048x1024, .f32⟩

abbrev hbmTy0_1 (i : Nat) : BufTy := match i % 128 with
  | 0 => ⟨S8x1024x1536, .f32⟩
  | 1 => ⟨S8x1024x1536, .f32⟩
  | 2 => ⟨S8x1024x1536, .f32⟩
  | 3 => ⟨S8x1024x1536, .f32⟩
  | 4 => ⟨S8x512x1536, .f32⟩
  | 5 => ⟨S8x512x1536, .f32⟩
  | 6 => ⟨S8x512x1536, .f32⟩
  | 7 => ⟨S8x512x1536, .f32⟩
  | 8 => ⟨S8x512x1536, .f32⟩
  | 9 => ⟨S8x512x1536, .f32⟩
  | 10 => ⟨S8x512x1536, .f32⟩
  | 11 => ⟨S8x256x1536, .f32⟩
  | 12 => ⟨S8x256x1536, .f32⟩
  | 13 => ⟨S8x256x1536, .f32⟩
  | 14 => ⟨S8x256x1536, .f32⟩
  | 15 => ⟨S8x256x1536, .f32⟩
  | 16 => ⟨S8x256x1536, .f32⟩
  | 17 => ⟨S8x256x1536, .f32⟩
  | 18 => ⟨S8x128x1536, .f32⟩
  | 19 => ⟨S8x128x1536, .f32⟩
  | 20 => ⟨S8x128x1536, .f32⟩
  | 21 => ⟨S8x128x1536, .f32⟩
  | 22 => ⟨S8x128x1536, .f32⟩
  | 23 => ⟨S8x128x1536, .f32⟩
  | 24 => ⟨S8x128x1536, .f32⟩
  | 25 => ⟨S8x64x1536, .f32⟩
  | 26 => ⟨S8x64x1536, .f32⟩
  | 27 => ⟨S8x64x1536, .f32⟩
  | 28 => ⟨S8x64x1536, .f32⟩
  | 29 => ⟨S8x64x1536, .f32⟩
  | 30 => ⟨S8x64x1536, .f32⟩
  | 31 => ⟨S8x64x1536, .f32⟩
  | 32 => ⟨S8x32x1536, .f32⟩
  | 33 => ⟨S8x32x1536, .f32⟩
  | 34 => ⟨S8x32x1536, .f32⟩
  | 35 => ⟨S8x32x1536, .f32⟩
  | 36 => ⟨S8x32x1536, .f32⟩
  | 37 => ⟨S8x32x1536, .f32⟩
  | 38 => ⟨S8x32x1536, .f32⟩
  | 39 => ⟨S8x16x1536, .f32⟩
  | 40 => ⟨S8x16x1536, .f32⟩
  | 41 => ⟨S8x16x1536, .f32⟩
  | 42 => ⟨S8x16x1536, .f32⟩
  | 43 => ⟨S8x16x1536, .f32⟩
  | 44 => ⟨S8x16x1536, .f32⟩
  | 45 => ⟨S8x16x1536, .f32⟩
  | 46 => ⟨S8x8x1536, .f32⟩
  | 47 => ⟨S8x8x1536, .f32⟩
  | 48 => ⟨S8x8x1536, .f32⟩
  | 49 => ⟨S8x8x1536, .f32⟩
  | 50 => ⟨S8x8x1536, .f32⟩
  | 51 => ⟨S8x8x1536, .f32⟩
  | 52 => ⟨S8x8x1536, .f32⟩
  | 53 => ⟨S8x4x1536, .f32⟩
  | 54 => ⟨S8x4x1536, .f32⟩
  | 55 => ⟨S8x4x1536, .f32⟩
  | 56 => ⟨S8x4x1536, .f32⟩
  | 57 => ⟨S8x4x1536, .f32⟩
  | 58 => ⟨S8x4x1536, .f32⟩
  | 59 => ⟨S8x4x1536, .f32⟩
  | 60 => ⟨S8x2x1536, .f32⟩
  | 61 => ⟨S8x2x1536, .f32⟩
  | 62 => ⟨S8x2x1536, .f32⟩
  | 63 => ⟨S8x2x1536, .f32⟩
  | 64 => ⟨S8x2x1536, .f32⟩
  | 65 => ⟨S8x2x1536, .f32⟩
  | 66 => ⟨S8x2x1536, .f32⟩
  | 67 => ⟨S8x1x1536, .f32⟩
  | 68 => ⟨S8x1x1536, .f32⟩
  | 69 => ⟨S8x1x1536, .f32⟩
  | 70 => ⟨S8x1x1536, .f32⟩
  | 71 => ⟨S8x1x1536, .f32⟩
  | 72 => ⟨S8x1x1536, .f32⟩
  | 73 => ⟨S8x1x1536, .f32⟩
  | 74 => ⟨S8x0x1536, .f32⟩
  | 75 => ⟨S8x0x1536, .f32⟩
  | 76 => ⟨S8x0x1536, .f32⟩
  | 77 => ⟨S8x0x1536, .f32⟩
  | 78 => ⟨S8x0x1536, .f32⟩
  | 79 => ⟨S8x0x1536, .f32⟩
  | 80 => ⟨S8x0x1536, .f32⟩
  | 81 => ⟨S8x1x1536, .f32⟩
  | 82 => ⟨S8x1x1536, .f32⟩
  | 83 => ⟨S8x1x1536, .f32⟩
  | 84 => ⟨S8x1x1536, .f32⟩
  | 85 => ⟨S_, .f32⟩
  | 86 => ⟨S8x2x1536, .f32⟩
  | 87 => ⟨S_, .f32⟩
  | 88 => ⟨S8x2x1536, .f32⟩
  | 89 => ⟨S8x2x1536, .f32⟩
  | 90 => ⟨S_, .f32⟩
  | 91 => ⟨S8x2x1536, .f32⟩
  | 92 => ⟨S_, .f32⟩
  | 93 => ⟨S8x2x1536, .f32⟩
  | 94 => ⟨S8x2x1536, .f32⟩
  | 95 => ⟨S8x1x1536, .f32⟩
  | 96 => ⟨S8x1x1536, .f32⟩
  | 97 => ⟨S8x1x1536, .f32⟩
  | 98 => ⟨S8x1x1536, .f32⟩
  | 99 => ⟨S8x1x1536, .f32⟩
  | 100 => ⟨S8x1x1536, .f32⟩
  | 101 => ⟨S8x1x1536, .f32⟩
  | 102 => ⟨S8x1x1536, .f32⟩
  | 103 => ⟨S8x2x1536, .f32⟩
  | 104 => ⟨S8x1x1536, .f32⟩
  | 105 => ⟨S8x2x1536, .f32⟩
  | 106 => ⟨S_, .f32⟩
  | 107 => ⟨S8x4x1536, .f32⟩
  | 108 => ⟨S_, .f32⟩
  | 109 => ⟨S8x4x1536, .f32⟩
  | 110 => ⟨S8x4x1536, .f32⟩
  | 111 => ⟨S_, .f32⟩
  | 112 => ⟨S8x4x1536, .f32⟩
  | 113 => ⟨S_, .f32⟩
  | 114 => ⟨S8x4x1536, .f32⟩
  | 115 => ⟨S8x4x1536, .f32⟩
  | 116 => ⟨S8x3x1536, .f32⟩
  | 117 => ⟨S8x3x1536, .f32⟩
  | 118 => ⟨S8x3x1536, .f32⟩
  | 119 => ⟨S8x3x1536, .f32⟩
  | 120 => ⟨S8x3x1536, .f32⟩
  | 121 => ⟨S8x3x1536, .f32⟩
  | 122 => ⟨S8x3x1536, .f32⟩
  | 123 => ⟨S8x1x1536, .f32⟩
  | 124 => ⟨S8x4x1536, .f32⟩
  | 125 => ⟨S8x1x1536, .f32⟩
  | 126 => ⟨S8x4x1536, .f32⟩
  | 127 => ⟨S_, .f32⟩
  | _ => ⟨S8x2048x1024, .f32⟩

abbrev hbmTy0_2 (i : Nat) : BufTy := match i % 128 with
  | 0 => ⟨S8x8x1536, .f32⟩
  | 1 => ⟨S_, .f32⟩
  | 2 => ⟨S8x8x1536, .f32⟩
  | 3 => ⟨S8x8x1536, .f32⟩
  | 4 => ⟨S_, .f32⟩
  | 5 => ⟨S8x8x1536, .f32⟩
  | 6 => ⟨S_, .f32⟩
  | 7 => ⟨S8x8x1536, .f32⟩
  | 8 => ⟨S8x8x1536, .f32⟩
  | 9 => ⟨S8x7x1536, .f32⟩
  | 10 => ⟨S8x7x1536, .f32⟩
  | 11 => ⟨S8x7x1536, .f32⟩
  | 12 => ⟨S8x7x1536, .f32⟩
  | 13 => ⟨S8x7x1536, .f32⟩
  | 14 => ⟨S8x7x1536, .f32⟩
  | 15 => ⟨S8x7x1536, .f32⟩
  | 16 => ⟨S8x1x1536, .f32⟩
  | 17 => ⟨S8x8x1536, .f32⟩
  | 18 => ⟨S8x1x1536, .f32⟩
  | 19 => ⟨S8x8x1536, .f32⟩
  | 20 => ⟨S_, .f32⟩
  | 21 => ⟨S8x16x1536, .f32⟩
  | 22 => ⟨S_, .f32⟩
  | 23 => ⟨S8x16x1536, .f32⟩
  | 24 => ⟨S8x16x1536, .f32⟩
  | 25 => ⟨S_, .f32⟩
  | 26 => ⟨S8x16x1536, .f32⟩
  | 27 => ⟨S_, .f32⟩
  | 28 => ⟨S8x16x1536, .f32⟩
  | 29 => ⟨S8x16x1536, .f32⟩
  | 30 => ⟨S8x15x1536, .f32⟩
  | 31 => ⟨S8x15x1536, .f32⟩
  | 32 => ⟨S8x15x1536, .f32⟩
  | 33 => ⟨S8x15x1536, .f32⟩
  | 34 => ⟨S8x15x1536, .f32⟩
  | 35 => ⟨S8x15x1536, .f32⟩
  | 36 => ⟨S8x15x1536, .f32⟩
  | 37 => ⟨S8x1x1536, .f32⟩
  | 38 => ⟨S8x16x1536, .f32⟩
  | 39 => ⟨S8x1x1536, .f32⟩
  | 40 => ⟨S8x16x1536, .f32⟩
  | 41 => ⟨S_, .f32⟩
  | 42 => ⟨S8x32x1536, .f32⟩
  | 43 => ⟨S_, .f32⟩
  | 44 => ⟨S8x32x1536, .f32⟩
  | 45 => ⟨S8x32x1536, .f32⟩
  | 46 => ⟨S_, .f32⟩
  | 47 => ⟨S8x32x1536, .f32⟩
  | 48 => ⟨S_, .f32⟩
  | 49 => ⟨S8x32x1536, .f32⟩
  | 50 => ⟨S8x32x1536, .f32⟩
  | 51 => ⟨S8x31x1536, .f32⟩
  | 52 => ⟨S8x31x1536, .f32⟩
  | 53 => ⟨S8x31x1536, .f32⟩
  | 54 => ⟨S8x31x1536, .f32⟩
  | 55 => ⟨S8x31x1536, .f32⟩
  | 56 => ⟨S8x31x1536, .f32⟩
  | 57 => ⟨S8x31x1536, .f32⟩
  | 58 => ⟨S8x1x1536, .f32⟩
  | 59 => ⟨S8x32x1536, .f32⟩
  | 60 => ⟨S8x1x1536, .f32⟩
  | 61 => ⟨S8x32x1536, .f32⟩
  | 62 => ⟨S_, .f32⟩
  | 63 => ⟨S8x64x1536, .f32⟩
  | 64 => ⟨S_, .f32⟩
  | 65 => ⟨S8x64x1536, .f32⟩
  | 66 => ⟨S8x64x1536, .f32⟩
  | 67 => ⟨S_, .f32⟩
  | 68 => ⟨S8x64x1536, .f32⟩
  | 69 => ⟨S_, .f32⟩
  | 70 => ⟨S8x64x1536, .f32⟩
  | 71 => ⟨S8x64x1536, .f32⟩
  | 72 => ⟨S8x63x1536, .f32⟩
  | 73 => ⟨S8x63x1536, .f32⟩
  | 74 => ⟨S8x63x1536, .f32⟩
  | 75 => ⟨S8x63x1536, .f32⟩
  | 76 => ⟨S8x63x1536, .f32⟩
  | 77 => ⟨S8x63x1536, .f32⟩
  | 78 => ⟨S8x63x1536, .f32⟩
  | 79 => ⟨S8x1x1536, .f32⟩
  | 80 => ⟨S8x64x1536, .f32⟩
  | 81 => ⟨S8x1x1536, .f32⟩
  | 82 => ⟨S8x64x1536, .f32⟩
  | 83 => ⟨S_, .f32⟩
  | 84 => ⟨S8x128x1536, .f32⟩
  | 85 => ⟨S_, .f32⟩
  | 86 => ⟨S8x128x1536, .f32⟩
  | 87 => ⟨S8x128x1536, .f32⟩
  | 88 => ⟨S_, .f32⟩
  | 89 => ⟨S8x128x1536, .f32⟩
  | 90 => ⟨S_, .f32⟩
  | 91 => ⟨S8x128x1536, .f32⟩
  | 92 => ⟨S8x128x1536, .f32⟩
  | 93 => ⟨S8x127x1536, .f32⟩
  | 94 => ⟨S8x127x1536, .f32⟩
  | 95 => ⟨S8x127x1536, .f32⟩
  | 96 => ⟨S8x127x1536, .f32⟩
  | 97 => ⟨S8x127x1536, .f32⟩
  | 98 => ⟨S8x127x1536, .f32⟩
  | 99 => ⟨S8x127x1536, .f32⟩
  | 100 => ⟨S8x1x1536, .f32⟩
  | 101 => ⟨S8x128x1536, .f32⟩
  | 102 => ⟨S8x1x1536, .f32⟩
  | 103 => ⟨S8x128x1536, .f32⟩
  | 104 => ⟨S_, .f32⟩
  | 105 => ⟨S8x256x1536, .f32⟩
  | 106 => ⟨S_, .f32⟩
  | 107 => ⟨S8x256x1536, .f32⟩
  | 108 => ⟨S8x256x1536, .f32⟩
  | 109 => ⟨S_, .f32⟩
  | 110 => ⟨S8x256x1536, .f32⟩
  | 111 => ⟨S_, .f32⟩
  | 112 => ⟨S8x256x1536, .f32⟩
  | 113 => ⟨S8x256x1536, .f32⟩
  | 114 => ⟨S8x255x1536, .f32⟩
  | 115 => ⟨S8x255x1536, .f32⟩
  | 116 => ⟨S8x255x1536, .f32⟩
  | 117 => ⟨S8x255x1536, .f32⟩
  | 118 => ⟨S8x255x1536, .f32⟩
  | 119 => ⟨S8x255x1536, .f32⟩
  | 120 => ⟨S8x255x1536, .f32⟩
  | 121 => ⟨S8x1x1536, .f32⟩
  | 122 => ⟨S8x256x1536, .f32⟩
  | 123 => ⟨S8x1x1536, .f32⟩
  | 124 => ⟨S8x256x1536, .f32⟩
  | 125 => ⟨S_, .f32⟩
  | 126 => ⟨S8x512x1536, .f32⟩
  | 127 => ⟨S_, .f32⟩
  | _ => ⟨S8x2048x1024, .f32⟩

abbrev hbmTy0_3 (i : Nat) : BufTy := match i % 128 with
  | 0 => ⟨S8x512x1536, .f32⟩
  | 1 => ⟨S8x512x1536, .f32⟩
  | 2 => ⟨S_, .f32⟩
  | 3 => ⟨S8x512x1536, .f32⟩
  | 4 => ⟨S_, .f32⟩
  | 5 => ⟨S8x512x1536, .f32⟩
  | 6 => ⟨S8x512x1536, .f32⟩
  | 7 => ⟨S8x511x1536, .f32⟩
  | 8 => ⟨S8x511x1536, .f32⟩
  | 9 => ⟨S8x511x1536, .f32⟩
  | 10 => ⟨S8x511x1536, .f32⟩
  | 11 => ⟨S8x511x1536, .f32⟩
  | 12 => ⟨S8x511x1536, .f32⟩
  | 13 => ⟨S8x511x1536, .f32⟩
  | 14 => ⟨S8x1x1536, .f32⟩
  | 15 => ⟨S8x512x1536, .f32⟩
  | 16 => ⟨S8x1x1536, .f32⟩
  | 17 => ⟨S8x512x1536, .f32⟩
  | 18 => ⟨S_, .f32⟩
  | 19 => ⟨S8x1024x1536, .f32⟩
  | 20 => ⟨S_, .f32⟩
  | 21 => ⟨S8x1024x1536, .f32⟩
  | 22 => ⟨S8x1024x1536, .f32⟩
  | 23 => ⟨S_, .f32⟩
  | 24 => ⟨S8x1024x1536, .f32⟩
  | 25 => ⟨S_, .f32⟩
  | 26 => ⟨S8x1024x1536, .f32⟩
  | 27 => ⟨S8x1024x1536, .f32⟩
  | 28 => ⟨S8x1023x1536, .f32⟩
  | 29 => ⟨S8x1023x1536, .f32⟩
  | 30 => ⟨S8x1023x1536, .f32⟩
  | 31 => ⟨S8x1023x1536, .f32⟩
  | 32 => ⟨S8x1023x1536, .f32⟩
  | 33 => ⟨S8x1023x1536, .f32⟩
  | 34 => ⟨S8x1023x1536, .f32⟩
  | 35 => ⟨S8x1x1536, .f32⟩
  | 36 => ⟨S8x1024x1536, .f32⟩
  | 37 => ⟨S8x1x1536, .f32⟩
  | 38 => ⟨S8x1024x1536, .f32⟩
  | 39 => ⟨S_, .f32⟩
  | 40 => ⟨S8x2048x1536, .f32⟩
  | 41 => ⟨S_, .f32⟩
  | 42 => ⟨S8x2048x1536, .f32⟩
  | 43 => ⟨S8x2048x1536, .f32⟩
  | 44 => ⟨S_, .f32⟩
  | 45 => ⟨S8x2048x1536, .f32⟩
  | 46 => ⟨S_, .f32⟩
  | 47 => ⟨S8x2048x1536, .f32⟩
  | 48 => ⟨S8x2048x1536, .f32⟩
  | 49 => ⟨S8x2048x1536, .f32⟩
  | 50 => ⟨S8x2048x1536, .f32⟩
  | 51 => ⟨S_, .f32⟩
  | 52 => ⟨S8x2048x1536, .f32⟩
  | 53 => ⟨S8x2048x1536, .f32⟩
  | 54 => ⟨S_, .f32⟩
  | 55 => ⟨S8x2048x1536, .f32⟩
  | 56 => ⟨S8x2048x1536, .f32⟩
  | 57 => ⟨S8x2048x1536, .f32⟩
  | 58 => ⟨S8x2048x1536, .f32⟩
  | 59 => ⟨S8x2048x1024, .f32⟩
  | 60 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | 3 => hbmTy0_3 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_call0_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_3 : Ref sig .tc := ⟨.hbm, 75, rfl⟩
abbrev main_v58 : Ref sig .tc := ⟨.hbm, 76, rfl⟩
abbrev main_v59 : Ref sig .tc := ⟨.hbm, 77, rfl⟩
abbrev main_cst_4 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_5 : Ref sig .tc := ⟨.hbm, 89, rfl⟩
abbrev main_v70 : Ref sig .tc := ⟨.hbm, 90, rfl⟩
abbrev main_v71 : Ref sig .tc := ⟨.hbm, 91, rfl⟩
abbrev main_cst_6 : Ref sig .tc := ⟨.hbm, 92, rfl⟩
abbrev main_v72 : Ref sig .tc := ⟨.hbm, 93, rfl⟩
abbrev main_v73 : Ref sig .tc := ⟨.hbm, 94, rfl⟩
abbrev main_cst_7 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_call1_cst : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_8 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_cst_9 : Ref sig .tc := ⟨.hbm, 213, rfl⟩
abbrev main_v177 : Ref sig .tc := ⟨.hbm, 214, rfl⟩
abbrev main_cst_10 : Ref sig .tc := ⟨.hbm, 215, rfl⟩
abbrev main_v178 : Ref sig .tc := ⟨.hbm, 216, rfl⟩
abbrev main_v179 : Ref sig .tc := ⟨.hbm, 217, rfl⟩
abbrev main_cst_11 : Ref sig .tc := ⟨.hbm, 218, rfl⟩
abbrev main_v180 : Ref sig .tc := ⟨.hbm, 219, rfl⟩
abbrev main_cst_12 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_cst_13 : Ref sig .tc := ⟨.hbm, 234, rfl⟩
abbrev main_v194 : Ref sig .tc := ⟨.hbm, 235, rfl⟩
abbrev main_cst_14 : Ref sig .tc := ⟨.hbm, 236, rfl⟩
abbrev main_v195 : Ref sig .tc := ⟨.hbm, 237, rfl⟩
abbrev main_v196 : Ref sig .tc := ⟨.hbm, 238, rfl⟩
abbrev main_cst_15 : Ref sig .tc := ⟨.hbm, 239, rfl⟩
abbrev main_v197 : Ref sig .tc := ⟨.hbm, 240, rfl⟩
abbrev main_cst_16 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_cst_17 : Ref sig .tc := ⟨.hbm, 255, rfl⟩
abbrev main_v211 : Ref sig .tc := ⟨.hbm, 256, rfl⟩
abbrev main_cst_18 : Ref sig .tc := ⟨.hbm, 257, rfl⟩
abbrev main_v212 : Ref sig .tc := ⟨.hbm, 258, rfl⟩
abbrev main_v213 : Ref sig .tc := ⟨.hbm, 259, rfl⟩
abbrev main_cst_19 : Ref sig .tc := ⟨.hbm, 260, rfl⟩
abbrev main_v214 : Ref sig .tc := ⟨.hbm, 261, rfl⟩
abbrev main_cst_20 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_cst_21 : Ref sig .tc := ⟨.hbm, 276, rfl⟩
abbrev main_v228 : Ref sig .tc := ⟨.hbm, 277, rfl⟩
abbrev main_cst_22 : Ref sig .tc := ⟨.hbm, 278, rfl⟩
abbrev main_v229 : Ref sig .tc := ⟨.hbm, 279, rfl⟩
abbrev main_v230 : Ref sig .tc := ⟨.hbm, 280, rfl⟩
abbrev main_cst_23 : Ref sig .tc := ⟨.hbm, 281, rfl⟩
abbrev main_v231 : Ref sig .tc := ⟨.hbm, 282, rfl⟩
abbrev main_cst_24 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_cst_25 : Ref sig .tc := ⟨.hbm, 297, rfl⟩
abbrev main_v245 : Ref sig .tc := ⟨.hbm, 298, rfl⟩
abbrev main_cst_26 : Ref sig .tc := ⟨.hbm, 299, rfl⟩
abbrev main_v246 : Ref sig .tc := ⟨.hbm, 300, rfl⟩
abbrev main_v247 : Ref sig .tc := ⟨.hbm, 301, rfl⟩
abbrev main_cst_27 : Ref sig .tc := ⟨.hbm, 302, rfl⟩
abbrev main_v248 : Ref sig .tc := ⟨.hbm, 303, rfl⟩
abbrev main_cst_28 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_cst_29 : Ref sig .tc := ⟨.hbm, 318, rfl⟩
abbrev main_v262 : Ref sig .tc := ⟨.hbm, 319, rfl⟩
abbrev main_cst_30 : Ref sig .tc := ⟨.hbm, 320, rfl⟩
abbrev main_v263 : Ref sig .tc := ⟨.hbm, 321, rfl⟩
abbrev main_v264 : Ref sig .tc := ⟨.hbm, 322, rfl⟩
abbrev main_cst_31 : Ref sig .tc := ⟨.hbm, 323, rfl⟩
abbrev main_v265 : Ref sig .tc := ⟨.hbm, 324, rfl⟩
abbrev main_cst_32 : Ref sig .tc := ⟨.hbm, 325, rfl⟩
abbrev main_v266 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_v278 : Ref sig .tc := ⟨.hbm, 338, rfl⟩
abbrev main_cst_33 : Ref sig .tc := ⟨.hbm, 339, rfl⟩
abbrev main_v279 : Ref sig .tc := ⟨.hbm, 340, rfl⟩
abbrev main_cst_34 : Ref sig .tc := ⟨.hbm, 341, rfl⟩
abbrev main_v280 : Ref sig .tc := ⟨.hbm, 342, rfl⟩
abbrev main_v281 : Ref sig .tc := ⟨.hbm, 343, rfl⟩
abbrev main_cst_35 : Ref sig .tc := ⟨.hbm, 344, rfl⟩
abbrev main_v282 : Ref sig .tc := ⟨.hbm, 345, rfl⟩
abbrev main_cst_36 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_v288 : Ref sig .tc := ⟨.hbm, 352, rfl⟩
abbrev main_v289 : Ref sig .tc := ⟨.hbm, 353, rfl⟩
abbrev main_v290 : Ref sig .tc := ⟨.hbm, 354, rfl⟩
abbrev main_v291 : Ref sig .tc := ⟨.hbm, 355, rfl⟩
abbrev main_v292 : Ref sig .tc := ⟨.hbm, 356, rfl⟩
abbrev main_v293 : Ref sig .tc := ⟨.hbm, 357, rfl⟩
abbrev main_v294 : Ref sig .tc := ⟨.hbm, 358, rfl⟩
abbrev main_v295 : Ref sig .tc := ⟨.hbm, 359, rfl⟩
abbrev main_cst_37 : Ref sig .tc := ⟨.hbm, 360, rfl⟩
abbrev main_v296 : Ref sig .tc := ⟨.hbm, 361, rfl⟩
abbrev main_cst_38 : Ref sig .tc := ⟨.hbm, 362, rfl⟩
abbrev main_v297 : Ref sig .tc := ⟨.hbm, 363, rfl⟩
abbrev main_v298 : Ref sig .tc := ⟨.hbm, 364, rfl⟩
abbrev main_cst_39 : Ref sig .tc := ⟨.hbm, 365, rfl⟩
abbrev main_v299 : Ref sig .tc := ⟨.hbm, 366, rfl⟩
abbrev main_cst_40 : Ref sig .tc := ⟨.hbm, 367, rfl⟩
abbrev main_v300 : Ref sig .tc := ⟨.hbm, 368, rfl⟩
abbrev main_v301 : Ref sig .tc := ⟨.hbm, 369, rfl⟩
abbrev main_v302 : Ref sig .tc := ⟨.hbm, 370, rfl⟩
abbrev main_v303 : Ref sig .tc := ⟨.hbm, 371, rfl⟩
abbrev main_v304 : Ref sig .tc := ⟨.hbm, 372, rfl⟩
abbrev main_v305 : Ref sig .tc := ⟨.hbm, 373, rfl⟩
abbrev main_v306 : Ref sig .tc := ⟨.hbm, 374, rfl⟩
abbrev main_v307 : Ref sig .tc := ⟨.hbm, 375, rfl⟩
abbrev main_v308 : Ref sig .tc := ⟨.hbm, 376, rfl⟩
abbrev main_v309 : Ref sig .tc := ⟨.hbm, 377, rfl⟩
abbrev main_v310 : Ref sig .tc := ⟨.hbm, 378, rfl⟩
abbrev main_v311 : Ref sig .tc := ⟨.hbm, 379, rfl⟩
abbrev main_v312 : Ref sig .tc := ⟨.hbm, 380, rfl⟩
abbrev main_cst_41 : Ref sig .tc := ⟨.hbm, 381, rfl⟩
abbrev main_v313 : Ref sig .tc := ⟨.hbm, 382, rfl⟩
abbrev main_cst_42 : Ref sig .tc := ⟨.hbm, 383, rfl⟩
abbrev main_v314 : Ref sig .tc := ⟨.hbm, 384, rfl⟩
abbrev main_v315 : Ref sig .tc := ⟨.hbm, 385, rfl⟩
abbrev main_cst_43 : Ref sig .tc := ⟨.hbm, 386, rfl⟩
abbrev main_v316 : Ref sig .tc := ⟨.hbm, 387, rfl⟩
abbrev main_cst_44 : Ref sig .tc := ⟨.hbm, 388, rfl⟩
abbrev main_v317 : Ref sig .tc := ⟨.hbm, 389, rfl⟩
abbrev main_v318 : Ref sig .tc := ⟨.hbm, 390, rfl⟩
abbrev main_v319 : Ref sig .tc := ⟨.hbm, 391, rfl⟩
abbrev main_v320 : Ref sig .tc := ⟨.hbm, 392, rfl⟩
abbrev main_v321 : Ref sig .tc := ⟨.hbm, 393, rfl⟩
abbrev main_v322 : Ref sig .tc := ⟨.hbm, 394, rfl⟩
abbrev main_v323 : Ref sig .tc := ⟨.hbm, 395, rfl⟩
abbrev main_v324 : Ref sig .tc := ⟨.hbm, 396, rfl⟩
abbrev main_v325 : Ref sig .tc := ⟨.hbm, 397, rfl⟩
abbrev main_v326 : Ref sig .tc := ⟨.hbm, 398, rfl⟩
abbrev main_v327 : Ref sig .tc := ⟨.hbm, 399, rfl⟩
abbrev main_v328 : Ref sig .tc := ⟨.hbm, 400, rfl⟩
abbrev main_v329 : Ref sig .tc := ⟨.hbm, 401, rfl⟩
abbrev main_cst_45 : Ref sig .tc := ⟨.hbm, 402, rfl⟩
abbrev main_v330 : Ref sig .tc := ⟨.hbm, 403, rfl⟩
abbrev main_cst_46 : Ref sig .tc := ⟨.hbm, 404, rfl⟩
abbrev main_v331 : Ref sig .tc := ⟨.hbm, 405, rfl⟩
abbrev main_v332 : Ref sig .tc := ⟨.hbm, 406, rfl⟩
abbrev main_cst_47 : Ref sig .tc := ⟨.hbm, 407, rfl⟩
abbrev main_v333 : Ref sig .tc := ⟨.hbm, 408, rfl⟩
abbrev main_cst_48 : Ref sig .tc := ⟨.hbm, 409, rfl⟩
abbrev main_v334 : Ref sig .tc := ⟨.hbm, 410, rfl⟩
abbrev main_v335 : Ref sig .tc := ⟨.hbm, 411, rfl⟩
abbrev main_v336 : Ref sig .tc := ⟨.hbm, 412, rfl⟩
abbrev main_v337 : Ref sig .tc := ⟨.hbm, 413, rfl⟩
abbrev main_v338 : Ref sig .tc := ⟨.hbm, 414, rfl⟩
abbrev main_v339 : Ref sig .tc := ⟨.hbm, 415, rfl⟩
abbrev main_v340 : Ref sig .tc := ⟨.hbm, 416, rfl⟩
abbrev main_v341 : Ref sig .tc := ⟨.hbm, 417, rfl⟩
abbrev main_v342 : Ref sig .tc := ⟨.hbm, 418, rfl⟩
abbrev main_v343 : Ref sig .tc := ⟨.hbm, 419, rfl⟩
abbrev main_v344 : Ref sig .tc := ⟨.hbm, 420, rfl⟩
abbrev main_v345 : Ref sig .tc := ⟨.hbm, 421, rfl⟩
abbrev main_v346 : Ref sig .tc := ⟨.hbm, 422, rfl⟩
abbrev main_cst_49 : Ref sig .tc := ⟨.hbm, 423, rfl⟩
abbrev main_v347 : Ref sig .tc := ⟨.hbm, 424, rfl⟩
abbrev main_cst_50 : Ref sig .tc := ⟨.hbm, 425, rfl⟩
abbrev main_v348 : Ref sig .tc := ⟨.hbm, 426, rfl⟩
abbrev main_v349 : Ref sig .tc := ⟨.hbm, 427, rfl⟩
abbrev main_cst_51 : Ref sig .tc := ⟨.hbm, 428, rfl⟩
abbrev main_v350 : Ref sig .tc := ⟨.hbm, 429, rfl⟩
abbrev main_cst_52 : Ref sig .tc := ⟨.hbm, 430, rfl⟩
abbrev main_v351 : Ref sig .tc := ⟨.hbm, 431, rfl⟩
abbrev main_v352 : Ref sig .tc := ⟨.hbm, 432, rfl⟩
abbrev main_call2_v0 : Ref sig .tc := ⟨.hbm, 433, rfl⟩
abbrev main_call2_v1 : Ref sig .tc := ⟨.hbm, 434, rfl⟩
abbrev main_call2_cst : Ref sig .tc := ⟨.hbm, 435, rfl⟩
abbrev main_call2_v2 : Ref sig .tc := ⟨.hbm, 436, rfl⟩
abbrev main_call2_v3 : Ref sig .tc := ⟨.hbm, 437, rfl⟩
abbrev main_call2_cst_0 : Ref sig .tc := ⟨.hbm, 438, rfl⟩
abbrev main_call2_v4 : Ref sig .tc := ⟨.hbm, 439, rfl⟩
abbrev main_call2_v5 : Ref sig .tc := ⟨.hbm, 440, rfl⟩
abbrev main_v353 : Ref sig .tc := ⟨.hbm, 441, rfl⟩
abbrev main_v354 : Ref sig .tc := ⟨.hbm, 442, rfl⟩
abbrev main_v355 : Ref sig .tc := ⟨.hbm, 443, rfl⟩
abbrev main_v356 : Ref sig .tc := ⟨.hbm, 444, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024 : Shape := ⟨1, ![1024]⟩
abbrev S1024x4112 : Shape := ⟨2, ![1024, 4112]⟩
abbrev S16 : Shape := ⟨1, ![16]⟩
abbrev S64 : Shape := ⟨1, ![64]⟩
abbrev S1024x1024 : Shape := ⟨2, ![1024, 1024]⟩
abbrev S_ : Shape := ⟨0, ![]⟩
abbrev S1024x2048 : Shape := ⟨2, ![1024, 2048]⟩
abbrev S2048x1024 : Shape := ⟨2, ![2048, 1024]⟩
abbrev S1024x16 : Shape := ⟨2, ![1024, 16]⟩
abbrev S1x1024x1x16 : Shape := ⟨4, ![1, 1024, 1, 16]⟩
abbrev S1x1024x3x16 : Shape := ⟨4, ![1, 1024, 3, 16]⟩
abbrev S1024x48 : Shape := ⟨2, ![1024, 48]⟩
abbrev S1024x128 : Shape := ⟨2, ![1024, 128]⟩
abbrev S1x16 : Shape := ⟨2, ![1, 16]⟩
abbrev S3x16 : Shape := ⟨2, ![3, 16]⟩
abbrev S48 : Shape := ⟨1, ![48]⟩
abbrev S128 : Shape := ⟨1, ![128]⟩
abbrev S1x128 : Shape := ⟨2, ![1, 128]⟩
abbrev S1x64 : Shape := ⟨2, ![1, 64]⟩
abbrev S16x64 : Shape := ⟨2, ![16, 64]⟩
abbrev S1x1024 : Shape := ⟨2, ![1, 1024]⟩
abbrev S1024x1 : Shape := ⟨2, ![1024, 1]⟩
abbrev S128x1024 : Shape := ⟨2, ![128, 1024]⟩
abbrev S256x1024 : Shape := ⟨2, ![256, 1024]⟩
abbrev S128x1 : Shape := ⟨2, ![128, 1]⟩
abbrev S8x1024x2048 : Shape := ⟨3, ![8, 1024, 2048]⟩
abbrev S8x2048x16 : Shape := ⟨3, ![8, 2048, 16]⟩
abbrev S1x1024x1024 : Shape := ⟨3, ![1, 1024, 1024]⟩
abbrev S1x1024x16 : Shape := ⟨3, ![1, 1024, 16]⟩
abbrev S1024x256 : Shape := ⟨2, ![1024, 256]⟩
abbrev S64x1024 : Shape := ⟨2, ![64, 1024]⟩
abbrev S1x64x1024 : Shape := ⟨3, ![1, 64, 1024]⟩

abbrev nBuf : Space → Nat
  | .hbm => 154
  | .vmem => 25
  | .smem => 0
  | _ => 0

abbrev hbmTy0_0 (i : Nat) : BufTy := match i % 128 with
  | 0 => ⟨S8x2048x1024, .f32⟩
  | 1 => ⟨S1024, .f32⟩
  | 2 => ⟨S1024x4112, .f32⟩
  | 3 => ⟨S16, .f32⟩
  | 4 => ⟨S64, .f32⟩
  | 5 => ⟨S64, .f32⟩
  | 6 => ⟨S1024x1024, .f32⟩
  | 7 => ⟨S1024x1024, .bf16⟩
  | 8 => ⟨S1024x1024, .f32⟩
  | 9 => ⟨S_, .f32⟩
  | 10 => ⟨S1024x1024, .f32⟩
  | 11 => ⟨S1024x1024, .f32⟩
  | 12 => ⟨S1024x1024, .bf16⟩
  | 13 => ⟨S1024x2048, .bf16⟩
  | 14 => ⟨S1024x1024, .f32⟩
  | 15 => ⟨S1024x1024, .bf16⟩
  | 16 => ⟨S1024x1024, .bf16⟩
  | 17 => ⟨S1024x1024, .f32⟩
  | 18 => ⟨S1024x1024, .bf16⟩
  | 19 => ⟨S1024x1024, .bf16⟩
  | 20 => ⟨S2048x1024, .bf16⟩
  | 21 => ⟨S1024x16, .f32⟩
  | 22 => ⟨S1x1024x1x16, .f32⟩
  | 23 => ⟨S1x1024x3x16, .f32⟩
  | 24 => ⟨S1024x48, .f32⟩
  | 25 => ⟨S_, .i32⟩
  | 26 => ⟨S_, .f32⟩
  | 27 => ⟨S1024x128, .f32⟩
  | 28 => ⟨S1024x128, .bf16⟩
  | 29 => ⟨S1x16, .f32⟩
  | 30 => ⟨S3x16, .f32⟩
  | 31 => ⟨S48, .f32⟩
  | 32 => ⟨S_, .i32⟩
  | 33 => ⟨S_, .f32⟩
  | 34 => ⟨S128, .f32⟩
  | 35 => ⟨S1x128, .f32⟩
  | 36 => ⟨S64, .f32⟩
  | 37 => ⟨S1x64, .f32⟩
  | 38 => ⟨S16x64, .f32⟩
  | 39 => ⟨S1024, .f32⟩
  | 40 => ⟨S1x1024, .f32⟩
  | 41 => ⟨S_, .f32⟩
  | 42 => ⟨S1x1024, .f32⟩
  | 43 => ⟨S1x1024, .f32⟩
  | 44 => ⟨S1024, .i32⟩
  | 45 => ⟨S_, .i32⟩
  | 46 => ⟨S_, .i32⟩
  | 47 => ⟨S1024, .i32⟩
  | 48 => ⟨S1024, .i32⟩
  | 49 => ⟨S1024, .i32⟩
  | 50 => ⟨S_, .i32⟩
  | 51 => ⟨S1024, .i32⟩
  | 52 => ⟨S1024, .i1⟩
  | 53 => ⟨S1024, .i32⟩
  | 54 => ⟨S1024, .i32⟩
  | 55 => ⟨S_, .i32⟩
  | 56 => ⟨S1024, .i32⟩
  | 57 => ⟨S1024, .i1⟩
  | 58 => ⟨S1024, .i1⟩
  | 59 => ⟨S_, .i32⟩
  | 60 => ⟨S1024, .i32⟩
  | 61 => ⟨S1024, .i32⟩
  | 62 => ⟨S1024, .i32⟩
  | 63 => ⟨S1024x1, .i32⟩
  | 64 => ⟨S128, .i32⟩
  | 65 => ⟨S1x128, .i32⟩
  | 66 => ⟨S1024x128, .i32⟩
  | 67 => ⟨S1024x128, .i32⟩
  | 68 => ⟨S1024x128, .i1⟩
  | 69 => ⟨S1024x128, .bf16⟩
  | 70 => ⟨S128x1024, .bf16⟩
  | 71 => ⟨S128x1024, .bf16⟩
  | 72 => ⟨S256x1024, .bf16⟩
  | 73 => ⟨S128, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S128, .i32⟩
  | 81 => ⟨S128, .i32⟩
  | 82 => ⟨S_, .i32⟩
  | 83 => ⟨S128, .i32⟩
  | 84 => ⟨S128, .i1⟩
  | 85 => ⟨S_, .i32⟩
  | 86 => ⟨S128, .i32⟩
  | 87 => ⟨S128, .i1⟩
  | 88 => ⟨S_, .i32⟩
  | 89 => ⟨S_, .i1⟩
  | 90 => ⟨S128, .i1⟩
  | 91 => ⟨S128, .i1⟩
  | 92 => ⟨S128, .i1⟩
  | 93 => ⟨S128, .i32⟩
  | 94 => ⟨S128, .i32⟩
  | 95 => ⟨S128, .i32⟩
  | 96 => ⟨S_, .i32⟩
  | 97 => ⟨S128, .i32⟩
  | 98 => ⟨S128, .i32⟩
  | 99 => ⟨S_, .i32⟩
  | 100 => ⟨S_, .i32⟩
  | 101 => ⟨S128, .i32⟩
  | 102 => ⟨S128, .i32⟩
  | 103 => ⟨S128, .i32⟩
  | 104 => ⟨S_, .i32⟩
  | 105 => ⟨S128, .i32⟩
  | 106 => ⟨S128, .i1⟩
  | 107 => ⟨S128, .i32⟩
  | 108 => ⟨S128, .i32⟩
  | 109 => ⟨S_, .i32⟩
  | 110 => ⟨S128, .i32⟩
  | 111 => ⟨S128, .i1⟩
  | 112 => ⟨S128, .i1⟩
  | 113 => ⟨S_, .i32⟩
  | 114 => ⟨S128, .i32⟩
  | 115 => ⟨S128, .i32⟩
  | 116 => ⟨S128, .i32⟩
  | 117 => ⟨S128, .i32⟩
  | 118 => ⟨S128x1, .i32⟩
  | 119 => ⟨S_, .i32⟩
  | 120 => ⟨S128x1, .i32⟩
  | 121 => ⟨S128x1, .i1⟩
  | 122 => ⟨S128x1, .i32⟩
  | 123 => ⟨S1024, .i32⟩
  | 124 => ⟨S1x1024, .i32⟩
  | 125 => ⟨S128x1024, .i32⟩
  | 126 => ⟨S128x1024, .i32⟩
  | 127 => ⟨S128x1024, .i1⟩
  | _ => ⟨S8x2048x1024, .f32⟩

abbrev hbmTy0_1 (i : Nat) : BufTy := match i % 128 with
  | 0 => ⟨S128x1024, .i1⟩
  | 1 => ⟨S128x1024, .i1⟩
  | 2 => ⟨S_, .f32⟩
  | 3 => ⟨S_, .f32⟩
  | 4 => ⟨S128x1024, .f32⟩
  | 5 => ⟨S128x1024, .f32⟩
  | 6 => ⟨S128x1024, .f32⟩
  | 7 => ⟨S1x1024, .f32⟩
  | 8 => ⟨S128x1024, .bf16⟩
  | 9 => ⟨S_, .bf16⟩
  | 10 => ⟨S1024x1024, .bf16⟩
  | 11 => ⟨S1024x1024, .i32⟩
  | 12 => ⟨S_, .i32⟩
  | 13 => ⟨S1024x1024, .i32⟩
  | 14 => ⟨S1024x1024, .i32⟩
  | 15 => ⟨S1024x1024, .i32⟩
  | 16 => ⟨S1024x1024, .i1⟩
  | 17 => ⟨S_, .bf16⟩
  | 18 => ⟨S1024x1024, .bf16⟩
  | 19 => ⟨S1024x1024, .bf16⟩
  | 20 => ⟨S8x1024x2048, .bf16⟩
  | 21 => ⟨S8x2048x1024, .bf16⟩
  | 22 => ⟨S8x2048x1024, .bf16⟩
  | 23 => ⟨S8x1024x2048, .bf16⟩
  | 24 => ⟨S8x2048x1024, .bf16⟩
  | 25 => ⟨S8x2048x16, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2048, .bf16⟩
  | .local _ .vmem, ⟨4, _⟩ => ⟨S2048x1024, .bf16⟩
  | .local _ .vmem, ⟨5, _⟩ => ⟨S1024x128, .bf16⟩
  | .local _ .vmem, ⟨6, _⟩ => ⟨S1x128, .f32⟩
  | .local _ .vmem, ⟨7, _⟩ => ⟨S1x1024, .f32⟩
  | .local _ .vmem, ⟨8, _⟩ => ⟨S1024x128, .bf16⟩
  | .local _ .vmem, ⟨9, _⟩ => ⟨S256x1024, .bf16⟩
  | .local _ .vmem, ⟨10, _⟩ => ⟨S128x1024, .bf16⟩
  | .local _ .vmem, ⟨11, _⟩ => ⟨S1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x1024x1024, .bf16⟩
  | .local _ .vmem, ⟨22, _⟩ => ⟨S1x1024x16, .f32⟩
  | .local _ .vmem, ⟨23, _⟩ => ⟨S1x1024x16, .f32⟩
  | .local _ .vmem, ⟨24, _⟩ => ⟨S1x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_0 : Ref sig .tc := ⟨.hbm, 32, rfl⟩
abbrev main_call1_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_2 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_3 : Ref sig .tc := ⟨.hbm, 74, rfl⟩
abbrev main_call3_v0 : Ref sig .tc := ⟨.hbm, 75, rfl⟩
abbrev main_call3_c : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_1 : Ref sig .tc := ⟨.hbm, 82, rfl⟩
abbrev main_call3_v5 : Ref sig .tc := ⟨.hbm, 83, rfl⟩
abbrev main_call3_v6 : Ref sig .tc := ⟨.hbm, 84, rfl⟩
abbrev main_call3_c_2 : Ref sig .tc := ⟨.hbm, 85, rfl⟩
abbrev main_call3_v7 : Ref sig .tc := ⟨.hbm, 86, rfl⟩
abbrev main_call3_v8 : Ref sig .tc := ⟨.hbm, 87, rfl⟩
abbrev main_call3_c_3 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_v45 : Ref sig .tc := ⟨.hbm, 95, rfl⟩
abbrev main_c_4 : Ref sig .tc := ⟨.hbm, 96, rfl⟩
abbrev main_v46 : Ref sig .tc := ⟨.hbm, 97, rfl⟩
abbrev main_v47 : Ref sig .tc := ⟨.hbm, 98, rfl⟩
abbrev main_c_5 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_call4_v5 : Ref sig .tc := ⟨.hbm, 105, rfl⟩
abbrev main_call4_v6 : Ref sig .tc := ⟨.hbm, 106, rfl⟩
abbrev main_call4_v7 : Ref sig .tc := ⟨.hbm, 107, rfl⟩
abbrev main_call4_v8 : Ref sig .tc := ⟨.hbm, 108, rfl⟩
abbrev main_call4_c : Ref sig .tc := ⟨.hbm, 109, rfl⟩
abbrev main_call4_v9 : Ref sig .tc := ⟨.hbm, 110, rfl⟩
abbrev main_call4_v10 : Ref sig .tc := ⟨.hbm, 111, rfl⟩
abbrev main_call4_v11 : Ref sig .tc := ⟨.hbm, 112, rfl⟩
abbrev main_call4_c_0 : Ref sig .tc := ⟨.hbm, 113, rfl⟩
abbrev main_call4_v12 : Ref sig .tc := ⟨.hbm, 114, rfl⟩
abbrev main_call4_v13 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_c_6 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_cst_7 : Ref sig .tc := ⟨.hbm, 130, rfl⟩
abbrev main_cst_8 : Ref sig .tc := ⟨.hbm, 131, rfl⟩
abbrev main_call5_v0 : Ref sig .tc := ⟨.hbm, 132, rfl⟩
abbrev main_call5_v1 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_cst_9 : Ref sig .tc := ⟨.hbm, 137, rfl⟩
abbrev main_v64 : Ref sig .tc := ⟨.hbm, 138, rfl⟩
abbrev main_call6_v0 : Ref sig .tc := ⟨.hbm, 139, rfl⟩
abbrev main_call6_c : Ref sig .tc := ⟨.hbm, 140, rfl⟩
abbrev main_call6_v1 : Ref sig .tc := ⟨.hbm, 141, rfl⟩
abbrev main_call6_v2 : Ref sig .tc := ⟨.hbm, 142, rfl⟩
abbrev main_call6_v3 : Ref sig .tc := ⟨.hbm, 143, rfl⟩
abbrev main_call6_v4 : Ref sig .tc := ⟨.hbm, 144, rfl⟩
abbrev main_call6_cst : Ref sig .tc := ⟨.hbm, 145, rfl⟩
abbrev main_call6_v5 : Ref sig .tc := ⟨.hbm, 146, rfl⟩
abbrev main_v65 : Ref sig .tc := ⟨.hbm, 147, rfl⟩
abbrev main_v66_0 : Ref sig .tc := ⟨.hbm, 148, rfl⟩
abbrev main_v66_1 : Ref sig .tc := ⟨.hbm, 149, rfl⟩
abbrev main_v66_2 : Ref sig .tc := ⟨.hbm, 150, rfl⟩
abbrev main_v66_3 : Ref sig .tc := ⟨.hbm, 151, rfl⟩
abbrev main_v66_4 : Ref sig .tc := ⟨.hbm, 152, rfl⟩
abbrev main_v66_5 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x16 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference4Ideal.lean ====
abbrev S8x2048x1024 : Shape := ⟨3, ![8, 2048, 1024]⟩
abbrev S1024 : Shape := ⟨1, ![1024]⟩
abbrev S1024x4112 : Shape := ⟨2, ![1024, 4112]⟩
abbrev S16 : Shape := ⟨1, ![16]⟩
abbrev S64 : Shape := ⟨1, ![64]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4112 : Shape := ⟨3, ![8, 2048, 4112]⟩
abbrev S8x2048x16 : Shape := ⟨3, ![8, 2048, 16]⟩
abbrev S8x2048x16x64 : Shape := ⟨4, ![8, 2048, 16, 64]⟩
abbrev S8x2048x16x1 : Shape := ⟨4, ![8, 2048, 16, 1]⟩
abbrev S1x1x1x64 : Shape := ⟨4, ![1, 1, 1, 64]⟩
abbrev S8x1024x2048 : Shape := ⟨3, ![8, 1024, 2048]⟩

abbrev nBuf : Space → Nat
  | .hbm => 87
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4112, .f32⟩
  | .hbm, ⟨3, _⟩ => ⟨S16, .f32⟩
  | .hbm, ⟨4, _⟩ => ⟨S64, .f32⟩
  | .hbm, ⟨5, _⟩ => ⟨S64, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x4112, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x16, .f32⟩
  | .hbm, ⟨28, _⟩ => ⟨S8x2048x16x64, .f32⟩
  | .hbm, ⟨29, _⟩ => ⟨S_, .f32⟩
  | .hbm, ⟨30, _⟩ => ⟨S64, .f32⟩
  | .hbm, ⟨31, _⟩ => ⟨S8x2048x16x64, .f32⟩
  | .hbm, ⟨32, _⟩ => ⟨S_, .f32⟩
  | .hbm, ⟨33, _⟩ => ⟨S8x2048x16, .f32⟩
  | .hbm, ⟨34, _⟩ => ⟨S8x2048x16x1, .f32⟩
  | .hbm, ⟨35, _⟩ => ⟨S_, .f32⟩
  | .hbm, ⟨36, _⟩ => ⟨S8x2048x16x1, .f32⟩
  | .hbm, ⟨37, _⟩ => ⟨S8x2048x16x1, .f32⟩
  | .hbm, ⟨38, _⟩ => ⟨S_, .f32⟩
  | .hbm, ⟨39, _⟩ => ⟨S8x2048x16x1, .f32⟩
  | .hbm, ⟨40, _⟩ => ⟨S8x2048x16x1, .f32⟩
  | .hbm, ⟨41, _⟩ => ⟨S8x2048x16x1, .f32⟩
  | .hbm, ⟨42, _⟩ => ⟨S8x2048x16x64, .f32⟩
  | .hbm, ⟨43, _⟩ => ⟨S8x2048x16x64, .f32⟩
  | .hbm, ⟨44, _⟩ => ⟨S1x1x1x64, .f32⟩
  | .hbm, ⟨45, _⟩ => ⟨S8x2048x16x64, .f32⟩
  | .hbm, ⟨46, _⟩ => ⟨S8x2048x16x64, .f32⟩
  | .hbm, ⟨47, _⟩ => ⟨S8x2048x16x64, .f32⟩
  | .hbm, ⟨48, _⟩ => ⟨S8x2048x16x64, .f32⟩
  | .hbm, ⟨49, _⟩ => ⟨S_, .f32⟩
  | .hbm, ⟨50, _⟩ => ⟨S8x2048x16, .f32⟩
  | .hbm, ⟨51, _⟩ => ⟨S8x2048x16x1, .f32⟩
  | .hbm, ⟨52, _⟩ => ⟨S_, .f32⟩
  | .hbm, ⟨53, _⟩ => ⟨S8x2048x16x1, .f32⟩
  | .hbm, ⟨54, _⟩ => ⟨S8x2048x16x1, .f32⟩
  | .hbm, ⟨55, _⟩ => ⟨S_, .f32⟩
  | .hbm, ⟨56, _⟩ => ⟨S8x2048x16x1, .f32⟩
  | .hbm, ⟨57, _⟩ => ⟨S8x2048x16x1, .f32⟩
  | .hbm, ⟨58, _⟩ => ⟨S8x2048x16x1, .f32⟩
  | .hbm, ⟨59, _⟩ => ⟨S8x2048x16x64, .f32⟩
  | .hbm, ⟨60, _⟩ => ⟨S8x2048x16x64, .f32⟩
  | .hbm, ⟨61, _⟩ => ⟨S1x1x1x64, .f32⟩
  | .hbm, ⟨62, _⟩ => ⟨S8x2048x16x64, .f32⟩
  | .hbm, ⟨63, _⟩ => ⟨S8x2048x16x64, .f32⟩
  | .hbm, ⟨64, _⟩ => ⟨S1x1x1x64, .f32⟩
  | .hbm, ⟨65, _⟩ => ⟨S8x2048x16x64, .f32⟩
  | .hbm, ⟨66, _⟩ => ⟨S8x2048x16x64, .f32⟩
  | .hbm, ⟨67, _⟩ => ⟨S_, .f32⟩
  | .hbm, ⟨68, _⟩ => ⟨S8x2048x16x64, .f32⟩
  | .hbm, ⟨69, _⟩ => ⟨S8x2048x16x64, .f32⟩
  | .hbm, ⟨70, _⟩ => ⟨S8x2048x1024, .f32⟩
  | .hbm, ⟨71, _⟩ => ⟨S8x1024x2048, .f32⟩
  | .hbm, ⟨72, _⟩ => ⟨S8x1024x2048, .bf16⟩
  | .hbm, ⟨73, _⟩ => ⟨S8x2048x1024, .f32⟩
  | .hbm, ⟨74, _⟩ => ⟨S8x2048x1024, .bf16⟩
  | .hbm, ⟨75, _⟩ => ⟨S8x1024x2048, .f32⟩
  | .hbm, ⟨76, _⟩ => ⟨S8x1024x2048, .bf16⟩
  | .hbm, ⟨77, _⟩ => ⟨S8x2048x1024, .f32⟩
  | .hbm, ⟨78, _⟩ => ⟨S8x2048x1024, .f32⟩
  | .hbm, ⟨79, _⟩ => ⟨S_, .f32⟩
  | .hbm, ⟨80, _⟩ => ⟨S8x2048x1024, .f32⟩
  | .hbm, ⟨81, _⟩ => ⟨S8x2048x1024, .f32⟩
  | .hbm, ⟨82, _⟩ => ⟨S_, .f32⟩
  | .hbm, ⟨83, _⟩ => ⟨S8x2048x1024, .f32⟩
  | .hbm, ⟨84, _⟩ => ⟨S8x2048x1024, .f32⟩
  | .hbm, ⟨85, _⟩ => ⟨S8x2048x1024, .f32⟩
  | .hbm, ⟨86, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== Proof.Base.lean ====
/- The setting of the gMLP layer kernel: the launch with copies of its own, the staging blocks, the grid condition. -/
module

public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main is its host operations, then the kernel's region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Window 0's staging buffer holds its block at every point, for proof data over the arrays at entry whose body leaves the block. -/
theorem before0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1's staging buffer holds its block at every point, for proof data over the arrays at entry whose body leaves the block. -/
theorem before1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2's staging buffer holds its block at every point, for proof data over the arrays at entry whose body leaves the block. -/
theorem before2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3's staging buffer holds its block at every point, for proof data over the arrays at entry whose body leaves the block. -/
theorem before3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4's staging buffer holds its block at every point, for proof data over the arrays at entry whose body leaves the block. -/
theorem before4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5's staging buffer holds its block at every point, for proof data over the arrays at entry whose body leaves the block. -/
theorem before5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6's staging buffer holds its block at every point, for proof data over the arrays at entry whose body leaves the block. -/
theorem before6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Window 7's staging buffer holds its block at every point, for proof data over the arrays at entry whose body leaves the block. -/
theorem before7 {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- A run that leaves every array as the proof data say leaves the arguments unchanged. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 5).trans (((dats 0 c).arrAt_in 5 rfl _).trans ((hA c 5).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-- The guard of the copying branch, from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The staging buffers at a grid point, each whole. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x8 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
/-- The scratch buffers. -/
abbrev scM0_0 : Memref sig .tc .vmem S512x2048 .bf16 := Memref.whole cc0_scratch0
/-- The buffer of the gated rows. -/
abbrev scM0_1 : Memref sig .tc .vmem S512x2048 .bf16 := Memref.whole cc0_scratch1
/-- The buffer of the halved weight. -/
abbrev scM0_2 : Memref sig .tc .vmem S1024x6144 .bf16 := Memref.whole cc0_scratch2
/-- The staging pair of the copies. -/
abbrev scM0_3 : Memref sig .tc .vmem S2x1024x1024 .f32 := Memref.whole cc0_scratch3
/-- The halved weight scratch as a view: it is carried from point to point. -/
abbrev VS0_2 : View sig .tc .vmem S1024x6144 .bf16 := scM0_2.view
/-- The input weight, left in HBM: the body copies it itself. -/
abbrev hbM0_0 : Memref sig .tc .hbm S1024x6144 .f32 := Memref.whole main_arg4
/-- A memref's buffer on a core, and the core owning it whole. -/
abbrev HbBuf0 (c : Dev nD) {sp : Space} {S : Shape} {e : EltTy} (M : Memref sig .tc sp S e) : Type := Buf (Elt F) (M.view.loc (c : Thread nD τ))
/-- The weight's buffer in HBM holds the named contents. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The two copy semaphores. -/
abbrev osem0 : Fin 2 → SemLoc sig := fun j => (![SemLoc.dma 12, SemLoc.dma 13] : Fin 2 → SemLoc sig) j
/-- The copies' counters are the kernel's own. -/
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0 ∗ semVal ((c : Thread nD τ), SemLoc.dma 13) 0) := by
  rw [Pipeline.ownSems0_eq_of_list c osem0 [0, 1] (by decide) (by decide)]; rfl
/-- The one array the body copies. -/
def H0 : Finset (Ref sig .tc) := {main_arg4}
/-- The buffer that the copies read is none of the windows'. -/
theorem H0_sub : H0 ⊆ Pipeline.restRefs sig spec0 := by decide
/-- It is held at its contents at entry. -/
theorem hbmPts0_eq (c : Dev nD) :
    (bigSep H0 (fun b => ((c : Thread nD τ).loc b) ↦{fullShare} V m c b) : sProp 𝕄) = iprop(hbPt0 c hbM0_0 (V m c main_arg4)) := by
  rw [BI.bigSep_eq_bigSepL_of_eq [main_arg4] (by decide) (by decide)]; rfl

/-- What the region hands the body beside the windows, listed. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 12) 0 ∗ semVal ((c : Thread nD τ), SemLoc.dma 13) 0) ∗ iprop(hbPt0 c hbM0_0 (V m c main_arg4))) := by
  rw [Pipeline.ΦD_eq, scopedRest0_eq, ownSems00_eq, hbmPts0_eq]; simp only [scM0_0, scM0_1, scM0_2, scM0_3, owns_whole]; try rfl

end Cert.KernelIdeal.Own

end
-- ==== Proof.Fill.lean ====
/- The first part of the body: the copies and halving of the input weight, and the block's normalised rows. -/
module

public import proofs.«01_k».proof.Proof.Base
public import proofs.«01_k».proof.Proof.Gen.KernelIdeal.Skeleton
public import Idealize.ShloMosaic.Lib.WritesUnit
public import Idealize.ShloMosaic.Lib.VecWindow
public import Idealize.ShloMosaic.Lib.Pipeline.Value

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The input weight halved and rounded: what the body keeps from the first point on. -/
def halfW (w : Vec F S1024x6144 .f32) : FVec F S1024x6144 .bf16 :=
  truncf .bf16 (mulf (broadcast S1024x6144 (Scalar.ofBits .f32 0x3F000000#32 : F .f32)) w) bitsLt_bf16_f32

/-- The part's slot of the copy buffer, as a matrix. -/
abbrev slotM (A : Memref sig .tc .vmem S2x1024x1024 .f32) (off : Fin S2x1024x1024.rank → ℕ) (inb : ∀ a, off a + S1x1024x1024.size a ≤ S2x1024x1024.size a)
    : Memref sig .tc .vmem S1024x1024 .f32 :=
  (A.slice (Rect.unit (s := S2x1024x1024) off S1x1024x1024.size inb) (fun _ => rfl)).squeeze S1024x1024 squeezes_S1x1024x1024_S1024x1024

/-- A slot read back after a copy into it holds the copy. -/
theorem slot_same (A : Memref sig .tc .vmem S2x1024x1024 .f32) (off : Fin S2x1024x1024.rank → ℕ) (inb) (f : A.view.ty.Contents (Elt F)) (w : S1024x1024.Idx → Elt F .f32) :
    shapeCast S1024x1024 (A.view.readAt (Elt F) (Rect.unit (s := S2x1024x1024) off S1x1024x1024.size inb).toLoadRect
      ((slotM A off inb).view.write (Elt F) f w Finset.univ)) shapeCasts_S1x1024x1024_S1024x1024 = w := by
  have e : (slotM A off inb).view.write (Elt F) f w Finset.univ
      = A.view.writes (Elt F) f [⟨Rect.unit (s := S2x1024x1024) off S1x1024x1024.size inb, fun x => w ((Shape.reshapeEquiv (by decide : S1024x1024.numel = S1x1024x1024.numel)).symm x)⟩] :=
    View.write_reshape_univ (A.view.slice (Rect.unit (s := S2x1024x1024) off S1x1024x1024.size inb)) (show S1024x1024.numel = S1x1024x1024.numel by decide) f w
  rw [e]
  funext y
  refine (View.read_writes_cons_emb A.view f _ _ [] _).trans ?_
  exact congrArg w (Equiv.symm_apply_apply (Shape.reshapeEquiv (by decide : S1024x1024.numel = S1x1024x1024.numel)) y)

/-- A slot read back after a copy into the other slot holds what it held. -/
theorem slot_other (A : Memref sig .tc .vmem S2x1024x1024 .f32) (off off' : Fin S2x1024x1024.rank → ℕ) (inb inb') (f : A.view.ty.Contents (Elt F)) (w : S1024x1024.Idx → Elt F .f32)
    (h : off 0 + 1 ≤ off' 0 ∨ off' 0 + 1 ≤ off 0) :
    A.view.readAt (Elt F) (Rect.unit (s := S2x1024x1024) off S1x1024x1024.size inb).toLoadRect
      ((slotM A off' inb').view.write (Elt F) f w Finset.univ)
     = A.view.readAt (Elt F) (Rect.unit (s := S2x1024x1024) off S1x1024x1024.size inb).toLoadRect f := by
  have e : (slotM A off' inb').view.write (Elt F) f w Finset.univ
      = A.view.writes (Elt F) f [⟨Rect.unit (s := S2x1024x1024) off' S1x1024x1024.size inb', fun x => w ((Shape.reshapeEquiv (by decide : S1024x1024.numel = S1x1024x1024.numel)).symm x)⟩] :=
    View.write_reshape_univ (A.view.slice (Rect.unit (s := S2x1024x1024) off' S1x1024x1024.size inb')) (show S1024x1024.numel = S1x1024x1024.numel by decide) f w
  rw [e]
  funext y
  refine View.read_writes_cons_unit_of_not_mem A.view f inb' _ [] _ rfl 0 ?_
  have hy : (y 0).val < 1 := (y 0).isLt
  show off 0 + 1 * (y 0).val < off' 0 ∨ off' 0 + 1 ≤ off 0 + 1 * (y 0).val
  omega

/-- A slot read back after a copy into it and then one into the other slot. -/
theorem slot_two (A : Memref sig .tc .vmem S2x1024x1024 .f32) (off off' : Fin S2x1024x1024.rank → ℕ) (inb inb') (f : A.view.ty.Contents (Elt F)) (w w' : S1024x1024.Idx → Elt F .f32)
    (h : off 0 + 1 ≤ off' 0 ∨ off' 0 + 1 ≤ off 0) :
    shapeCast S1024x1024 (A.view.readAt (Elt F) (Rect.unit (s := S2x1024x1024) off S1x1024x1024.size inb).toLoadRect
      ((slotM A off' inb').view.write (Elt F) ((slotM A off inb).view.write (Elt F) f w Finset.univ) w' Finset.univ)) shapeCasts_S1x1024x1024_S1024x1024 = w := by
  rw [slot_other A off off' inb inb' _ w' h]; exact slot_same A off inb f w

/-- An entailment onto a predicate at one of two equal results. -/
theorem ent_congr {α : Type} {P : sProp 𝕄} {Q : α → sProp 𝕄} {x y : α} (e : y = x) (h : P ⊢ Q y) : P ⊢ Q x := e ▸ h

/-- The chunk of the input weight copied from column `o` on. -/
def chunkW (w : Vec F S1024x6144 .f32) (off : Fin S1024x6144.rank → ℕ) (inb : ∀ a, off a + S1024x1024.size a ≤ S1024x6144.size a) : FVec F S1024x1024 .f32 :=
  fun x => w ((Rect.unit (s := S1024x6144) off S1024x1024.size inb).emb x)

/-- Halving and rounding a chunk gives the chunk of the halved, rounded weight. -/
theorem pay_chunk (w : Vec F S1024x6144 .f32) (off) (inb) (x : S1024x1024.Idx) (v : Vec F S1x1024x1024 .f32)
    (h : shapeCast S1024x1024 v shapeCasts_S1x1024x1024_S1024x1024 = chunkW w off inb) :
    k0_pay1 v x = halfW w ((Rect.unit (s := S1024x6144) off S1024x1024.size inb).emb x) := by
  simp only [k0_pay1, shapeCast_self]
  rw [h]; rfl

/-- What the first part hands on, from the block's rows, the weights and the halved weight kept. -/
abbrev firstOut (x0 : Vec F S512x1024 .f32) (x1 : Vec F S512x1024 .bf16) (x2 : Vec F S1024x1024 .bf16) (x3 : Vec F S1x1024 .f32) (wh : Vec F S1024x6144 .bf16) :
    (Σ' (v10 : FVec F S512x1024 .f32) (v25 : FVec F S512x1024 .bf16), FVec F S512x2048 .f32) :=
  ⟨k0_pay8 x0 x1 x2, k0_pay9 x0 x1 x2 x3, k0_pay10 x0 x1 x2 x3 (fun y => wh ((Rect.unit (s := S1024x6144) ![0, 2048] S1024x2048.size inb_S1024x6144_S1024x2048_0_2048).emb y))⟩

/-- The same from the values the loads return. -/
theorem firstOut_eq (x0 a0 : Vec F S512x1024 .f32) (x1 a1 : Vec F S512x1024 .bf16) (x2 a2 : Vec F S1024x1024 .bf16) (x3 a3 : Vec F S1x1024 .f32) (wh : Vec F S1024x6144 .bf16) (b : Vec F S1024x2048 .bf16)
    (h0 : a0 = x0) (h1 : a1 = x1) (h2 : a2 = x2) (h3 : a3 = x3) (hb : b = fun y => wh ((Rect.unit (s := S1024x6144) ![0, 2048] S1024x2048.size inb_S1024x6144_S1024x2048_0_2048).emb y)) :
    firstOut x0 x1 x2 x3 wh = ⟨k0_pay8 a0 a1 a2, k0_pay9 a0 a1 a2 a3, k0_pay10 a0 a1 a2 a3 b⟩ := by
  subst h0 h1 h2 h3 hb; rfl

/-- The six halved chunks, stored one beside the other, are the halved weight. -/
theorem halves (V : View sig .tc .vmem S1024x6144 .bf16) (f : V.ty.Contents (Elt F)) (w : Vec F S1024x6144 .f32) (w0 w1 w2 w3 w4 w5 : Vec F S1x1024x1024 .f32)
    (h0 : shapeCast S1024x1024 w0 shapeCasts_S1x1024x1024_S1024x1024 = chunkW w ![0, 0] inb_S1024x6144_S1024x1024_0_0) (h1 : shapeCast S1024x1024 w1 shapeCasts_S1x1024x1024_S1024x1024 = chunkW w ![0, 1024] inb_S1024x6144_S1024x1024_0_1024) (h2 : shapeCast S1024x1024 w2 shapeCasts_S1x1024x1024_S1024x1024 = chunkW w ![0, 2048] inb_S1024x6144_S1024x1024_0_2048) (h3 : shapeCast S1024x1024 w3 shapeCasts_S1x1024x1024_S1024x1024 = chunkW w ![0, 3072] inb_S1024x6144_S1024x1024_0_3072) (h4 : shapeCast S1024x1024 w4 shapeCasts_S1x1024x1024_S1024x1024 = chunkW w ![0, 4096] inb_S1024x6144_S1024x1024_0_4096) (h5 : shapeCast S1024x1024 w5 shapeCasts_S1x1024x1024_S1024x1024 = chunkW w ![0, 5120] inb_S1024x6144_S1024x1024_0_5120) :
    V.read (Elt F) (V.writes (Elt F) f [⟨Rect.unit (s := S1024x6144) ![0, 5120] S1024x1024.size inb_S1024x6144_S1024x1024_0_5120, k0_pay7 w5⟩,
      ⟨Rect.unit (s := S1024x6144) ![0, 4096] S1024x1024.size inb_S1024x6144_S1024x1024_0_4096, k0_pay6 w4⟩,
      ⟨Rect.unit (s := S1024x6144) ![0, 3072] S1024x1024.size inb_S1024x6144_S1024x1024_0_3072, k0_pay5 w3⟩,
      ⟨Rect.unit (s := S1024x6144) ![0, 2048] S1024x1024.size inb_S1024x6144_S1024x1024_0_2048, k0_pay4 (k0_pay3 w2) (Scalar.ofBits .f32 0x3F000000#32)⟩,
      ⟨Rect.unit (s := S1024x6144) ![0, 1024] S1024x1024.size inb_S1024x6144_S1024x1024_0_1024, k0_pay2 w1⟩,
      ⟨Rect.unit (s := S1024x6144) ![0, 0] S1024x1024.size inb_S1024x6144_S1024x1024_0_0, k0_pay1 w0⟩]) = halfW w := by
  funext y
  refine View.read_writes_apply_of_pieces V f (halfW w) _ ?_ y ?_
  rotate_left
  · exact View.cover_of_tiledL (s := S1024x6144) _ S1024x1024.size (by sl_kernel_rfl) y
  intro p hp x
  simp only [List.mem_cons, List.not_mem_nil, or_false] at hp
  rcases hp with rfl | rfl | rfl | rfl | rfl | rfl
  · exact pay_chunk w _ _ x w5 h5
  · exact pay_chunk w _ _ x w4 h4
  · exact pay_chunk w _ _ x w3 h3
  · exact pay_chunk w _ _ x w2 h2
  · exact pay_chunk w _ _ x w1 h1
  · exact pay_chunk w _ _ x w0 h0

set_option maxHeartbeats 1600000 in set_option sl_exec.dmaWindow true in set_option sl_exec.dmaWindowSet true in set_option sl_exec.squeezeSlice true in
/-- The first part of the body at a later point: the kept scratch is read. -/
theorem part4_B (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg6 : Memref sig .tc .vmem S1x2048 .f32) (harg6 : arg6.IsWhole) (arg7 : Memref sig .tc .vmem S8x128x128 .f32) (harg7 : arg7.IsWhole) (arg8 : Memref sig .tc .vmem S128x8 .f32) (harg8 : arg8.IsWhole) (arg9 : Memref sig .tc .vmem S2048x1024 .bf16) (harg9 : arg9.IsWhole) (arg10 : Memref sig .tc .vmem S512x1024 .f32) (harg10 : arg10.IsWhole) (arg11 : Memref sig .tc .vmem S512x2048 .bf16) (harg11 : arg11.IsWhole) (arg12 : Memref sig .tc .vmem S512x2048 .bf16) (harg12 : arg12.IsWhole) (arg13 : Memref sig .tc .vmem S1024x6144 .bf16) (harg13 : arg13.IsWhole) (arg14 : Memref sig .tc .vmem S2x1024x1024 .f32) (harg14 : arg14.IsWhole) (hc0 : ¬cond0_0 i)
    (x0 : Vec F S512x1024 .f32) (x1 : Vec F S512x1024 .bf16) (x2 : Vec F S1024x1024 .bf16) (x3 : Vec F S1x1024 .f32) (xs2 : Vec F S1024x6144 .bf16) (fh0 : HbBuf0 (F := F) c hbM0_0)
    (W : Waits sig Unit) (Q : (Σ' (v10 : FVec F S512x1024 .f32) (v25 : FVec F S512x1024 .bf16), FVec F S512x2048 .f32) → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg13 fullShare xs2 ∗ (∃ d, owns (c : Thread nD τ) arg14 fullShare d) ∗ semVal ((c : Thread nD τ), SemLoc.dma 12) 0 ∗ semVal ((c : Thread nD τ), SemLoc.dma 13) 0 ∗ hbPt0 c hbM0_0 fh0 ∗ owes (c : Thread nD τ) 0 W
         ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg13 fullShare (xs2) ∗ (∃ d, owns (c : Thread nD τ) arg14 fullShare d) ∗ semVal ((c : Thread nD τ), SemLoc.dma 12) 0 ∗ semVal ((c : Thread nD τ), SemLoc.dma 13) 0 ∗ hbPt0 c hbM0_0 fh0 ∗ (∃ W', owes (c : Thread nD τ) 0 W'))
            -∗ Q (firstOut x0 x1 x2 x3 (xs2))))
          ⊢ wp frame (wpE (defs₀ (F := F)) Variants.none c none) Set.univ (k0_part4 i arg1 harg1 arg2 harg2 arg3 harg3 arg4 harg4 (Memref.whole main_arg4) (Memref.isWhole_whole _) arg6 harg6 arg7 harg7 arg8 harg8 arg9 harg9 arg10 harg10 arg11 harg11 arg12 harg12 arg13 harg13 arg14 harg14 cc0_scratch4) Q := by
    simp only [k0_part4_eq_skeleton]; unfold k0_part4_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%fs2, %hfs2, HS2⟩, ⟨%ds3, %fs3, -, HS3⟩, Hq0, Hq1, Hh0, HW, Hk⟩
    obtain rfl := harg1.eq_unread hf0; obtain rfl := harg2.eq_unread hf1; obtain rfl := harg3.eq_unread hf2; obtain rfl := harg4.eq_unread hf3
    obtain rfl := harg13.eq_unread hfs2
    sl_exec (disch := first | sl_exact hc0)
    sl_step
    rw [← firstOut_eq x0 _ x1 _ x2 _ x3 _ xs2 _ ((View.readAt_full _ _ _).trans (harg1.read_unread _)) ((View.readAt_full _ _ _).trans (harg2.read_unread _))
      ((View.readAt_full _ _ _).trans (harg3.read_unread _)) ((View.readAt_full _ _ _).trans (harg4.read_unread _)) (by funext y; exact congrFun (harg13.read_unread xs2) _)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS2]
    · iexists _; isplitr; swap; · iexact HS2
      ipureintro; exact harg13.read_unread _
    isplitl [HS3]
    · iexists _, _; isplitr; swap; · iexact HS3
      ipureintro; rfl
    isplitl [Hq0]; · iexact Hq0
    isplitl [Hq1]; · iexact Hq1
    isplitl [Hh0]; · iexact Hh0
    iexists _; iexact HW

end Cert.KernelIdeal.Own

end
-- ==== Proof.Tile.lean ====
/- One chunk of one group of the gated rows, and the rows of a block put together from them. -/
module

public import proofs.«01_k».proof.Proof.Fill

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The chunk's rows of a group's columns fit. -/
theorem slices_row (r : Fin 4) : S512x256.Slices ![128 * r.val, 0] S128x256 := by
  fin_cases r <;> decide
/-- A group's columns of the first branch lie in the weight. -/
theorem inb_u (g : Fin 8) : ∀ a, (![0, 256 * g.val] : Fin 2 → ℕ) a + S1024x256.size a ≤ S1024x6144.size a := by fin_cases g <;> decide
/-- A group's columns of the gate lie in the weight. -/
theorem inb_g (g : Fin 8) : ∀ a, (![0, 4096 + 256 * g.val] : Fin 2 → ℕ) a + S1024x256.size a ≤ S1024x6144.size a := by fin_cases g <;> decide
/-- A group's mixing matrix lies in the stack. -/
theorem inb_s (g : Fin 8) : ∀ a, (![g.val, 0, 0] : Fin 3 → ℕ) a + S1x128x128.size a ≤ S8x128x128.size a := by fin_cases g <;> decide
/-- A group's bias is a column of the bias. -/
theorem inb_b (g : Fin 8) : ∀ a, (![0, g.val] : Fin 2 → ℕ) a + S128x1.size a ≤ S128x8.size a := by fin_cases g <;> decide
/-- A chunk's rows and a group's columns lie in the block. -/
theorem inb_y (r : Fin 4) (g : Fin 8) : ∀ a, (![128 * r.val, 256 * g.val] : Fin 2 → ℕ) a + S128x256.size a ≤ S512x2048.size a := by
  have h1 := r.isLt; have h2 := g.isLt
  intro a; fin_cases a
  · show 128 * r.val + 128 ≤ 512; omega
  · show 256 * g.val + 256 ≤ 2048; omega

/-- A chunk of a group: the first branch times the mixed values times the gate. -/
def tileOf (r : Fin 4) (v25 : FVec F S512x1024 .bf16) (wu wg : Vec F S1024x256 .bf16) (ws : Vec F S1x128x128 .f32) (b : Vec F S128x1 .f32) (vn : Vec F S128x256 .bf16) : FVec F S128x256 .bf16 :=
  shapeCast S128x256 (truncf .bf16 (mulf (mulf (extractStridedSlice S128x256 ![128 * r.val, 0] (k0_pay13 v25 wu) (slices_row r))
    (addf (matmul dot_S128x128_S128x256_S128x256_1_0_0_1_n_n none (k0_pay15 k0_pay12 ws) vn (constant S128x256 .f32 0x00000000#32)) (broadcastTo S128x256 (k0_pay16 b) broadcasts_S128x1_S128x256)))
    (extractStridedSlice S128x256 ![128 * r.val, 0] (k0_pay14 v25 wg) (slices_row r))) bitsLt_bf16_f32) shapeCasts_S128x256_S128x256

/-- The chunk `r` of the group `g`, from the arrays the body holds. -/
def tileG (v25 : FVec F S512x1024 .bf16) (wh : Vec F S1024x6144 .bf16) (x5 : Vec F S8x128x128 .f32) (x6 : Vec F S128x8 .f32) (vn : Vec F S512x2048 .bf16) (r : Fin 4) (g : Fin 8) : FVec F S128x256 .bf16 :=
  tileOf r v25 (fun j => wh ((Rect.unit (s := S1024x6144) ![0, 256 * g.val] S1024x256.size (inb_u g)).emb j))
    (fun j => wh ((Rect.unit (s := S1024x6144) ![0, 4096 + 256 * g.val] S1024x256.size (inb_g g)).emb j))
    (fun j => x5 ((Rect.unit (s := S8x128x128) ![g.val, 0, 0] S1x128x128.size (inb_s g)).emb j))
    (fun j => x6 ((Rect.unit (s := S128x8) ![0, g.val] S128x1.size (inb_b g)).emb j))
    (fun j => vn ((Rect.unit (s := S512x2048) ![128 * r.val, 256 * g.val] S128x256.size (inb_y r g)).emb j))

/-- The row chunk and the column group of an index, and its place within them. -/
def rowOf (y : S512x2048.Idx) : Fin 4 := ⟨(y 0).val / 128, by have : (y 0).val < 512 := (y 0).isLt; omega⟩
/-- The group of an index of the block. -/
def grpOf (y : S512x2048.Idx) : Fin 8 := ⟨(y 1).val / 256, by have : (y 1).val < 2048 := (y 1).isLt; omega⟩
/-- The place of an index in its tile. -/
def locOf (y : S512x2048.Idx) : S128x256.Idx := fun a => match a with
  | ⟨0, _⟩ => ⟨(y 0).val % 128, Nat.mod_lt _ (by decide)⟩
  | ⟨1, _⟩ => ⟨(y 1).val % 256, Nat.mod_lt _ (by decide)⟩

/-- The gated rows of a block. -/
def gated (v25 : FVec F S512x1024 .bf16) (wh : Vec F S1024x6144 .bf16) (x5 : Vec F S8x128x128 .f32) (x6 : Vec F S128x8 .f32) (vn : Vec F S512x2048 .bf16) : Vec F S512x2048 .bf16 :=
  fun y => tileG v25 wh x5 x6 vn (rowOf y) (grpOf y) (locOf y)

/-- The gated rows at a chunk's place are the chunk's. -/
theorem gated_emb (v25 : FVec F S512x1024 .bf16) (wh : Vec F S1024x6144 .bf16) (x5 : Vec F S8x128x128 .f32) (x6 : Vec F S128x8 .f32) (vn : Vec F S512x2048 .bf16) (r : Fin 4) (g : Fin 8) (x : S128x256.Idx) :
    gated v25 wh x5 x6 vn ((Rect.unit (s := S512x2048) ![128 * r.val, 256 * g.val] S128x256.size (inb_y r g)).emb x) = tileG v25 wh x5 x6 vn r g x := by
  have h0 : (x 0).val < 128 := (x 0).isLt
  have h1 : (x 1).val < 256 := (x 1).isLt
  have e0 : rowOf ((Rect.unit (s := S512x2048) ![128 * r.val, 256 * g.val] S128x256.size (inb_y r g)).emb x) = r :=
    Fin.ext (show (128 * r.val + 1 * (x 0).val) / 128 = r.val by omega)
  have e1 : grpOf ((Rect.unit (s := S512x2048) ![128 * r.val, 256 * g.val] S128x256.size (inb_y r g)).emb x) = g :=
    Fin.ext (show (256 * g.val + 1 * (x 1).val) / 256 = g.val by omega)
  have e2 : locOf ((Rect.unit (s := S512x2048) ![128 * r.val, 256 * g.val] S128x256.size (inb_y r g)).emb x) = x := by
    funext a; apply Fin.ext
    match a with
    | ⟨0, _⟩ => exact (show (128 * r.val + 1 * (x 0).val) % 128 = (x 0).val by omega)
    | ⟨1, _⟩ => exact (show (256 * g.val + 1 * (x 1).val) % 256 = (x 1).val by omega)
  unfold gated
  rw [e0, e1, e2]

/-- The second branch, activated and normalised. -/
abbrev normV (x0 : Vec F S512x1024 .f32) (x1 : Vec F S512x1024 .bf16) (x2 : Vec F S1024x1024 .bf16) (x3 : Vec F S1x1024 .f32) (x4 : Vec F S1x2048 .f32) (wh : Vec F S1024x6144 .bf16) : FVec F S512x2048 .bf16 :=
  k0_pay11 (k0_pay10 x0 x1 x2 x3 (fun y => wh ((Rect.unit (s := S1024x6144) ![0, 2048] S1024x2048.size inb_S1024x6144_S1024x2048_0_2048).emb y))) x4

/-- What the body leaves in the output block. -/
def blockOut (x0 : Vec F S512x1024 .f32) (x1 : Vec F S512x1024 .bf16) (x2 : Vec F S1024x1024 .bf16) (x3 : Vec F S1x1024 .f32) (x4 : Vec F S1x2048 .f32) (x5 : Vec F S8x128x128 .f32) (x6 : Vec F S128x8 .f32) (x7 : Vec F S2048x1024 .bf16) (wh : Vec F S1024x6144 .bf16) : FVec F S512x1024 .f32 :=
  k0_pay87 (k0_pay8 x0 x1 x2) (gated (k0_pay9 x0 x1 x2 x3) wh x5 x6 (normV x0 x1 x2 x3 x4 wh)) x7

/-- A chunk from the loads the body does, the normalised rows' given by an equation. -/
theorem tile_vn (r : Fin 4) (g : Fin 8) (v25 : FVec F S512x1024 .bf16) (wh : Vec F S1024x6144 .bf16) (x5 : Vec F S8x128x128 .f32) (x6 : Vec F S128x8 .f32) (vn : Vec F S512x2048 .bf16) (w : Vec F S128x256 .bf16)
    (h : w = fun j => vn ((Rect.unit (s := S512x2048) ![128 * r.val, 256 * g.val] S128x256.size (inb_y r g)).emb j)) :
    tileOf r v25 (fun j => wh ((Rect.unit (s := S1024x6144) ![0, 256 * g.val] S1024x256.size (inb_u g)).emb j))
    (fun j => wh ((Rect.unit (s := S1024x6144) ![0, 4096 + 256 * g.val] S1024x256.size (inb_g g)).emb j))
    (fun j => x5 ((Rect.unit (s := S8x128x128) ![g.val, 0, 0] S1x128x128.size (inb_s g)).emb j))
    (fun j => x6 ((Rect.unit (s := S128x8) ![0, g.val] S128x1.size (inb_b g)).emb j)) w = tileG v25 wh x5 x6 vn r g := by
  subst h; rfl

end Cert.KernelIdeal.Own

end
-- ==== Proof.Body.lean ====
/- The body of the gMLP layer kernel, run over one block of rows. -/
module

public import proofs.«01_k».proof.Proof.Tile
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body, its first part given, run over one block. -/
theorem body_run (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg6 : Memref sig .tc .vmem S1x2048 .f32) (harg6 : arg6.IsWhole) (arg7 : Memref sig .tc .vmem S8x128x128 .f32) (harg7 : arg7.IsWhole) (arg8 : Memref sig .tc .vmem S128x8 .f32) (harg8 : arg8.IsWhole) (arg9 : Memref sig .tc .vmem S2048x1024 .bf16) (harg9 : arg9.IsWhole) (arg10 : Memref sig .tc .vmem S512x1024 .f32) (harg10 : arg10.IsWhole) (arg11 : Memref sig .tc .vmem S512x2048 .bf16) (harg11 : arg11.IsWhole) (arg12 : Memref sig .tc .vmem S512x2048 .bf16) (harg12 : arg12.IsWhole) (arg13 : Memref sig .tc .vmem S1024x6144 .bf16) (harg13 : arg13.IsWhole) (arg14 : Memref sig .tc .vmem S2x1024x1024 .f32) (harg14 : arg14.IsWhole)
    (x0 : Vec F S512x1024 .f32) (x1 : Vec F S512x1024 .bf16) (x2 : Vec F S1024x1024 .bf16) (x3 : Vec F S1x1024 .f32) (x4 : Vec F S1x2048 .f32) (x5 : Vec F S8x128x128 .f32) (x6 : Vec F S128x8 .f32) (x7 : Vec F S2048x1024 .bf16) (wh : Vec F S1024x6144 .bf16) (fh0 : HbBuf0 (F := F) c hbM0_0) (R : sProp 𝕄)
    (h4 : ∀ Q : (Σ' (v10 : FVec F S512x1024 .f32) (v25 : FVec F S512x1024 .bf16), FVec F S512x2048 .f32) → sProp 𝕄,
        iprop(R ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg13 fullShare wh ∗ (∃ d, owns (c : Thread nD τ) arg14 fullShare d) ∗ semVal ((c : Thread nD τ), SemLoc.dma 12) 0 ∗ semVal ((c : Thread nD τ), SemLoc.dma 13) 0 ∗ hbPt0 c hbM0_0 fh0 ∗ (∃ W', owes (c : Thread nD τ) 0 W')) -∗ Q (firstOut x0 x1 x2 x3 wh))) ⊢ wp frame (wpE (defs₀ (F := F)) Variants.none c none) Set.univ (k0_part4 i arg1 harg1 arg2 harg2 arg3 harg3 arg4 harg4 (Memref.whole main_arg4) (Memref.isWhole_whole _) arg6 harg6 arg7 harg7 arg8 harg8 arg9 harg9 arg10 harg10 arg11 harg11 arg12 harg12 arg13 harg13 arg14 harg14 cc0_scratch4) Q)
    (K : PUnit → sProp 𝕄) :
        iprop(R ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg13 fullShare wh ∗ (∃ d, owns (c : Thread nD τ) arg14 fullShare d) ∗ semVal ((c : Thread nD τ), SemLoc.dma 12) 0 ∗ semVal ((c : Thread nD τ), SemLoc.dma 13) 0 ∗ hbPt0 c hbM0_0 fh0 ∗ (∃ W', owes (c : Thread nD τ) 0 W') ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (blockOut x0 x1 x2 x3 x4 x5 x6 x7 wh) ∗ (∃ d, owns (c : Thread nD τ) arg11 fullShare d) ∗ (∃ d, owns (c : Thread nD τ) arg12 fullShare d)) -∗ K ⟨⟩))
          ⊢ wp frame (wpE (defs₀ (F := F)) Variants.none c none) Set.univ (cc0_gmlp_layer i arg1 harg1 arg2 harg2 arg3 harg3 arg4 harg4 (Memref.whole main_arg4) (Memref.isWhole_whole _) arg6 harg6 arg7 harg7 arg8 harg8 arg9 harg9 arg10 harg10 arg11 harg11 arg12 harg12 arg13 harg13 arg14 harg14 cc0_scratch4) K := by
    simp only [cc0_gmlp_layer_eq_skeleton]; unfold cc0_gmlp_layer_skel
    simp only [k0_part20_eq_skeleton]; unfold k0_part20_skel
    rw [wp_bind, wp_bind]
    refine BI.BIBase.Entails.trans ?_ (h4 _)
    rw [← wp_bind]
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    iintro ⟨HR, H4, H5, H6, H7, H8, HS0, HS1, Hk⟩
    isplitl [HR]
    · iexact HR
    unfold owns
    iintro ⟨⟨%f0, %hf0, H0⟩, ⟨%f1, %hf1, H1⟩, ⟨%f2, %hf2, H2⟩, ⟨%f3, %hf3, H3⟩, ⟨%fs2, %hfs2, HS2⟩, ⟨%ds3, %fs3, -, HS3⟩, Hq0, Hq1, Hh0, ⟨%W', HW⟩⟩
    icases H4 with ⟨%f4, %hf4, H4⟩
    icases H5 with ⟨%f5, %hf5, H5⟩
    icases H6 with ⟨%f6, %hf6, H6⟩
    icases H7 with ⟨%f7, %hf7, H7⟩
    icases H8 with ⟨%d8, %f8, -, H8⟩
    icases HS0 with ⟨%ds0, %fs0, -, HS0⟩
    icases HS1 with ⟨%ds1, %fs1, -, HS1⟩
    subst hf0 hf1 hf2 hf3 hf4 hf5 hf6 hf7 hfs2
    sl_exec
    sl_step
    have hN : ∀ (r : Fin 4) (g : Fin 8), arg11.view.readCov (Val := Elt F) (body_run.sl.HS0_1 c arg1 arg2 arg3 arg4 arg6 arg13 f0 f1 f2 f3 fs2 f4) (Rect.unit (s := S512x2048) ![128 * r.val, 256 * g.val] S128x256.size (inb_y r g)).toLoadRect
        = fun j => (normV (View.read (Elt F) arg1.view f0) (View.read (Elt F) arg2.view f1) (View.read (Elt F) arg3.view f2) (View.read (Elt F) arg4.view f3) (View.read (Elt F) arg6.view f4) (View.read (Elt F) arg13.view fs2)) ((Rect.unit (s := S512x2048) ![128 * r.val, 256 * g.val] S128x256.size (inb_y r g)).emb j) := fun r g => by
      unfold body_run.sl.HS0_1
      funext j
      refine (congrFun (View.read_writes_full arg11.view _ inb_S512x2048_S512x2048_0_0 _ []) _).trans ?_
      refine congrFun (congrArg (k0_pay11 _) ?_) _
      exact View.readAt_full arg6.view f4 _
    have hY : (body_run.sl.v643 c arg1 arg2 arg3 arg4 arg6 arg7 arg8 arg11 arg12 arg13 f0 f1 f2 f3 fs2 f4 f5 f6) = gated (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) := by
      unfold body_run.sl.v643
      refine (View.readAt_full _ _ _).trans ?_
      funext y
      refine View.read_writes_apply_of_pieces arg12.view _ (gated (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2))) _ ?_ y ?_
      rotate_left
      · exact View.cover_of_tiledL (s := S512x2048) _ S128x256.size (by sl_kernel_rfl) y
      intro p hp x
      unfold body_run.sl.HS1_32 at hp
      simp only [List.mem_cons, List.not_mem_nil, or_false] at hp
      rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
      · exact (congrFun (tile_vn 3 7 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 3 7)) x).trans (gated_emb _ _ _ _ _ 3 7 x).symm
      · exact (congrFun (tile_vn 2 7 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 2 7)) x).trans (gated_emb _ _ _ _ _ 2 7 x).symm
      · exact (congrFun (tile_vn 1 7 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 1 7)) x).trans (gated_emb _ _ _ _ _ 1 7 x).symm
      · exact (congrFun (tile_vn 0 7 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 0 7)) x).trans (gated_emb _ _ _ _ _ 0 7 x).symm
      · exact (congrFun (tile_vn 3 6 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 3 6)) x).trans (gated_emb _ _ _ _ _ 3 6 x).symm
      · exact (congrFun (tile_vn 2 6 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 2 6)) x).trans (gated_emb _ _ _ _ _ 2 6 x).symm
      · exact (congrFun (tile_vn 1 6 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 1 6)) x).trans (gated_emb _ _ _ _ _ 1 6 x).symm
      · exact (congrFun (tile_vn 0 6 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 0 6)) x).trans (gated_emb _ _ _ _ _ 0 6 x).symm
      · exact (congrFun (tile_vn 3 5 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 3 5)) x).trans (gated_emb _ _ _ _ _ 3 5 x).symm
      · exact (congrFun (tile_vn 2 5 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 2 5)) x).trans (gated_emb _ _ _ _ _ 2 5 x).symm
      · exact (congrFun (tile_vn 1 5 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 1 5)) x).trans (gated_emb _ _ _ _ _ 1 5 x).symm
      · exact (congrFun (tile_vn 0 5 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 0 5)) x).trans (gated_emb _ _ _ _ _ 0 5 x).symm
      · exact (congrFun (tile_vn 3 4 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 3 4)) x).trans (gated_emb _ _ _ _ _ 3 4 x).symm
      · exact (congrFun (tile_vn 2 4 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 2 4)) x).trans (gated_emb _ _ _ _ _ 2 4 x).symm
      · exact (congrFun (tile_vn 1 4 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 1 4)) x).trans (gated_emb _ _ _ _ _ 1 4 x).symm
      · exact (congrFun (tile_vn 0 4 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 0 4)) x).trans (gated_emb _ _ _ _ _ 0 4 x).symm
      · exact (congrFun (tile_vn 3 3 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 3 3)) x).trans (gated_emb _ _ _ _ _ 3 3 x).symm
      · exact (congrFun (tile_vn 2 3 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 2 3)) x).trans (gated_emb _ _ _ _ _ 2 3 x).symm
      · exact (congrFun (tile_vn 1 3 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 1 3)) x).trans (gated_emb _ _ _ _ _ 1 3 x).symm
      · exact (congrFun (tile_vn 0 3 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 0 3)) x).trans (gated_emb _ _ _ _ _ 0 3 x).symm
      · exact (congrFun (tile_vn 3 2 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 3 2)) x).trans (gated_emb _ _ _ _ _ 3 2 x).symm
      · exact (congrFun (tile_vn 2 2 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 2 2)) x).trans (gated_emb _ _ _ _ _ 2 2 x).symm
      · exact (congrFun (tile_vn 1 2 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 1 2)) x).trans (gated_emb _ _ _ _ _ 1 2 x).symm
      · exact (congrFun (tile_vn 0 2 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 0 2)) x).trans (gated_emb _ _ _ _ _ 0 2 x).symm
      · exact (congrFun (tile_vn 3 1 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 3 1)) x).trans (gated_emb _ _ _ _ _ 3 1 x).symm
      · exact (congrFun (tile_vn 2 1 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 2 1)) x).trans (gated_emb _ _ _ _ _ 2 1 x).symm
      · exact (congrFun (tile_vn 1 1 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 1 1)) x).trans (gated_emb _ _ _ _ _ 1 1 x).symm
      · exact (congrFun (tile_vn 0 1 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 0 1)) x).trans (gated_emb _ _ _ _ _ 0 1 x).symm
      · exact (congrFun (tile_vn 3 0 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 3 0)) x).trans (gated_emb _ _ _ _ _ 3 0 x).symm
      · exact (congrFun (tile_vn 2 0 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 2 0)) x).trans (gated_emb _ _ _ _ _ 2 0 x).symm
      · exact (congrFun (tile_vn 1 0 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 1 0)) x).trans (gated_emb _ _ _ _ _ 1 0 x).symm
      · exact (congrFun (tile_vn 0 0 (k0_pay9 (View.read (Elt F) arg1.view f0) (View.read (Elt F) arg2.view f1) (View.read (Elt F) arg3.view f2) (View.read (Elt F) arg4.view f3)) (View.read (Elt F) arg13.view fs2) (View.read (Elt F) arg7.view f5) (View.read (Elt F) arg8.view f6) (normV (View.read (Elt F) arg1.view f0) (View.read (Elt F) arg2.view f1) (View.read (Elt F) arg3.view f2) (View.read (Elt F) arg4.view f3) (View.read (Elt F) arg6.view f4) (View.read (Elt F) arg13.view fs2)) _ (hN 0 0)) x).trans (gated_emb _ _ _ _ _ 0 0 x).symm
    have hO : ∀ f, arg10.view.read (Elt F) (arg10.view.writes (Elt F) f
        [⟨Rect.unit (s := S512x1024) ![0, 0] S512x1024.size inb_S512x1024_S512x1024_0_0, k0_pay87 (k0_pay8 (View.read (Elt F) arg1.view f0) (View.read (Elt F) arg2.view f1) (View.read (Elt F) arg3.view f2)) (body_run.sl.v643 c arg1 arg2 arg3 arg4 arg6 arg7 arg8 arg11 arg12 arg13 f0 f1 f2 f3 fs2 f4 f5 f6) (View.readAt (Elt F) arg9.view (Rect.unit (s := S2048x1024) ![0, 0] S2048x1024.size inb_S2048x1024_S2048x1024_0_0).toLoadRect f7)⟩])
        = blockOut (View.read (Elt F) arg1.view f0) (View.read (Elt F) arg2.view f1) (View.read (Elt F) arg3.view f2) (View.read (Elt F) arg4.view f3) (View.read (Elt F) arg6.view f4) (View.read (Elt F) arg7.view f5) (View.read (Elt F) arg8.view f6) (View.read (Elt F) arg9.view f7) (View.read (Elt F) arg13.view fs2) := fun f => by
      refine (View.read_writes_full arg10.view f inb_S512x1024_S512x1024_0_0 _ []).trans ?_
      rw [hY, View.readAt_full]; rfl
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [HS2]
    · iexists _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hh0]; · iexact Hh0
    isplitl [HW]; · iexists _; iexact HW
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; exact hO _
    isplitl [HS0]
    · iexists _, _; isplitr; swap; · iexact HS0
      ipureintro; rfl
    iexists _, _; isplitr; swap; · iexact HS1
    ipureintro; rfl

end Cert.KernelIdeal.Own

end
-- ==== Proof.FillA.lean ====
/- The first part of the body at the first grid point. -/
module

public import proofs.«01_k».proof.Proof.Fill

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 500000 in set_option sl_exec.dmaWindow true in set_option sl_exec.dmaWindowSet true in set_option sl_exec.squeezeSlice true in
/-- The first part of the body at the first point: it copies the input weight chunk by chunk, halves and rounds it into the kept scratch. -/
theorem part4_A (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg6 : Memref sig .tc .vmem S1x2048 .f32) (harg6 : arg6.IsWhole) (arg7 : Memref sig .tc .vmem S8x128x128 .f32) (harg7 : arg7.IsWhole) (arg8 : Memref sig .tc .vmem S128x8 .f32) (harg8 : arg8.IsWhole) (arg9 : Memref sig .tc .vmem S2048x1024 .bf16) (harg9 : arg9.IsWhole) (arg10 : Memref sig .tc .vmem S512x1024 .f32) (harg10 : arg10.IsWhole) (arg11 : Memref sig .tc .vmem S512x2048 .bf16) (harg11 : arg11.IsWhole) (arg12 : Memref sig .tc .vmem S512x2048 .bf16) (harg12 : arg12.IsWhole) (arg13 : Memref sig .tc .vmem S1024x6144 .bf16) (harg13 : arg13.IsWhole) (arg14 : Memref sig .tc .vmem S2x1024x1024 .f32) (harg14 : arg14.IsWhole) (hc0 : cond0_0 i)
    (x0 : Vec F S512x1024 .f32) (x1 : Vec F S512x1024 .bf16) (x2 : Vec F S1024x1024 .bf16) (x3 : Vec F S1x1024 .f32) (fh0 : HbBuf0 (F := F) c hbM0_0)
    (W : Waits sig Unit) (Q : (Σ' (v10 : FVec F S512x1024 .f32) (v25 : FVec F S512x1024 .bf16), FVec F S512x2048 .f32) → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg13 fullShare d) ∗ (∃ d, owns (c : Thread nD τ) arg14 fullShare d) ∗ semVal ((c : Thread nD τ), SemLoc.dma 12) 0 ∗ semVal ((c : Thread nD τ), SemLoc.dma 13) 0 ∗ hbPt0 c hbM0_0 fh0 ∗ owes (c : Thread nD τ) 0 W
         ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg13 fullShare (halfW (View.read (Elt F) hbM0_0.view fh0)) ∗ (∃ d, owns (c : Thread nD τ) arg14 fullShare d) ∗ semVal ((c : Thread nD τ), SemLoc.dma 12) 0 ∗ semVal ((c : Thread nD τ), SemLoc.dma 13) 0 ∗ hbPt0 c hbM0_0 fh0 ∗ (∃ W', owes (c : Thread nD τ) 0 W'))
            -∗ Q (firstOut x0 x1 x2 x3 (halfW (View.read (Elt F) hbM0_0.view fh0)))))
          ⊢ wp frame (wpE (defs₀ (F := F)) Variants.none c none) Set.univ (k0_part4 i arg1 harg1 arg2 harg2 arg3 harg3 arg4 harg4 (Memref.whole main_arg4) (Memref.isWhole_whole _) arg6 harg6 arg7 harg7 arg8 harg8 arg9 harg9 arg10 harg10 arg11 harg11 arg12 harg12 arg13 harg13 arg14 harg14 cc0_scratch4) Q := by
    simp only [k0_part4_eq_skeleton]; unfold k0_part4_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%ds2, %fs2, -, HS2⟩, ⟨%ds3, %fs3, -, HS3⟩, Hq0, Hq1, Hh0, HW, Hk⟩
    obtain rfl := harg1.eq_unread hf0; obtain rfl := harg2.eq_unread hf1; obtain rfl := harg3.eq_unread hf2; obtain rfl := harg4.eq_unread hf3
    sl_exec (disch := first | sl_exact hc0)
    sl_step
    have h0 : shapeCast S1024x1024 (part4_A.sl.v664 c arg14 fh0 fs3) shapeCasts_S1x1024x1024_S1024x1024 = chunkW (View.read (Elt F) hbM0_0.view fh0) ![0, 0] inb_S1024x6144_S1024x1024_0_0 := by
      unfold part4_A.sl.v664; exact slot_two arg14 _ _ _ _ _ _ _ (by decide)
    have h1 : shapeCast S1024x1024 (part4_A.sl.v682 c arg14 fh0 fs3) shapeCasts_S1x1024x1024_S1024x1024 = chunkW (View.read (Elt F) hbM0_0.view fh0) ![0, 1024] inb_S1024x6144_S1024x1024_0_1024 := by
      unfold part4_A.sl.v682; exact slot_two arg14 _ _ _ _ _ _ _ (by decide)
    have h2 : shapeCast S1024x1024 (part4_A.sl.v700 c arg14 fh0 fs3) shapeCasts_S1x1024x1024_S1024x1024 = chunkW (View.read (Elt F) hbM0_0.view fh0) ![0, 2048] inb_S1024x6144_S1024x1024_0_2048 := by
      unfold part4_A.sl.v700; exact slot_two arg14 _ _ _ _ _ _ _ (by decide)
    have h3 : shapeCast S1024x1024 (part4_A.sl.v718 c arg14 fh0 fs3) shapeCasts_S1x1024x1024_S1024x1024 = chunkW (View.read (Elt F) hbM0_0.view fh0) ![0, 3072] inb_S1024x6144_S1024x1024_0_3072 := by
      unfold part4_A.sl.v718; exact slot_two arg14 _ _ _ _ _ _ _ (by decide)
    have h4 : shapeCast S1024x1024 (part4_A.sl.v736 c arg14 fh0 fs3) shapeCasts_S1x1024x1024_S1024x1024 = chunkW (View.read (Elt F) hbM0_0.view fh0) ![0, 4096] inb_S1024x6144_S1024x1024_0_4096 := by
      unfold part4_A.sl.v736; exact slot_two arg14 _ _ _ _ _ _ _ (by decide)
    have h5 : shapeCast S1024x1024 (part4_A.sl.v749 c arg14 fh0 fs3) shapeCasts_S1x1024x1024_S1024x1024 = chunkW (View.read (Elt F) hbM0_0.view fh0) ![0, 5120] inb_S1024x6144_S1024x1024_0_5120 := by
      unfold part4_A.sl.v749; exact slot_same arg14 _ _ _ _
    have hv : ∀ f, arg13.view.read (Elt F) (arg13.view.writes (Elt F) f (part4_A.sl.HS2_6 c arg14 fh0 fs3)) = halfW (View.read (Elt F) hbM0_0.view fh0) := fun f => by
      unfold part4_A.sl.HS2_6
      exact halves arg13.view f (View.read (Elt F) hbM0_0.view fh0) _ _ _ _ _ _ h0 h1 h2 h3 h4 h5
    have hb : part4_A.sl.v26 c arg13 arg14 fh0 fs3 = fun y => halfW (View.read (Elt F) hbM0_0.view fh0) ((Rect.unit (s := S1024x6144) ![0, 2048] S1024x2048.size inb_S1024x6144_S1024x2048_0_2048).emb y) := by
      unfold part4_A.sl.v26; funext y; exact congrFun (hv _) _
    rw [← firstOut_eq x0 _ x1 _ x2 _ x3 _ (halfW (View.read (Elt F) hbM0_0.view fh0)) _ ((View.readAt_full _ _ _).trans (harg1.read_unread _)) ((View.readAt_full _ _ _).trans (harg2.read_unread _))
      ((View.readAt_full _ _ _).trans (harg3.read_unread _)) ((View.readAt_full _ _ _).trans (harg4.read_unread _)) hb]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS2]
    · iexists _; isplitr; swap; · iexact HS2
      ipureintro; exact hv _
    isplitl [HS3]
    · iexists _, _; isplitr; swap; · iexact HS3
      ipureintro; rfl
    isplitl [Hq0]; · iexact Hq0
    isplitl [Hq1]; · iexact Hq1
    isplitl [Hh0]; · iexact Hh0
    iexists _; iexact HW

end Cert.KernelIdeal.Own

end
-- ==== Proof.Run.lean ====
/- The launch of the gMLP layer kernel: the invariant between grid points, the proof data, the run and the frame. -/
module

public import proofs.«01_k».proof.Proof.Body
public import proofs.«01_k».proof.Proof.FillA

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- Half of the input weight in the narrow format: what the first grid point leaves in the kernel's weight buffer. -/
def halfAll (c : Dev nD) : Vec F S1024x6144 .bf16 := halfW (View.read (Elt F) hbM0_0.view (V m c main_arg4))

/-- The invariant before position `n`: at first what the launch hands over, afterwards the same with the weight buffer at half of the input weight. -/
def PhiS (c : Dev nD) : (n : ℕ) → n ≤ cfg0.N → sProp 𝕄
  | 0, _ => Pipeline.ΦD osem0 spec0 H0 (V m) c
  | _ + 1, _ => iprop(iprop((∃ d, owns (c : Thread nD τ) scM0_0 fullShare d) ∗ (∃ d, owns (c : Thread nD τ) scM0_1 fullShare d) ∗ owns (c : Thread nD τ) scM0_2 fullShare (halfAll m c) ∗ (∃ d, owns (c : Thread nD τ) scM0_3 fullShare d)) ∗ (∃ r, prngReg c r) ∗ iprop(semVal ((c : Thread nD τ), SemLoc.dma 12) 0 ∗ semVal ((c : Thread nD τ), SemLoc.dma 13) 0) ∗ iprop(hbPt0 c hbM0_0 (V m c main_arg4)))

/-- Before the first point the invariant is what the launch hands over. -/
theorem PhiS_zero (c : Dev nD) (n : ℕ) (h : n ≤ cfg0.N) (hz : n = 0) : PhiS m c n h = Pipeline.ΦD osem0 spec0 H0 (V m) c := by
  subst hz; rfl

/-- Before any later point the weight buffer holds half of the input weight. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare (halfAll m c) ∗ (∃ d, owns (c : Thread nD τ) scM0_3 fullShare d)) ∗ (∃ r, prngReg c r) ∗ iprop(semVal ((c : Thread nD τ), SemLoc.dma 12) 0 ∗ semVal ((c : Thread nD τ), SemLoc.dma 13) 0) ∗ iprop(hbPt0 c hbM0_0 (V m c main_arg4))) := by
  cases n with
  | zero => exact absurd rfl hz
  | succ n => rfl

/-- What the body leaves in the result's staging buffer at point `t`: the layer's rows of that block. -/
def blkOut (c : Dev nD) (t : Fin cfg0.N) : Vec F S512x1024 .f32 :=
  blockOut (iblk m c 0 t) (iblk m c 1 t) (iblk m c 2 t) (iblk m c 3 t) (iblk m c 4 t) (iblk m c 5 t) (iblk m c 6 t) (iblk m c 7 t) (halfAll m c)

/-- The proof data: the arrays at entry, each input's buffer at its block, the result's at the layer's rows, the invariant above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blkOut m c t
  Φ t := PhiS m c t.val (Nat.le_of_lt_succ t.isLt)
  q _ := fullShare
  owed _ := 0

/-- The arrays of the proof data are those at entry. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in window 0. -/
theorem after_0 (c : Dev nD) (t : Fin cfg0.N) : (dats m 0 c).after 0 t = iblk m c 0 t := by dsimp only [dats]
/-- What the body leaves in window 1. -/
theorem after_1 (c : Dev nD) (t : Fin cfg0.N) : (dats m 0 c).after 1 t = iblk m c 1 t := by dsimp only [dats]
/-- What the body leaves in window 2. -/
theorem after_2 (c : Dev nD) (t : Fin cfg0.N) : (dats m 0 c).after 2 t = iblk m c 2 t := by dsimp only [dats]
/-- What the body leaves in window 3. -/
theorem after_3 (c : Dev nD) (t : Fin cfg0.N) : (dats m 0 c).after 3 t = iblk m c 3 t := by dsimp only [dats]
/-- What the body leaves in window 4. -/
theorem after_4 (c : Dev nD) (t : Fin cfg0.N) : (dats m 0 c).after 4 t = iblk m c 4 t := by dsimp only [dats]
/-- What the body leaves in window 5. -/
theorem after_5 (c : Dev nD) (t : Fin cfg0.N) : (dats m 0 c).after 5 t = iblk m c 5 t := by dsimp only [dats]
/-- What the body leaves in window 6. -/
theorem after_6 (c : Dev nD) (t : Fin cfg0.N) : (dats m 0 c).after 6 t = iblk m c 6 t := by dsimp only [dats]
/-- What the body leaves in window 7. -/
theorem after_7 (c : Dev nD) (t : Fin cfg0.N) : (dats m 0 c).after 7 t = iblk m c 7 t := by dsimp only [dats]
/-- What the body leaves in window 8. -/
theorem after_8 (c : Dev nD) (t : Fin cfg0.N) : (dats m 0 c).after 8 t = blkOut m c t := by dsimp only [dats]
/-- Window 0 holds its block before the body. -/
theorem before_0 (c : Dev nD) (t : Fin cfg0.N) (d) : (dats m 0 c).before 0 t d = iblk m c 0 t :=
  before0 m (dats m 0 c) (A_eq m c 0) (after_0 m c) t d
/-- Window 1 holds its block before the body. -/
theorem before_1 (c : Dev nD) (t : Fin cfg0.N) (d) : (dats m 0 c).before 1 t d = iblk m c 1 t :=
  before1 m (dats m 0 c) (A_eq m c 1) (after_1 m c) t d
/-- Window 2 holds its block before the body. -/
theorem before_2 (c : Dev nD) (t : Fin cfg0.N) (d) : (dats m 0 c).before 2 t d = iblk m c 2 t :=
  before2 m (dats m 0 c) (A_eq m c 2) (after_2 m c) t d
/-- Window 3 holds its block before the body. -/
theorem before_3 (c : Dev nD) (t : Fin cfg0.N) (d) : (dats m 0 c).before 3 t d = iblk m c 3 t :=
  before3 m (dats m 0 c) (A_eq m c 3) (after_3 m c) t d
/-- Window 4 holds its block before the body. -/
theorem before_4 (c : Dev nD) (t : Fin cfg0.N) (d) : (dats m 0 c).before 4 t d = iblk m c 4 t :=
  before4 m (dats m 0 c) (A_eq m c 4) (after_4 m c) t d
/-- Window 5 holds its block before the body. -/
theorem before_5 (c : Dev nD) (t : Fin cfg0.N) (d) : (dats m 0 c).before 5 t d = iblk m c 5 t :=
  before5 m (dats m 0 c) (A_eq m c 5) (after_5 m c) t d
/-- Window 6 holds its block before the body. -/
theorem before_6 (c : Dev nD) (t : Fin cfg0.N) (d) : (dats m 0 c).before 6 t d = iblk m c 6 t :=
  before6 m (dats m 0 c) (A_eq m c 6) (after_6 m c) t d
/-- Window 7 holds its block before the body. -/
theorem before_7 (c : Dev nD) (t : Fin cfg0.N) (d) : (dats m 0 c).before 7 t d = iblk m c 7 t :=
  before7 m (dats m 0 c) (A_eq m c 7) (after_7 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = PhiS m c (t.val + 1) t.isLt from rfl, PhiS_pos m c (t.val + 1) _ (Nat.succ_ne_zero _),
    after_0, after_1, after_2, after_3, after_4, after_5, after_6, after_7, after_8]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  unfold blkOut
  by_cases h0 : t.val % 32 = 0
  · by_cases hz : t.val = 0
    · rw [PhiS_castSucc m c t, PhiS_zero m c _ _ hz, PhiD0_eq]
      iintro ⟨⟨⟨HS0, HS1, HS2, HS3⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _)
        (iblk m c 0 t) (iblk m c 1 t) (iblk m c 2 t) (iblk m c 3 t) (iblk m c 4 t) (iblk m c 5 t) (iblk m c 6 t) (iblk m c 7 t) (halfAll m c) (V m c main_arg4)
        iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ iprop(∃ d, owns (c : Thread nD τ) scM0_2 fullShare d) ∗ (∃ d, owns (c : Thread nD τ) scM0_3 fullShare d) ∗ semVal ((c : Thread nD τ), SemLoc.dma 12) 0 ∗ semVal ((c : Thread nD τ), SemLoc.dma 13) 0 ∗ hbPt0 c hbM0_0 (V m c main_arg4) ∗ owes (c : Thread nD τ) 0 W)
        (fun Q => by
          iintro ⟨⟨G0, G1, G2, G3, G4, G5, G6, G7, G8, G9⟩, Gk⟩
          iapply (part4_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0)
            (iblk m c 0 t) (iblk m c 1 t) (iblk m c 2 t) (iblk m c 3 t) (V m c main_arg4) W Q)
          isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          iexact Gk) _)
      isplitl [H0 H1 H2 H3 HS2 HS3 Hq0 Hq1 Hh0 HW]
      · isplitl [H0]; · iexact H0
        isplitl [H1]; · iexact H1
        isplitl [H2]; · iexact H2
        isplitl [H3]; · iexact H3
        isplitl [HS2]; · iexact HS2
        isplitl [HS3]; · iexact HS3
        isplitl [Hq0]; · iexact Hq0
        isplitl [Hq1]; · iexact Hq1
        isplitl [Hh0]; · iexact Hh0
        iexact HW
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, HS2, HS3, Hq0, Hq1, Hh0, ⟨%W', HW'⟩, H4, H5, H6, H7, H8, HS0, HS1⟩
      isplitl [HS0 HS1 HS2 HS3 Hg Hq0 Hq1 Hh0]
      · isplitl [HS0 HS1 HS2 HS3]
        · isplitl [HS0]; · iexact HS0
          isplitl [HS1]; · iexact HS1
          isplitl [HS2]; · iexact HS2
          iexact HS3
        isplitl [Hg]; · iexact Hg
        isplitl [Hq0 Hq1]
        · isplitl [Hq0]; · iexact Hq0
          iexact Hq1
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · exfalso; omega
  · by_cases hz : t.val = 0
    · exfalso; omega
    · rw [PhiS_castSucc m c t, PhiS_pos m c _ _ hz]
      iintro ⟨⟨⟨HS0, HS1, HS2, HS3⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _)
        (iblk m c 0 t) (iblk m c 1 t) (iblk m c 2 t) (iblk m c 3 t) (iblk m c 4 t) (iblk m c 5 t) (iblk m c 6 t) (iblk m c 7 t) (halfAll m c) (V m c main_arg4)
        iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) scM0_2 fullShare (halfAll m c) ∗ (∃ d, owns (c : Thread nD τ) scM0_3 fullShare d) ∗ semVal ((c : Thread nD τ), SemLoc.dma 12) 0 ∗ semVal ((c : Thread nD τ), SemLoc.dma 13) 0 ∗ hbPt0 c hbM0_0 (V m c main_arg4) ∗ owes (c : Thread nD τ) 0 W)
        (fun Q => by
          iintro ⟨⟨G0, G1, G2, G3, G4, G5, G6, G7, G8, G9⟩, Gk⟩
          iapply (part4_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h))
            (iblk m c 0 t) (iblk m c 1 t) (iblk m c 2 t) (iblk m c 3 t) (halfAll m c) (V m c main_arg4) W Q)
          isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          iexact Gk) _)
      isplitl [H0 H1 H2 H3 HS2 HS3 Hq0 Hq1 Hh0 HW]
      · isplitl [H0]; · iexact H0
        isplitl [H1]; · iexact H1
        isplitl [H2]; · iexact H2
        isplitl [H3]; · iexact H3
        isplitl [HS2]; · iexact HS2
        isplitl [HS3]; · iexact HS3
        isplitl [Hq0]; · iexact Hq0
        isplitl [Hq1]; · iexact Hq1
        isplitl [Hh0]; · iexact Hh0
        iexact HW
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, HS2, HS3, Hq0, Hq1, Hh0, ⟨%W', HW'⟩, H4, H5, H6, H7, H8, HS0, HS1⟩
      isplitl [HS0 HS1 HS2 HS3 Hg Hq0 Hq1 Hh0]
      · isplitl [HS0 HS1 HS2 HS3]
        · isplitl [HS0]; · iexact HS0
          isplitl [HS1]; · iexact HS1
          isplitl [HS2]; · iexact HS2
          iexact HS3
        isplitl [Hg]; · iexact Hg
        isplitl [Hq0 Hq1]
        · isplitl [Hq0]; · iexact Hq0
          iexact Hq1
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at point `t` is the body at that point. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over. -/
theorem hout (c : Dev nD) : (dats m 0 c).Φ (Fin.last cfg0.N) ⊢ Pipeline.ΦD osem0 spec0 H0 (V m) c := by
  rw [show (dats m 0 c).Φ (Fin.last cfg0.N) = PhiS m c cfg0.N (Nat.le_refl _) from rfl, PhiS_pos m c _ _ (by have : cfg0.N = 32 := N_0; omega), PhiD0_eq]
  iintro ⟨⟨HS0, HS1, HS2, HS3⟩, Hg, ⟨Hq0, Hq1⟩, Hh0⟩
  isplitl [HS0 HS1 HS2 HS3]
  · isplitl [HS0]; · iexact HS0
    isplitl [HS1]; · iexact HS1
    isplitl [HS2]
    · iexists _; iexact HS2
    iexact HS3
  isplitl [Hg]; · iexact Hg
  isplitl [Hq0 Hq1]
  · isplitl [Hq0]; · iexact Hq0
    iexact Hq1
  iexact Hh0

set_option backward.isDefEq.respectTransparency.types false in
/-- The launch: every execution ends, each array of the pipeline is what the proof data say, the other buffers are as the region found them and every semaphore is at zero. -/
theorem run_main : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The kernel ends with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelIdeal.Own
-- ==== Proof.Math.lean ====
/- The scalar identities over the extended reals: the two forms of the activations, and a constant factor out of a sum. -/
module

public import Idealize.ShloMosaic.PureOps.Ideal
public import Idealize.ShloMosaic.PureOps.Ideal.Laws
public import Idealize.ShloMosaic.Lib.IdealHost
public import Idealize.ShloMosaic.Lib.Pointwise.Tactic

@[expose] public section

set_option maxRecDepth 16384

noncomputable section

namespace Cert.Own

open Idealize.ShloMosaic

/-- The word of one half, as a real. -/
theorem of_half : Ideal.ofBits .f32 0x3F000000#32 = ((1 / 2 : ℝ) : EReal) := by
  simp [Ideal.ofBits, Ideal.ieee, -EReal.coe_mul]; try norm_num
/-- The word of the root factor of gelu, as a real. -/
theorem of_root : Ideal.ofBits .f32 0x3F4C422A#32 = ((6693141 / 8388608 : ℝ) : EReal) := by
  simp [Ideal.ofBits, Ideal.ieee, -EReal.coe_mul]; try norm_num
/-- The word of twice the root factor, as a real. -/
theorem of_root2 : Ideal.ofBits .f32 0x3FCC422A#32 = ((6693141 / 4194304 : ℝ) : EReal) := by
  simp [Ideal.ofBits, Ideal.ieee, -EReal.coe_mul]; try norm_num
/-- The word of the cubic factor of gelu, as a real. -/
theorem of_cube : Ideal.ofBits .f32 0x3D372713#32 = ((12003091 / 268435456 : ℝ) : EReal) := by
  simp [Ideal.ofBits, Ideal.ieee, -EReal.coe_mul]; try norm_num

/-- The activation as the reference writes it, the cubic polynomial under the hyperbolic tangent. -/
def gelu (p : EReal) : EReal :=
  p * (((1 / 2 : ℝ) : EReal) * (1 + Ideal.tanh (((6693141 / 8388608 : ℝ) : EReal) * (p + ((12003091 / 268435456 : ℝ) : EReal) * (p * p * p)))))

/-- The gate's activation as the reference writes it. -/
def silu (p : EReal) : EReal := p * Ideal.div 1 (1 + Ideal.exp (-p))

/-- The activation as the kernel writes it, over half of the argument. -/
def geluHalf (t : EReal) : EReal :=
  t * (1 + Ideal.tanh (t * (((6693141 / 4194304 : ℝ) : EReal) + ((80338380498831 / 281474976710656 : ℝ) : EReal) * (t * t))))

/-- The gate's activation as the kernel writes it, over half of the argument. -/
def siluHalf (t : EReal) : EReal := t * (1 + Ideal.tanh t)

/-- Half of the greatest element. -/
theorem half_top : ((1 / 2 : ℝ) : EReal) * ⊤ = ⊤ := EReal.coe_mul_top_of_pos (by norm_num)
/-- Half of the least element. -/
theorem half_bot : ((1 / 2 : ℝ) : EReal) * ⊥ = ⊥ := EReal.coe_mul_bot_of_pos (by norm_num)

/-- The kernel's activation of half of `p` is the reference's of `p`. -/
theorem geluHalf_eq (p : EReal) : geluHalf (((1 / 2 : ℝ) : EReal) * p) = gelu p := by
  have key : (((1 / 2 : ℝ) : EReal) * p) * (((6693141 / 4194304 : ℝ) : EReal) + ((80338380498831 / 281474976710656 : ℝ) : EReal) * ((((1 / 2 : ℝ) : EReal) * p) * (((1 / 2 : ℝ) : EReal) * p)))
      = ((6693141 / 8388608 : ℝ) : EReal) * (p + ((12003091 / 268435456 : ℝ) : EReal) * (p * p * p)) := by
    induction p using EReal.rec with
    | bot =>
      rw [half_bot, EReal.bot_mul_bot, EReal.coe_mul_top_of_pos (by norm_num), EReal.coe_add_top, EReal.bot_mul_top, EReal.top_mul_bot,
        EReal.coe_mul_bot_of_pos (by norm_num), EReal.bot_add, EReal.coe_mul_bot_of_pos (by norm_num)]
    | top =>
      rw [half_top, EReal.top_mul_top, EReal.coe_mul_top_of_pos (by norm_num), EReal.coe_add_top, EReal.top_mul_top,
        EReal.coe_mul_top_of_pos (by norm_num), EReal.top_add_top, EReal.coe_mul_top_of_pos (by norm_num)]
    | coe r =>
      simp only [← EReal.coe_mul, ← EReal.coe_add]
      congr 1; ring
  unfold geluHalf gelu
  rw [key, mul_comm ((1 / 2 : ℝ) : EReal) p, mul_assoc]

/-- The kernel's gate of half of `p` is the reference's of `p`. -/
theorem siluHalf_eq (p : EReal) : siluHalf (((1 / 2 : ℝ) : EReal) * p) = silu p := by
  unfold siluHalf silu
  induction p using EReal.rec with
  | bot =>
    rw [half_bot, Ideal.tanh_bot, EReal.neg_bot]
    have h1 : (1 : EReal) + -1 = 0 := by
      have : ((1 : ℝ) : EReal) + ((-1 : ℝ) : EReal) = ((0 : ℝ) : EReal) := by rw [← EReal.coe_add]; norm_num
      simpa using this
    have h2 : Ideal.exp ⊤ = ⊤ := rfl
    have h3 : (1 : EReal) + ⊤ = ⊤ := by simpa using EReal.coe_add_top 1
    rw [h1, h2, h3]
    unfold Ideal.div
    simp
  | top =>
    rw [half_top, Ideal.tanh_top, EReal.neg_top]
    have h2 : Ideal.exp ⊥ = 0 := rfl
    have h1 : (1 : EReal) + 1 = ((2 : ℝ) : EReal) := by
      have : ((1 : ℝ) : EReal) + ((1 : ℝ) : EReal) = ((2 : ℝ) : EReal) := by rw [← EReal.coe_add]; norm_num
      simpa using this
    rw [h1, h2, add_zero, EReal.top_mul_coe_of_pos (by norm_num)]
    unfold Ideal.div
    simp
  | coe r =>
    have he : Ideal.exp (-(r : EReal)) = ((Real.exp (-r) : ℝ) : EReal) := rfl
    rw [← EReal.coe_mul, Ideal.tanh_coe, he]
    have hpos : (0 : ℝ) < 1 + Real.exp (-r) := by positivity
    rw [show (1 : EReal) = ((1 : ℝ) : EReal) from rfl, ← EReal.coe_add, ← EReal.coe_add, Ideal.div_coe hpos.ne', ← EReal.coe_mul, ← EReal.coe_mul, ← EReal.coe_mul]
    congr 1
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    have hb := Real.exp_pos (-(1 / 2 * r))
    have ha := Real.exp_pos (1 / 2 * r)
    rw [Real.tanh_eq_sinh_div_cosh, Real.sinh_eq, Real.cosh_eq, e1]
    have hab : Real.exp (1 / 2 * r) = 1 / Real.exp (-(1 / 2 * r)) := eq_div_of_mul_eq hb.ne' e2
    rw [hab]
    generalize Real.exp (-(1 / 2 * r)) = b at hb
    field_simp
    ring

/-- A non-negative real factor goes out of a sum. -/
theorem sum_factor {ι : Type*} (s : Finset ι) (f : ι → EReal) (a : ℝ) (ha : 0 ≤ a) :
    ∑ k ∈ s, (a : EReal) * f k = (a : EReal) * ∑ k ∈ s, f k := by
  classical
  induction s using Finset.induction_on with
  | empty => simp
  | insert k s hk ih =>
    rw [Finset.sum_insert hk, Finset.sum_insert hk, ih,
      EReal.left_distrib_of_nonneg_of_ne_top (by exact_mod_cast ha) (EReal.coe_ne_top a)]

/-- A product with half of a matrix's column is half of the product. -/
theorem sum_half {n : ℕ} (h w : Fin n → EReal) :
    ∑ k, h k * (((1 / 2 : ℝ) : EReal) * w k) = ((1 / 2 : ℝ) : EReal) * ∑ k, h k * w k := by
  rw [← sum_factor _ _ _ (by norm_num)]
  exact Finset.sum_congr rfl fun k _ => mul_left_comm _ _ _

/-- A value scaled by the reciprocal root of a mean square, and by a weight. -/
def rmsScale (x s n w : EReal) : EReal := x * Ideal.rsqrt (Ideal.div s n + Ideal.ofBits .f32 0x358637BD#32) * w

end Cert.Own

end
-- ==== Proof.Spec.lean ====
/- The layer in plain sums: what both programs compute at a row and a column. -/
module

public import proofs.«01_k».proof.Proof.Math

@[expose] public section

set_option maxRecDepth 16384

noncomputable section

namespace Cert.Own

open Idealize.ShloMosaic

/-- A row of the residual stream: the input's row plus the pending product. -/
def rowX (x y : Fin 1024 → EReal) (w : Fin 1024 → Fin 1024 → EReal) (d : Fin 1024) : EReal := x d + ∑ k, y k * w k d

/-- The row scaled by its reciprocal root mean square. -/
def rowH (X n : Fin 1024 → EReal) (d : Fin 1024) : EReal := rmsScale (X d) (∑ k, X k * X k) (Ideal.ofBits .f32 0x44800000#32) (n d)

/-- The product of the scaled row and the input weight. -/
def rowP (H : Fin 1024 → EReal) (w : Fin 1024 → Fin 6144 → EReal) (j : Fin 6144) : EReal := ∑ k, H k * w k j

/-- The columns of the three branches. -/
def colU (e : Fin 2048) : Fin 6144 := ⟨e.val, by omega⟩
/-- The column of the second branch. -/
def colV (e : Fin 2048) : Fin 6144 := ⟨2048 + e.val, by omega⟩
/-- The column of the third branch. -/
def colG (e : Fin 2048) : Fin 6144 := ⟨4096 + e.val, by omega⟩

/-- The mixed branch before the mixing: activated and scaled by its reciprocal root mean square. -/
def rowN (V n : Fin 2048 → EReal) (e : Fin 2048) : EReal := rmsScale (V e) (∑ k, V k * V k) (Ideal.ofBits .f32 0x45000000#32) (n e)

/-- The group of a column. -/
def grp (e : Fin 2048) : Fin 8 := ⟨e.val / 256, by omega⟩

/-- The causal mixing of a chunk's positions, each group of columns with its own matrix. -/
def mix (N : Fin 128 → Fin 2048 → EReal) (ws : Fin 8 → Fin 128 → Fin 128 → EReal) (bs : Fin 8 → Fin 128 → EReal) (p : Fin 128) (e : Fin 2048) : EReal :=
  (∑ q, N q e * (if q ≤ p then ws (grp e) p q else 0)) + bs (grp e) p

/-- The gated row. -/
def rowY (P : Fin 6144 → EReal) (M : Fin 2048 → EReal) (e : Fin 2048) : EReal := gelu (P (colU e)) * M e * silu (P (colG e))

/-- The row after the layer. -/
def rowO (X : Fin 1024 → EReal) (Y : Fin 2048 → EReal) (w : Fin 2048 → Fin 1024 → EReal) (d : Fin 1024) : EReal := X d + ∑ e, Y e * w e d

/-- The position `q` of the chunk a row is in. -/
def mate (r : Fin 16384) (q : Fin 128) : Fin 16384 := ⟨128 * (r.val / 128) + q.val, by omega⟩

/-- The place of a row in its chunk. -/
def place (r : Fin 16384) : Fin 128 := ⟨r.val % 128, by omega⟩

/-- The normalised second branch of a row. -/
def branchN (X n : Fin 1024 → EReal) (w : Fin 1024 → Fin 6144 → EReal) (vn : Fin 2048 → EReal) : Fin 2048 → EReal :=
  rowN (fun e => gelu (rowP (rowH X n) w (colV e))) vn

/-- The layer at a row and a column, over all rows. -/
def layer (X : Fin 16384 → Fin 1024 → EReal) (n : Fin 1024 → EReal) (w : Fin 1024 → Fin 6144 → EReal) (vn : Fin 2048 → EReal)
    (ws : Fin 8 → Fin 128 → Fin 128 → EReal) (bs : Fin 8 → Fin 128 → EReal) (wo : Fin 2048 → Fin 1024 → EReal) (r : Fin 16384) (d : Fin 1024) : EReal :=
  rowO (X r) (rowY (rowP (rowH (X r) n) w) (mix (fun q => branchN (X (mate r q)) n w vn) ws bs (place r))) wo d

end Cert.Own

end
-- ==== Proof.Stages.lean ====
/- The kernel body's values at an index, over the extended reals. -/
module

public import proofs.«01_k».proof.Proof.Tile
public import proofs.«01_k».proof.Proof.Spec
public import Idealize.ShloMosaic.Lib.Pointwise
public import Idealize.ShloMosaic.Lib.IdealHost

@[expose] public section

set_option maxRecDepth 16384

noncomputable section

namespace Cert.KernelIdeal.Own

open Cert.KernelIdeal Cert.KernelIdeal.Gen Cert.Own Idealize.ShloMosaic Idealize.ShloMosaic.TcCoe

/-- The named constant's value. -/
theorem cub_value : Named.named (F := Ideal) κ "gelu_cub" (φ := .f32) 0x3E922279#32 = ((80338380498831 / 281474976710656 : ℝ) : EReal) :=
  IdealRules.named_const.ideal_named_scalar _ _ _ _ rfl

/-- The residual stream at an index. -/
theorem p8_apply (x0 : FVec Ideal S512x1024 .f32) (x1 : FVec Ideal S512x1024 .bf16) (x2 : FVec Ideal S1024x1024 .bf16) (i : Fin 512) (d : Fin 1024) :
    k0_pay8 (F := Ideal) x0 x1 x2 (ix2 i d) = rowX (fun d => x0 (ix2 i d)) (fun k => x1 (ix2 i k)) (fun k d => x2 (ix2 k d)) d := by
  unfold k0_pay8 rowX; pointwise

/-- The first normalisation at an index. -/
theorem p9_apply (x0 : FVec Ideal S512x1024 .f32) (x1 : FVec Ideal S512x1024 .bf16) (x2 : FVec Ideal S1024x1024 .bf16) (x3 : FVec Ideal S1x1024 .f32) (i : Fin 512) (d : Fin 1024) :
    k0_pay9 (F := Ideal) x0 x1 x2 x3 (ix2 i d) = rowH (fun d => k0_pay8 (F := Ideal) x0 x1 x2 (ix2 i d)) (fun d => x3 (ix2 0 d)) d := by
  unfold k0_pay9 rowH rmsScale; generalize k0_pay8 (F := Ideal) x0 x1 x2 = X; pointwise

/-- The activated branch at an index. -/
theorem p10_apply (x0 : FVec Ideal S512x1024 .f32) (x1 : FVec Ideal S512x1024 .bf16) (x2 : FVec Ideal S1024x1024 .bf16) (x3 : FVec Ideal S1x1024 .f32) (w : FVec Ideal S1024x2048 .bf16) (i : Fin 512) (e : Fin 2048) :
    k0_pay10 (F := Ideal) x0 x1 x2 x3 w (ix2 i e) = geluHalf (∑ k : Fin 1024, k0_pay9 (F := Ideal) x0 x1 x2 x3 (ix2 i k) * w (ix2 k e)) := by
  unfold k0_pay10 geluHalf; generalize k0_pay9 (F := Ideal) x0 x1 x2 x3 = X; rw [cub_value, ← of_root2]; pointwise

/-- The second normalisation at an index. -/
theorem p11_apply (V : FVec Ideal S512x2048 .f32) (x4 : FVec Ideal S1x2048 .f32) (i : Fin 512) (e : Fin 2048) :
    k0_pay11 (F := Ideal) V x4 (ix2 i e) = rowN (fun e => V (ix2 i e)) (fun e => x4 (ix2 0 e)) e := by
  unfold k0_pay11 rowN rmsScale; pointwise

/-- The first branch of a group at an index. -/
theorem p13_apply (H : FVec Ideal S512x1024 .bf16) (w : FVec Ideal S1024x256 .bf16) (i : Fin 512) (e : Fin 256) :
    k0_pay13 (F := Ideal) H w (ix2 i e) = geluHalf (∑ k : Fin 1024, H (ix2 i k) * w (ix2 k e)) := by
  unfold k0_pay13 geluHalf; rw [cub_value, ← of_root2]; pointwise

/-- The gate of a group at an index. -/
theorem p14_apply (H : FVec Ideal S512x1024 .bf16) (w : FVec Ideal S1024x256 .bf16) (i : Fin 512) (e : Fin 256) :
    k0_pay14 (F := Ideal) H w (ix2 i e) = siluHalf (∑ k : Fin 1024, H (ix2 i k) * w (ix2 k e)) := by
  unfold k0_pay14 siluHalf; pointwise

/-- The kernel's mask is the causal one. -/
theorem causal : ∀ p q : Fin 128, IntOp.cmpi CmpIPredicate.sle (BitVec.ofNat 32 q.val) (BitVec.ofNat 32 p.val) = if q ≤ p then 1#1 else 0#1 := by decide +kernel

/-- The masked mixing matrix at an index. -/
theorem p15_apply (w : FVec Ideal S1x128x128 .f32) (p q : Fin 128) :
    k0_pay15 (F := Ideal) k0_pay12 w (ix2 p q) = if q ≤ p then w (ix3 0 p q) else 0 := by
  unfold k0_pay15 k0_pay12; pointwise
  try rw [causal]
  split <;> rfl

/-- A tile of gated rows at an index. -/
theorem tileOf_apply (r : Fin 4) (v25 : FVec Ideal S512x1024 .bf16) (wu wg : FVec Ideal S1024x256 .bf16) (ws : FVec Ideal S1x128x128 .f32) (b : FVec Ideal S128x1 .f32) (vn : FVec Ideal S128x256 .bf16) (p : Fin 128) (e : Fin 256) :
    tileOf (F := Ideal) r v25 wu wg ws b vn (ix2 p e) = k0_pay13 (F := Ideal) v25 wu (ix2 ⟨128 * r.val + p.val, by omega⟩ e) * ((∑ q : Fin 128, k0_pay15 (F := Ideal) k0_pay12 ws (ix2 p q) * vn (ix2 q e)) + b (ix2 p 0)) * k0_pay14 (F := Ideal) v25 wg (ix2 ⟨128 * r.val + p.val, by omega⟩ e) := by
  unfold tileOf k0_pay16
  generalize k0_pay13 (F := Ideal) v25 wu = U; generalize k0_pay14 (F := Ideal) v25 wg = G; generalize k0_pay15 (F := Ideal) k0_pay12 ws = W
  pointwise

/-- The output product at an index. -/
theorem p87_apply (X : FVec Ideal S512x1024 .f32) (Y : FVec Ideal S512x2048 .bf16) (w : FVec Ideal S2048x1024 .bf16) (i : Fin 512) (d : Fin 1024) :
    k0_pay87 (F := Ideal) X Y w (ix2 i d) = rowO (fun d => X (ix2 i d)) (fun e => Y (ix2 i e)) (fun e d => w (ix2 e d)) d := by
  unfold k0_pay87 rowO; pointwise

/-- Half of the weight at an index. -/
theorem halfW_apply (W : FVec Ideal S1024x6144 .f32) (k : Fin 1024) (j : Fin 6144) : halfW (F := Ideal) W (ix2 k j) = ((1 / 2 : ℝ) : EReal) * W (ix2 k j) := by
  unfold halfW; rw [← of_half]; pointwise

/-- Where a group's columns of the first branch lie. -/
theorem emb_u (g : Fin 8) (k : Fin 1024) (e : Fin 256) : (Rect.unit (s := S1024x6144) ![0, 256 * g.val] ![1024, 256] (inb_u g)).emb (ix2 k e) = ix2 k ⟨256 * g.val + e.val, by omega⟩ := by
  funext a; apply Fin.ext
  match a with
  | ⟨0, _⟩ => exact (show 0 + 1 * k.val = k.val by omega)
  | ⟨1, _⟩ => exact (show 256 * g.val + 1 * e.val = 256 * g.val + e.val by omega)
/-- Where a group's columns of the gate lie. -/
theorem emb_g (g : Fin 8) (k : Fin 1024) (e : Fin 256) : (Rect.unit (s := S1024x6144) ![0, 4096 + 256 * g.val] ![1024, 256] (inb_g g)).emb (ix2 k e) = ix2 k ⟨4096 + (256 * g.val + e.val), by omega⟩ := by
  funext a; apply Fin.ext
  match a with
  | ⟨0, _⟩ => exact (show 0 + 1 * k.val = k.val by omega)
  | ⟨1, _⟩ => exact (show 4096 + 256 * g.val + 1 * e.val = 4096 + (256 * g.val + e.val) by omega)
/-- Where the columns of the second branch lie. -/
theorem emb_v (k : Fin 1024) (e : Fin 2048) : (Rect.unit (s := S1024x6144) ![0, 2048] ![1024, 2048] inb_S1024x6144_S1024x2048_0_2048).emb (ix2 k e) = ix2 k (colV e) := by
  funext a; apply Fin.ext
  match a with
  | ⟨0, _⟩ => exact (show 0 + 1 * k.val = k.val by omega)
  | ⟨1, _⟩ => exact (show 2048 + 1 * e.val = 2048 + e.val by omega)
/-- Where a group's mixing matrix lies. -/
theorem emb_s (g : Fin 8) (p q : Fin 128) : (Rect.unit (s := S8x128x128) ![g.val, 0, 0] ![1, 128, 128] (inb_s g)).emb (ix3 0 p q) = ix3 g p q := by
  funext a; apply Fin.ext
  match a with
  | ⟨0, _⟩ => exact (show g.val + 1 * 0 = g.val by omega)
  | ⟨1, _⟩ => exact (show 0 + 1 * p.val = p.val by omega)
  | ⟨2, _⟩ => exact (show 0 + 1 * q.val = q.val by omega)
/-- Where a group's bias lies. -/
theorem emb_b (g : Fin 8) (p : Fin 128) : (Rect.unit (s := S128x8) ![0, g.val] ![128, 1] (inb_b g)).emb (ix2 p 0) = ix2 p g := by
  funext a; apply Fin.ext
  match a with
  | ⟨0, _⟩ => exact (show 0 + 1 * p.val = p.val by omega)
  | ⟨1, _⟩ => exact (show g.val + 1 * 0 = g.val by omega)
/-- Where a tile lies in its block. -/
theorem emb_y (r : Fin 4) (g : Fin 8) (p : Fin 128) (e : Fin 256) : (Rect.unit (s := S512x2048) ![128 * r.val, 256 * g.val] ![128, 256] (inb_y r g)).emb (ix2 p e) = ix2 ⟨128 * r.val + p.val, by omega⟩ ⟨256 * g.val + e.val, by omega⟩ := by
  funext a; apply Fin.ext
  match a with
  | ⟨0, _⟩ => exact (show 128 * r.val + 1 * p.val = 128 * r.val + p.val by omega)
  | ⟨1, _⟩ => exact (show 256 * g.val + 1 * e.val = 256 * g.val + e.val by omega)

/-- The factors of a sum of products exchanged. -/
theorem sum_swap (f g : Fin 128 → EReal) : ∑ q, f q * g q = ∑ q, g q * f q := Finset.sum_congr rfl fun q _ => mul_comm _ _

/-- The gated rows of a block at an index, from the scaled rows and the normalised branch. -/
theorem gated_apply (H : FVec Ideal S512x1024 .bf16) (W : FVec Ideal S1024x6144 .f32) (x5 : FVec Ideal S8x128x128 .f32) (x6 : FVec Ideal S128x8 .f32) (N : FVec Ideal S512x2048 .bf16) (i : Fin 512) (e : Fin 2048) :
    gated (F := Ideal) H (halfW (F := Ideal) W) x5 x6 N (ix2 i e)
      = rowY (rowP (fun k => H (ix2 i k)) (fun k j => W (ix2 k j)))
          (mix (fun q e => N (ix2 ⟨128 * (i.val / 128) + q.val, by omega⟩ e)) (fun g p q => x5 (ix3 g p q)) (fun g p => x6 (ix2 p g)) ⟨i.val % 128, by omega⟩) e := by
  have hi : (⟨128 * (i.val / 128) + i.val % 128, by omega⟩ : Fin 512) = i := Fin.ext (show 128 * (i.val / 128) + i.val % 128 = i.val by omega)
  have he : ∀ h, (⟨256 * (grp e).val + e.val % 256, h⟩ : Fin 2048) = e := fun _ => Fin.ext (show 256 * (e.val / 256) + e.val % 256 = e.val by omega)
  have he6 : ∀ h, (⟨256 * (grp e).val + e.val % 256, h⟩ : Fin 6144) = colU e := fun _ => Fin.ext (show 256 * (e.val / 256) + e.val % 256 = e.val by omega)
  have hg6 : ∀ h, (⟨4096 + (256 * (grp e).val + e.val % 256), h⟩ : Fin 6144) = colG e := fun _ => Fin.ext (show 4096 + (256 * (e.val / 256) + e.val % 256) = 4096 + e.val by omega)
  have hl : locOf (ix2 i e) = ix2 ⟨i.val % 128, by omega⟩ ⟨e.val % 256, by omega⟩ := by
    funext a; match a with
    | ⟨0, _⟩ => rfl
    | ⟨1, _⟩ => rfl
  have hr : rowOf (ix2 i e) = ⟨i.val / 128, by omega⟩ := rfl
  have hg : grpOf (ix2 i e) = grp e := rfl
  have hy := fun x : Fin 128 => emb_y ⟨i.val / 128, by omega⟩ (grp e) x ⟨e.val % 256, by omega⟩
  simp only [he] at hy
  unfold gated
  rw [hl, hr, hg]
  unfold tileG
  rw [tileOf_apply, sum_swap, p13_apply, p14_apply]
  simp only [emb_u, emb_g, p15_apply, emb_s, emb_b, hy, halfW_apply, he, he6, hg6, hi, sum_half, geluHalf_eq, siluHalf_eq]
  unfold rowY mix rowP
  try rfl

/-- The normalised branch of a block at an index. -/
theorem normV_apply (x0 : FVec Ideal S512x1024 .f32) (x1 : FVec Ideal S512x1024 .bf16) (x2 : FVec Ideal S1024x1024 .bf16) (x3 : FVec Ideal S1x1024 .f32) (x4 : FVec Ideal S1x2048 .f32) (W : FVec Ideal S1024x6144 .f32) (i : Fin 512) (e : Fin 2048) :
    normV (F := Ideal) x0 x1 x2 x3 x4 (halfW (F := Ideal) W) (ix2 i e)
      = branchN (rowX (fun d => x0 (ix2 i d)) (fun k => x1 (ix2 i k)) (fun k d => x2 (ix2 k d))) (fun d => x3 (ix2 0 d)) (fun k j => W (ix2 k j)) (fun e => x4 (ix2 0 e)) e := by
  unfold normV
  rw [p11_apply]
  simp only [p10_apply, emb_v, halfW_apply, sum_half, geluHalf_eq, p9_apply, p8_apply]
  rfl

/-- What the body leaves in the result's block, at an index. -/
theorem blockOut_apply (x0 : FVec Ideal S512x1024 .f32) (x1 : FVec Ideal S512x1024 .bf16) (x2 : FVec Ideal S1024x1024 .bf16) (x3 : FVec Ideal S1x1024 .f32) (x4 : FVec Ideal S1x2048 .f32) (x5 : FVec Ideal S8x128x128 .f32) (x6 : FVec Ideal S128x8 .f32) (x7 : FVec Ideal S2048x1024 .bf16) (W : FVec Ideal S1024x6144 .f32) (i : Fin 512) (d : Fin 1024) :
    blockOut (F := Ideal) x0 x1 x2 x3 x4 x5 x6 x7 (halfW (F := Ideal) W) (ix2 i d)
      = rowO (rowX (fun d => x0 (ix2 i d)) (fun k => x1 (ix2 i k)) (fun k d => x2 (ix2 k d)))
          (rowY (rowP (rowH (rowX (fun d => x0 (ix2 i d)) (fun k => x1 (ix2 i k)) (fun k d => x2 (ix2 k d))) (fun d => x3 (ix2 0 d))) (fun k j => W (ix2 k j)))
            (mix (fun q => branchN (rowX (fun d => x0 (ix2 ⟨128 * (i.val / 128) + q.val, by omega⟩ d)) (fun k => x1 (ix2 ⟨128 * (i.val / 128) + q.val, by omega⟩ k)) (fun k d => x2 (ix2 k d))) (fun d => x3 (ix2 0 d)) (fun k j => W (ix2 k j)) (fun e => x4 (ix2 0 e)))
              (fun g p q => x5 (ix3 g p q)) (fun g p => x6 (ix2 p g)) ⟨i.val % 128, by omega⟩))
          (fun e d => x7 (ix2 e d)) d := by
  unfold blockOut
  rw [p87_apply]
  simp only [gated_apply, normV_apply, p9_apply, p8_apply]

end Cert.KernelIdeal.Own

end
-- ==== Proof.KValue.lean ====
/- The array the pipeline leaves, in plain sums over the arguments. -/
module

public import proofs.«01_k».proof.Proof.Run
public import proofs.«01_k».proof.Proof.Stages
public import Idealize.ShloMosaic.Lib.Pointwise
public import Idealize.ShloMosaic.Lib.StableHlo.ReadAt
public import Idealize.ShloMosaic.Lib.Pipeline.ValueKit

@[expose] public section

set_option maxRecDepth 16384

noncomputable section

namespace Cert.KernelIdeal.Own

open Cert.KernelIdeal Cert.KernelIdeal.Gen Cert.Own Idealize.ShloMosaic Idealize.ShloMosaic.TcCoe
open Idealize.ShloMosaic.Pipeline (Dat Cfg Window)

variable (m : (ℓ : Loc nD τ sig) → Buf (Elt Ideal) ℓ) (c : Dev nD)

/-- The first argument, as rows. -/
theorem V_v0 (r : Fin 16384) (d : Fin 1024) :
    V m c main_v0 (ix2 r d) = m ((c : Thread nD τ).loc main_arg0) (ix3 ⟨r.val / 2048, by omega⟩ ⟨r.val % 2048, by omega⟩ d) := by
  unfold V; after_reads_at
/-- The second argument, as rows. -/
theorem V_v1 (r : Fin 16384) (d : Fin 1024) :
    V m c main_v1 (ix2 r d) = m ((c : Thread nD τ).loc main_arg1) (ix3 ⟨r.val / 2048, by omega⟩ ⟨r.val % 2048, by omega⟩ d) := by
  unfold V; after_reads_at
/-- The pending weight. -/
theorem V_v2 (k d : Fin 1024) : V m c main_v2 (ix2 k d) = m ((c : Thread nD τ).loc main_arg2) (ix2 k d) := by
  unfold V; after_reads_at
/-- The first scale, as a row. -/
theorem V_v3 (d : Fin 1024) : V m c main_v3 (ix2 0 d) = m ((c : Thread nD τ).loc main_arg3) (ix1 d) := by
  unfold V; after_reads_at
/-- The second scale, as a row. -/
theorem V_v4 (e : Fin 2048) : V m c main_v4 (ix2 0 e) = m ((c : Thread nD τ).loc main_arg5) (ix1 e) := by
  unfold V; after_reads_at
/-- The bias, with its axes exchanged. -/
theorem V_v5 (p : Fin 128) (g : Fin 8) : V m c main_v5 (ix2 p g) = m ((c : Thread nD τ).loc main_arg7) (ix2 g p) := by
  unfold V; after_reads_at
/-- The output weight. -/
theorem V_v6 (e : Fin 2048) (d : Fin 1024) : V m c main_v6 (ix2 e d) = m ((c : Thread nD τ).loc main_arg8) (ix2 e d) := by
  unfold V; after_reads_at

/-- The row of the array that row `i` of block `t` is. -/
def row (t : Fin cfg0.N) (i : Fin 512) : Fin 16384 := ⟨512 * t.val + i.val, by have : cfg0.N = 32 := N_0; omega⟩

/-- The block of the input: the index of the block. -/
theorem e0 : ∀ t : Fin cfg0.N, win0_0.index t = ![t.val, 0] := (by decide +kernel : ∀ t : Fin grid0.N, _)
/-- The block of the attention's output: the index of the block. -/
theorem e1 : ∀ t : Fin cfg0.N, win0_1.index t = ![t.val, 0] := (by decide +kernel : ∀ t : Fin grid0.N, _)
/-- The block of the pending weight: the index of the block. -/
theorem e2 : ∀ t : Fin cfg0.N, win0_2.index t = ![0, 0] := (by decide +kernel : ∀ t : Fin grid0.N, _)
/-- The block of the first scale: the index of the block. -/
theorem e3 : ∀ t : Fin cfg0.N, win0_3.index t = ![0, 0] := (by decide +kernel : ∀ t : Fin grid0.N, _)
/-- The block of the second scale: the index of the block. -/
theorem e4 : ∀ t : Fin cfg0.N, win0_4.index t = ![0, 0] := (by decide +kernel : ∀ t : Fin grid0.N, _)
/-- The block of the mixing matrices: the index of the block. -/
theorem e5 : ∀ t : Fin cfg0.N, win0_5.index t = ![0, 0, 0] := (by decide +kernel : ∀ t : Fin grid0.N, _)
/-- The block of the bias: the index of the block. -/
theorem e6 : ∀ t : Fin cfg0.N, win0_6.index t = ![0, 0] := (by decide +kernel : ∀ t : Fin grid0.N, _)
/-- The block of the output weight: the index of the block. -/
theorem e7 : ∀ t : Fin cfg0.N, win0_7.index t = ![0, 0] := (by decide +kernel : ∀ t : Fin grid0.N, _)
/-- The result's block: the index of the block. -/
theorem e8 : ∀ t : Fin cfg0.N, win0_8.index t = ![t.val, 0] := (by decide +kernel : ∀ t : Fin grid0.N, _)

/-- The block of the input at a point, at an index. -/
theorem blk0 (t : Fin cfg0.N) (i : Fin 512) (d : Fin 1024) : iblk m c 0 t (ix2 i d) = m ((c : Thread nD τ).loc main_arg0) (ix3 ⟨(row t i).val / 2048, by omega⟩ ⟨(row t i).val % 2048, by omega⟩ d) := by
  refine Eq.trans (b := V m c main_v0 (ix2 (row t i) d)) ?_ (V_v0 m c _ _)
  blk_simp [iblk]; refine congrArg (V m c main_v0) ?_; blk_ext [e0, row]
/-- The block of the attention's output at a point, at an index. -/
theorem blk1 (t : Fin cfg0.N) (i : Fin 512) (d : Fin 1024) : iblk m c 1 t (ix2 i d) = m ((c : Thread nD τ).loc main_arg1) (ix3 ⟨(row t i).val / 2048, by omega⟩ ⟨(row t i).val % 2048, by omega⟩ d) := by
  refine Eq.trans (b := V m c main_v1 (ix2 (row t i) d)) ?_ (V_v1 m c _ _)
  blk_simp [iblk]; refine congrArg (V m c main_v1) ?_; blk_ext [e1, row]
/-- The block of the pending weight, at an index. -/
theorem blk2 (t : Fin cfg0.N) (k d : Fin 1024) : iblk m c 2 t (ix2 k d) = m ((c : Thread nD τ).loc main_arg2) (ix2 k d) := by
  refine Eq.trans (b := V m c main_v2 (ix2 k d)) ?_ (V_v2 m c _ _)
  blk_simp [iblk]; refine congrArg (V m c main_v2) ?_; blk_ext [e2]
/-- The block of the first scale, at an index. -/
theorem blk3 (t : Fin cfg0.N) (d : Fin 1024) : iblk m c 3 t (ix2 0 d) = m ((c : Thread nD τ).loc main_arg3) (ix1 d) := by
  refine Eq.trans (b := V m c main_v3 (ix2 0 d)) ?_ (V_v3 m c _)
  blk_simp [iblk]; refine congrArg (V m c main_v3) ?_; blk_ext [e3]
/-- The block of the second scale, at an index. -/
theorem blk4 (t : Fin cfg0.N) (d : Fin 2048) : iblk m c 4 t (ix2 0 d) = m ((c : Thread nD τ).loc main_arg5) (ix1 d) := by
  refine Eq.trans (b := V m c main_v4 (ix2 0 d)) ?_ (V_v4 m c _)
  blk_simp [iblk]; refine congrArg (V m c main_v4) ?_; blk_ext [e4]
/-- The block of the mixing matrices, at an index. -/
theorem blk5 (t : Fin cfg0.N) (g : Fin 8) (p q : Fin 128) : iblk m c 5 t (ix3 g p q) = m ((c : Thread nD τ).loc main_arg6) (ix3 g p q) := by
  refine Eq.trans (b := V m c main_arg6 (ix3 g p q)) ?_ (congrFun (V_main_arg6 m c) _)
  blk_simp [iblk]; refine congrArg (V m c main_arg6) ?_; blk_ext [e5]
/-- The block of the bias, at an index. -/
theorem blk6 (t : Fin cfg0.N) (p : Fin 128) (g : Fin 8) : iblk m c 6 t (ix2 p g) = m ((c : Thread nD τ).loc main_arg7) (ix2 g p) := by
  refine Eq.trans (b := V m c main_v5 (ix2 p g)) ?_ (V_v5 m c _ _)
  blk_simp [iblk]; refine congrArg (V m c main_v5) ?_; blk_ext [e6]
/-- The block of the output weight, at an index. -/
theorem blk7 (t : Fin cfg0.N) (k : Fin 2048) (d : Fin 1024) : iblk m c 7 t (ix2 k d) = m ((c : Thread nD τ).loc main_arg8) (ix2 k d) := by
  refine Eq.trans (b := V m c main_v6 (ix2 k d)) ?_ (V_v6 m c _ _)
  blk_simp [iblk]; refine congrArg (V m c main_v6) ?_; blk_ext [e7]

/-- The rows of the residual stream, from the three first arguments. -/
def rows (r : Fin 16384) (d : Fin 1024) : EReal :=
  rowX (fun d => m ((c : Thread nD τ).loc main_arg0) (ix3 ⟨r.val / 2048, by omega⟩ ⟨r.val % 2048, by omega⟩ d))
    (fun k => m ((c : Thread nD τ).loc main_arg1) (ix3 ⟨r.val / 2048, by omega⟩ ⟨r.val % 2048, by omega⟩ k))
    (fun k d => m ((c : Thread nD τ).loc main_arg2) (ix2 k d)) d

/-- The layer of the arguments, at a row and a column. -/
def result (r : Fin 16384) (d : Fin 1024) : EReal :=
  layer (rows m c) (fun d => m ((c : Thread nD τ).loc main_arg3) (ix1 d)) (fun k j => m ((c : Thread nD τ).loc main_arg4) (ix2 k j))
    (fun e => m ((c : Thread nD τ).loc main_arg5) (ix1 e)) (fun g p q => m ((c : Thread nD τ).loc main_arg6) (ix3 g p q))
    (fun g p => m ((c : Thread nD τ).loc main_arg7) (ix2 g p)) (fun e d => m ((c : Thread nD τ).loc main_arg8) (ix2 e d)) r d

/-- What the body leaves in a block is the layer at the block's rows. -/
theorem blkOut_apply (t : Fin cfg0.N) (i : Fin 512) (d : Fin 1024) : blkOut m c t (ix2 i d) = result m c (row t i) d := by
  have hW : halfAll m c = halfW (F := Ideal) (m ((c : Thread nD τ).loc main_arg4)) := by
    unfold halfAll; rw [V_main_arg4]; rfl
  have hmate : ∀ q : Fin 128, ∀ h, row t ⟨128 * (i.val / 128) + q.val, h⟩ = mate (row t i) q := fun q h => Fin.ext (by
    show 512 * t.val + (128 * (i.val / 128) + q.val) = 128 * ((512 * t.val + i.val) / 128) + q.val
    omega)
  have hplace : (⟨i.val % 128, by omega⟩ : Fin 128) = place (row t i) := Fin.ext (by
    show i.val % 128 = (512 * t.val + i.val) % 128
    omega)
  unfold blkOut
  rw [hW, blockOut_apply]
  simp only [blk0, blk1, blk2, blk3, blk4, blk5, blk6, blk7, hmate, hplace]
  rfl

/-- The array after the last point is the layer of the arguments. -/
theorem final : (dats m 0 c).arrAt 8 cfg0.N = (fun j : S16384x1024.Idx => result m c (j 0) (j 1) : FVec Ideal S16384x1024 .f32) := by
  refine (dats m 0 c).arrAt_eq_of_covers 8 _ (by decide +kernel) fun t hf y => ?_
  blk_simp
  rw [after_8]
  idx_vars y
  rw [blkOut_apply]
  refine congrArg₂ (result m c) ?_ ?_ <;> apply Fin.ext <;> blk_simp [e8, row] <;> simp <;> omega

end Cert.KernelIdeal.Own

end
-- ==== Proof.RefStages.lean ====
/- The reference's result at a row and a column: the layer in plain sums. -/
module

public import proofs.«01_k».proof.Proof.Gen.ReferenceIdeal.Run
public import proofs.«01_k».proof.Proof.Spec
public import Idealize.ShloMosaic.Lib.Pointwise
public import Idealize.ShloMosaic.Lib.IdealHost

@[expose] public section

set_option maxRecDepth 16384

noncomputable section

namespace Cert.ReferenceIdeal.Own

open Cert.ReferenceIdeal Cert.ReferenceIdeal.Gen Cert.Own Idealize.ShloMosaic Idealize.ShloMosaic.TcCoe Idealize.SL.Sem Idealize.ShloMosaic.StableHlo

variable {F : FTy → Type} [FloatOps F]

/-- The residual stream with the pending product. -/
def rX (a0 : FVec F S8x2048x1024 .f32) (a1 : FVec F S8x2048x1024 .bf16) (a2 : FVec F S1024x1024 .f32) : FVec F S8x2048x1024 .f32 :=
  addf a0 (Host.dotGeneral dot_S8x2048x1024_S1024x1024_S8x2048x1024_2_0_01_1_n_n none (extf .f32 a1 bitsLt_bf16_f32) a2)

/-- The first normalisation. -/
def rH (X : FVec F S8x2048x1024 .f32) (a3 : FVec F S1024 .f32) : FVec F S8x2048x1024 .f32 :=
  mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 a3))

/-- The input product. -/
def rP (H : FVec F S8x2048x1024 .f32) (a4 : FVec F S1024x6144 .f32) : FVec F S8x2048x6144 .f32 :=
  Host.dotGeneral dot_S8x2048x1024_S1024x6144_S8x2048x6144_2_0_01_1_n_n none H a4

/-- The three branches. -/
def rU (P : FVec F S8x2048x6144 .f32) : FVec F S8x2048x2048 .f32 := extractStridedSlice S8x2048x2048 ![0, 0, 0] P slices_S8x2048x6144_S8x2048x2048_0_0_0
/-- The second branch: the next 2048 columns. -/
def rV (P : FVec F S8x2048x6144 .f32) : FVec F S8x2048x2048 .f32 := extractStridedSlice S8x2048x2048 ![0, 0, 2048] P slices_S8x2048x6144_S8x2048x2048_0_0_2048
/-- The third branch: the last 2048 columns. -/
def rG (P : FVec F S8x2048x6144 .f32) : FVec F S8x2048x2048 .f32 := extractStridedSlice S8x2048x2048 ![0, 0, 4096] P slices_S8x2048x6144_S8x2048x2048_0_0_4096

/-- The activation. -/
def rAct (A : FVec F S8x2048x2048 .f32) : FVec F S8x2048x2048 .f32 :=
  mulf A (mulf (broadcastInDim S8x2048x2048 ![] bcast_S_S8x2048x2048 (constant S_ .f32 0x3F000000#32)) (addf (broadcastInDim S8x2048x2048 ![] bcast_S_S8x2048x2048 (constant S_ .f32 0x3F800000#32)) (Host.tanh (mulf (broadcastInDim S8x2048x2048 ![] bcast_S_S8x2048x2048 (constant S_ .f32 0x3F4C422A#32)) (addf A (mulf (broadcastInDim S8x2048x2048 ![] bcast_S_S8x2048x2048 (constant S_ .f32 0x3D372713#32)) (mulf (mulf A A) A)))))))

/-- The second normalisation. -/
def rN (A : FVec F S8x2048x2048 .f32) (a5 : FVec F S2048 .f32) : FVec F S8x2048x2048 .f32 :=
  mulf (mulf A (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf A A) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 a5))

/-- The mixing matrices, the future positions dropped. -/
def rW (a6 : FVec F S8x128x128 .f32) : FVec F S8x128x128 .f32 :=
  select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) a6 (broadcastInDim S8x128x128 ![] bcast_S_S8x128x128 (id (constant S_ .f32 0x00000000#32)))

/-- The mixing, its bias added. -/
def rM (N : FVec F S8x2048x2048 .f32) (W : FVec F S8x128x128 .f32) (a7 : FVec F S8x128 .f32) : FVec F S8x16x128x8x256 .f32 :=
  addf (transpose S8x16x128x8x256 [1, 2, 4, 0, 3] (Host.dotGeneral dot_S8x16x128x8x256_S8x128x128_S8x8x16x256x128_2_2_014_1_3_0 none (shapeCast _ N shapeCasts_S8x2048x2048_S8x16x128x8x256) W) transposes_S8x8x16x256x128_S8x16x128x8x256_1_2_4_0_3) (broadcastInDim S8x16x128x8x256 ![0, 1, 2, 3, 4] bcast_S1x1x128x8x1_S8x16x128x8x256_0_1_2_3_4 (broadcastInDim S1x1x128x8x1 ![2, 3] bcast_S128x8_S1x1x128x8x1_2_3 (transpose S128x8 [1, 0] a7 transposes_S8x128_S128x8_1_0)))

/-- The gate. -/
def rS (G : FVec F S8x2048x2048 .f32) : FVec F S8x2048x2048 .f32 :=
  mulf G (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf G))))

/-- The layer's rows, from the stream, the branches and the mixed values. -/
def rO (X : FVec F S8x2048x1024 .f32) (A : FVec F S8x2048x2048 .f32) (M : FVec F S8x16x128x8x256 .f32) (S : FVec F S8x2048x2048 .f32) (a8 : FVec F S2048x1024 .f32) : FVec F S16384x1024 .f32 :=
  shapeCast _ (addf X (Host.dotGeneral dot_S8x2048x2048_S2048x1024_S8x2048x1024_2_0_01_1_n_n none (mulf (mulf A (shapeCast _ M shapeCasts_S8x16x128x8x256_S8x2048x2048)) S) a8)) shapeCasts_S8x2048x1024_S16384x1024

/-- All of the layer, from the stream. -/
def rLayer (X : FVec F S8x2048x1024 .f32) (a3 : FVec F S1024 .f32) (a4 : FVec F S1024x6144 .f32) (a5 : FVec F S2048 .f32) (a6 : FVec F S8x128x128 .f32) (a7 : FVec F S8x128 .f32) (a8 : FVec F S2048x1024 .f32) : FVec F S16384x1024 .f32 :=
  rO X (rAct (rU (rP (rH X a3) a4))) (rM (rN (rAct (rV (rP (rH X a3) a4))) a5) (rW a6) a7) (rS (rG (rP (rH X a3) a4))) a8

set_option maxHeartbeats 4000000 in
/-- The reference's result is the layer of the stream. -/
theorem out_eq (m : (ℓ : Loc nD τ sig) → Buf (Elt F) ℓ) (c : Dev nD) :
    Cert.ReferenceIdeal.Value.res_out0 m c = rLayer (rX (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.Value.res_out0 Cert.ReferenceIdeal.Value.res_main_v76 rLayer rO rS rM rW rN rAct rU rV rG rP rH rX
  rfl

end Cert.ReferenceIdeal.Own

end
-- ==== Proof.RefValue.lean ====
/- The reference's stages at an index, and its result in plain sums. -/
module

public import proofs.«01_k».proof.Proof.RefStages

@[expose] public section

set_option maxRecDepth 16384

noncomputable section

namespace Cert.ReferenceIdeal.Own

open Cert.ReferenceIdeal Cert.ReferenceIdeal.Gen Cert.Own Idealize.ShloMosaic Idealize.ShloMosaic.TcCoe Idealize.SL.Sem Idealize.ShloMosaic.StableHlo

/-- The stream at an index. -/
theorem rX_apply (a0 : FVec Ideal S8x2048x1024 .f32) (a1 : FVec Ideal S8x2048x1024 .bf16) (a2 : FVec Ideal S1024x1024 .f32) (b : Fin 8) (s : Fin 2048) (d : Fin 1024) :
    rX a0 a1 a2 (ix3 b s d) = a0 (ix3 b s d) + ∑ k : Fin 1024, a1 (ix3 b s k) * a2 (ix2 k d) := by
  unfold rX; pointwise

/-- The first normalisation at an index. -/
theorem rH_apply (X : FVec Ideal S8x2048x1024 .f32) (a3 : FVec Ideal S1024 .f32) (b : Fin 8) (s : Fin 2048) (d : Fin 1024) :
    rH X a3 (ix3 b s d) = rmsScale (X (ix3 b s d)) (∑ k : Fin 1024, X (ix3 b s k) * X (ix3 b s k)) (Ideal.ofBits .f32 0x44800000#32) (a3 (ix1 d)) := by
  unfold rH rmsScale; pointwise

/-- The input product at an index. -/
theorem rP_apply (H : FVec Ideal S8x2048x1024 .f32) (a4 : FVec Ideal S1024x6144 .f32) (b : Fin 8) (s : Fin 2048) (j : Fin 6144) :
    rP H a4 (ix3 b s j) = ∑ k : Fin 1024, H (ix3 b s k) * a4 (ix2 k j) := by
  unfold rP; pointwise

/-- The first branch at an index. -/
theorem rU_apply (P : FVec Ideal S8x2048x6144 .f32) (b : Fin 8) (s : Fin 2048) (e : Fin 2048) : rU P (ix3 b s e) = P (ix3 b s (colU e)) := by
  unfold rU colU; pointwise

/-- The second branch at an index. -/
theorem rV_apply (P : FVec Ideal S8x2048x6144 .f32) (b : Fin 8) (s : Fin 2048) (e : Fin 2048) : rV P (ix3 b s e) = P (ix3 b s (colV e)) := by
  unfold rV colV; pointwise

/-- The third branch at an index. -/
theorem rG_apply (P : FVec Ideal S8x2048x6144 .f32) (b : Fin 8) (s : Fin 2048) (e : Fin 2048) : rG P (ix3 b s e) = P (ix3 b s (colG e)) := by
  unfold rG colG; pointwise

/-- The activation at an index. -/
theorem rAct_apply (A : FVec Ideal S8x2048x2048 .f32) (j : S8x2048x2048.Idx) : rAct A j = gelu (A j) := by
  unfold rAct gelu; rw [← of_half, ← of_root, ← of_cube]; pointwise

/-- The second normalisation at an index. -/
theorem rN_apply (A : FVec Ideal S8x2048x2048 .f32) (a5 : FVec Ideal S2048 .f32) (b : Fin 8) (s : Fin 2048) (e : Fin 2048) :
    rN A a5 (ix3 b s e) = rmsScale (A (ix3 b s e)) (∑ k : Fin 2048, A (ix3 b s k) * A (ix3 b s k)) (Ideal.ofBits .f32 0x45000000#32) (a5 (ix1 e)) := by
  unfold rN rmsScale; pointwise

/-- The reference's mask is the causal one. -/
theorem causal : ∀ p q : Fin 128, Scalar.select (IntOp.cmpi CmpIPredicate.sge (IntOp.addi (BitVec.ofNat 32 p.val) 0#32) (BitVec.ofNat 32 q.val)) 1#1 0#1 = if q ≤ p then 1#1 else 0#1 := by decide +kernel

/-- The zero of the masked entries. -/
theorem zero_const (j : S_.Idx) : constant (F := Ideal) S_ .f32 0x00000000#32 j = (0 : EReal) := Ideal.ofBits_zero_f32

/-- The masked matrices at an index. -/
theorem rW_apply (a6 : FVec Ideal S8x128x128 .f32) (g : Fin 8) (p q : Fin 128) :
    rW a6 (ix3 g p q) = if q ≤ p then a6 (ix3 g p q) else 0 := by
  unfold rW; pointwise
  rw [causal, id_eq, zero_const]
  split <;> rfl

/-- The mixing at an index. -/
theorem rM_apply (N : FVec Ideal S8x2048x2048 .f32) (W : FVec Ideal S8x128x128 .f32) (a7 : FVec Ideal S8x128 .f32) (b : Fin 8) (n : Fin 16) (p : Fin 128) (g : Fin 8) (e : Fin 256) :
    rM N W a7 (ix5 b n p g e) = (∑ q : Fin 128, N (ix3 b ⟨128 * n.val + q.val, by omega⟩ ⟨256 * g.val + e.val, by omega⟩) * W (ix3 g p q)) + a7 (ix2 g p) := by
  unfold rM; pointwise
  refine congrArg (· + _) (Finset.sum_congr rfl fun q _ => ?_)
  simp only [mul_comm]

/-- The gate at an index. -/
theorem rS_apply (G : FVec Ideal S8x2048x2048 .f32) (j : S8x2048x2048.Idx) : rS G j = silu (G j) := by
  unfold rS silu; pointwise

/-- The layer's output at a row and a column. -/
theorem rO_apply (X : FVec Ideal S8x2048x1024 .f32) (A : FVec Ideal S8x2048x2048 .f32) (M : FVec Ideal S8x16x128x8x256 .f32) (S : FVec Ideal S8x2048x2048 .f32) (a8 : FVec Ideal S2048x1024 .f32) (r : Fin 16384) (d : Fin 1024) :
    rO X A M S a8 (ix2 r d) = X (ix3 ⟨r.val / 2048, by omega⟩ ⟨r.val % 2048, by omega⟩ d)
      + ∑ e : Fin 2048, A (ix3 ⟨r.val / 2048, by omega⟩ ⟨r.val % 2048, by omega⟩ e) * M (ix5 ⟨r.val / 2048, by omega⟩ ⟨r.val % 2048 / 128, by omega⟩ (place r) (grp e) ⟨e.val % 256, by omega⟩)
        * S (ix3 ⟨r.val / 2048, by omega⟩ ⟨r.val % 2048, by omega⟩ e) * a8 (ix2 e d) := by
  unfold rO; pointwise
  refine congrArg (_ + ·) (Finset.sum_congr rfl fun e _ => ?_)
  have h : (⟨r.val % 2048 % 128, by omega⟩ : Fin 128) = place r := Fin.ext (show r.val % 2048 % 128 = r.val % 128 by omega)
  rw [← h]; rfl

/-- The row `r` of a three-dimensional stream. -/
def rowsOf (X : FVec Ideal S8x2048x1024 .f32) (r : Fin 16384) (d : Fin 1024) : EReal := X (ix3 ⟨r.val / 2048, by omega⟩ ⟨r.val % 2048, by omega⟩ d)

/-- The stream's place of a row's mate in its chunk. -/
theorem mate_div (r : Fin 16384) (q : Fin 128) : (⟨(mate r q).val / 2048, by omega⟩ : Fin 8) = ⟨r.val / 2048, by omega⟩ :=
  Fin.ext (show (128 * (r.val / 128) + q.val) / 2048 = r.val / 2048 by omega)

/-- The position of a row's mate in its sequence. -/
theorem mate_mod (r : Fin 16384) (q : Fin 128) : (⟨(mate r q).val % 2048, by omega⟩ : Fin 2048) = ⟨128 * (r.val % 2048 / 128) + q.val, by omega⟩ :=
  Fin.ext (show (128 * (r.val / 128) + q.val) % 2048 = 128 * (r.val % 2048 / 128) + q.val by omega)

/-- The reference's layer at a row and a column. -/
theorem rLayer_apply (X : FVec Ideal S8x2048x1024 .f32) (a3 : FVec Ideal S1024 .f32) (a4 : FVec Ideal S1024x6144 .f32) (a5 : FVec Ideal S2048 .f32) (a6 : FVec Ideal S8x128x128 .f32) (a7 : FVec Ideal S8x128 .f32) (a8 : FVec Ideal S2048x1024 .f32) (r : Fin 16384) (d : Fin 1024) :
    rLayer X a3 a4 a5 a6 a7 a8 (ix2 r d) = layer (rowsOf X) (fun d => a3 (ix1 d)) (fun k j => a4 (ix2 k j)) (fun e => a5 (ix1 e))
      (fun g p q => a6 (ix3 g p q)) (fun g p => a7 (ix2 g p)) (fun e d => a8 (ix2 e d)) r d := by
  have hP : ∀ (b : Fin 8) (s : Fin 2048) (j : Fin 6144), rP (rH X a3) a4 (ix3 b s j) = rowP (rowH (fun d => X (ix3 b s d)) (fun d => a3 (ix1 d))) (fun k j => a4 (ix2 k j)) j := fun b s j => by
    rw [rP_apply]; simp only [rH_apply]; rfl
  have hN : ∀ (q : Fin 128) (e : Fin 2048), rN (rAct (rV (rP (rH X a3) a4))) a5 (ix3 ⟨r.val / 2048, by omega⟩ ⟨128 * (r.val % 2048 / 128) + q.val, by omega⟩ e)
      = branchN (rowsOf X (mate r q)) (fun d => a3 (ix1 d)) (fun k j => a4 (ix2 k j)) (fun e => a5 (ix1 e)) e := fun q e => by
    rw [rN_apply]; simp only [rAct_apply, rV_apply, hP]
    unfold branchN rowN rowsOf
    simp only [mate_div, mate_mod]
  unfold rLayer
  rw [rO_apply]
  unfold layer rowO
  refine congrArg (_ + ·) (Finset.sum_congr rfl fun e _ => congrArg (· * _) ?_)
  rw [rAct_apply, rU_apply, hP, rS_apply, rG_apply, hP, rM_apply]
  have he : (⟨256 * (grp e).val + e.val % 256, by have := (grp e).isLt; omega⟩ : Fin 2048) = e := Fin.ext (show 256 * (e.val / 256) + e.val % 256 = e.val by omega)
  unfold rowY mix
  refine congrArg (· * _) (congrArg (_ * ·) (congrArg (· + _) (Finset.sum_congr rfl fun q _ => ?_)))
  dsimp only
  rw [he, hN, rW_apply]

end Cert.ReferenceIdeal.Own

end
-- ==== Proof.Parts.lean ====
/- The claims' parts about this pair of programs, from the runs and the values. -/
module

public import proofs.«01_k».proof.Defs
public import proofs.«01_k».proof.Proof.BitsRun
public import proofs.«01_k».proof.Proof.KValue
public import proofs.«01_k».proof.Proof.RefValue

@[expose] public section

set_option maxRecDepth 16384

noncomputable section

namespace Cert.Parts

open Idealize.ShloMosaic Idealize.ShloMosaic.TcCoe Idealize.SL.Sem Cert.Own

/-- The kernel ends with its arguments unchanged and its counters at zero, over the bit patterns. -/
theorem frame_p : Cert.quiescent_Kernel (hKernel := Cert.Kernel.Gen.facts) := fun m ρ _ => Cert.Kernel.Own.frame m ρ

/-- The same of the kernel over the extended reals. -/
theorem frame_i : Cert.quiescent_KernelIdeal (hKernelIdeal := Cert.KernelIdeal.Gen.facts) := fun m ρ _ => Cert.KernelIdeal.Own.frame m ρ

/-- The reference ends with its arguments unchanged; it has no counter. -/
theorem frame_r : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant is the nearest single to its value. -/
theorem preserves : Cert.preserves_Kernel_KernelIdeal :=
  IdealRules.named_const.statement Cert.KernelIdeal.κ "gelu_cub" .f32 0x3E922279#32 ((80338380498831 / 281474976710656 : ℝ) : EReal) rfl

/-- The reference's result at a row and a column is the layer of its arguments. -/
theorem ref_value (m : (ℓ : Loc Cert.ReferenceIdeal.nD Cert.ReferenceIdeal.τ Cert.ReferenceIdeal.sig) → Buf (Elt Ideal) ℓ) (c : Dev Cert.ReferenceIdeal.nD) (r : Fin 16384) (d : Fin 1024) :
    Cert.ReferenceIdeal.Value.res_out0 m c (ix2 r d)
      = layer (fun r => rowX (fun d => m ((c.tc : Thread Cert.ReferenceIdeal.nD Cert.ReferenceIdeal.τ).loc Cert.ReferenceIdeal.main_arg0) (ix3 ⟨r.val / 2048, by omega⟩ ⟨r.val % 2048, by omega⟩ d))
            (fun k => m ((c.tc : Thread Cert.ReferenceIdeal.nD Cert.ReferenceIdeal.τ).loc Cert.ReferenceIdeal.main_arg1) (ix3 ⟨r.val / 2048, by omega⟩ ⟨r.val % 2048, by omega⟩ k))
            (fun k d => m ((c.tc : Thread Cert.ReferenceIdeal.nD Cert.ReferenceIdeal.τ).loc Cert.ReferenceIdeal.main_arg2) (ix2 k d)))
          (fun d => m ((c.tc : Thread Cert.ReferenceIdeal.nD Cert.ReferenceIdeal.τ).loc Cert.ReferenceIdeal.main_arg3) (ix1 d))
          (fun k j => m ((c.tc : Thread Cert.ReferenceIdeal.nD Cert.ReferenceIdeal.τ).loc Cert.ReferenceIdeal.main_arg4) (ix2 k j))
          (fun e => m ((c.tc : Thread Cert.ReferenceIdeal.nD Cert.ReferenceIdeal.τ).loc Cert.ReferenceIdeal.main_arg5) (ix1 e))
          (fun g p q => m ((c.tc : Thread Cert.ReferenceIdeal.nD Cert.ReferenceIdeal.τ).loc Cert.ReferenceIdeal.main_arg6) (ix3 g p q))
          (fun g p => m ((c.tc : Thread Cert.ReferenceIdeal.nD Cert.ReferenceIdeal.τ).loc Cert.ReferenceIdeal.main_arg7) (ix2 g p))
          (fun e d => m ((c.tc : Thread Cert.ReferenceIdeal.nD Cert.ReferenceIdeal.τ).loc Cert.ReferenceIdeal.main_arg8) (ix2 e d)) r d := by
  rw [Cert.ReferenceIdeal.Own.out_eq, Cert.ReferenceIdeal.Own.rLayer_apply]
  refine congrArg (fun X => layer X _ _ _ _ _ _ r d) ?_
  funext r d
  exact Cert.ReferenceIdeal.Own.rX_apply _ _ _ _ _ _

/-- The kernel's array is the reference's result, from equal arguments. -/
theorem values_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (Cert.ReferenceIdeal.Value.res_out0 m' c : FVec Ideal Cert.ReferenceIdeal.S16384x1024 .f32) = fun j => Cert.KernelIdeal.Own.result m c (j 0) (j 1) := by
  funext j
  idx_vars j
  rw [ref_value]
  simp only [h]
  rfl

/-- From equal arguments the kernel and the reference both run, and end with the same result and unchanged arguments. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => (fun j => Cert.KernelIdeal.Own.result m c (j 0) (j 1)), ?_, ?_⟩
  · refine (θ_run Cert.KernelIdeal.defs _ _).mono (fun r h c => ⟨?_, h.1.1 c⟩)
      (θ_run_and (Cert.KernelIdeal.Own.frame m ρ) (Cert.KernelIdeal.Own.run_main m ρ))
    exact (h.2.1.out_eq c 8).trans (Cert.KernelIdeal.Own.final m c)
  · refine (θ_run Cert.ReferenceIdeal.defs _ _).mono (fun r h c => ⟨?_, (h c).2⟩) (Cert.ReferenceIdeal.Value.run (F := Ideal) m' ρ')
    exact (h c).1.trans (values_eq m m' c (hagree c))

end Cert.Parts

end
-- ==== Proof.L0Base.lean ====
/- The setting of the gMLP layer kernel: the launch with copies of its own, the staging blocks, the grid condition. -/
module

public import proofs.«01_k».proof.Proof.Gen.Kernel2Ideal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main is its host operations, then the kernel's region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Window 0's staging buffer holds its block at every point, for proof data over the arrays at entry whose body leaves the block. -/
theorem before0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1's staging buffer holds its block at every point, for proof data over the arrays at entry whose body leaves the block. -/
theorem before1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2's staging buffer holds its block at every point, for proof data over the arrays at entry whose body leaves the block. -/
theorem before2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3's staging buffer holds its block at every point, for proof data over the arrays at entry whose body leaves the block. -/
theorem before3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4's staging buffer holds its block at every point, for proof data over the arrays at entry whose body leaves the block. -/
theorem before4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5's staging buffer holds its block at every point, for proof data over the arrays at entry whose body leaves the block. -/
theorem before5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- A run that leaves every array as the proof data say leaves the arguments unchanged. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats 0 c).arrAt_in 3 rfl _).trans ((hA c 3).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-- The guard of the copying branch, from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The staging buffers at a grid point, each whole. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x8 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .f32 := win0_6.stage (cfg0.slots t 6)
abbrev hs0_6 (t : Fin cfg0.N) : (ms0_6 t).IsWhole := hstage0_6 ((cfg0.slots t 6).cast nbuf0_6)
/-- The scratch buffers. -/
abbrev scM0_0 : Memref sig .tc .vmem S512x2048 .bf16 := Memref.whole cc0_scratch0
/-- The buffer of the gated rows. -/
abbrev scM0_1 : Memref sig .tc .vmem S512x2048 .bf16 := Memref.whole cc0_scratch1
/-- The buffer of the halved weight. -/
abbrev scM0_2 : Memref sig .tc .vmem S1024x6144 .bf16 := Memref.whole cc0_scratch2
/-- The staging pair of the copies. -/
abbrev scM0_3 : Memref sig .tc .vmem S2x1024x1024 .f32 := Memref.whole cc0_scratch3
/-- The halved weight scratch as a view: it is carried from point to point. -/
abbrev VS0_2 : View sig .tc .vmem S1024x6144 .bf16 := scM0_2.view
/-- The input weight, left in HBM: the body copies it itself. -/
abbrev hbM0_0 : Memref sig .tc .hbm S1024x6144 .f32 := Memref.whole main_arg2
/-- A memref's buffer on a core, and the core owning it whole. -/
abbrev HbBuf0 (c : Dev nD) {sp : Space} {S : Shape} {e : EltTy} (M : Memref sig .tc sp S e) : Type := Buf (Elt F) (M.view.loc (c : Thread nD τ))
/-- The weight's buffer in HBM holds the named contents. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The two copy semaphores. -/
abbrev osem0 : Fin 2 → SemLoc sig := fun j => (![SemLoc.dma 9, SemLoc.dma 10] : Fin 2 → SemLoc sig) j
/-- The copies' counters are the kernel's own. -/
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0) := by
  rw [Pipeline.ownSems0_eq_of_list c osem0 [0, 1] (by decide) (by decide)]; rfl
/-- The one array the body copies. -/
def H0 : Finset (Ref sig .tc) := {main_arg2}
/-- The buffer that the copies read is none of the windows'. -/
theorem H0_sub : H0 ⊆ Pipeline.restRefs sig spec0 := by decide
/-- It is held at its contents at entry. -/
theorem hbmPts0_eq (c : Dev nD) :
    (bigSep H0 (fun b => ((c : Thread nD τ).loc b) ↦{fullShare} V m c b) : sProp 𝕄) = iprop(hbPt0 c hbM0_0 (V m c main_arg2)) := by
  rw [BI.bigSep_eq_bigSepL_of_eq [main_arg2] (by decide) (by decide)]; rfl

/-- What the region hands the body beside the windows, listed. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 9) 0 ∗ semVal ((c : Thread nD τ), SemLoc.dma 10) 0) ∗ iprop(hbPt0 c hbM0_0 (V m c main_arg2))) := by
  rw [Pipeline.ΦD_eq, scopedRest0_eq, ownSems00_eq, hbmPts0_eq]; simp only [scM0_0, scM0_1, scM0_2, scM0_3, owns_whole]; try rfl

end Cert.Kernel2Ideal.Own

end
-- ==== Proof.L0Fill.lean ====
/- The first part of the body: the copies and halving of the input weight, and the block's normalised rows. -/
module

public import proofs.«01_k».proof.Proof.L0Base
public import proofs.«01_k».proof.Proof.Gen.Kernel2Ideal.Skeleton
public import Idealize.ShloMosaic.Lib.WritesUnit
public import Idealize.ShloMosaic.Lib.VecWindow
public import Idealize.ShloMosaic.Lib.Pipeline.Value

@[expose] public section

set_option maxRecDepth 16384

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The input weight halved and rounded: what the body keeps from the first point on. -/
def halfW (w : Vec F S1024x6144 .f32) : FVec F S1024x6144 .bf16 :=
  truncf .bf16 (mulf (broadcast S1024x6144 (Scalar.ofBits .f32 0x3F000000#32 : F .f32)) w) bitsLt_bf16_f32

/-- The part's slot of the copy buffer, as a matrix. -/
abbrev slotM (A : Memref sig .tc .vmem S2x1024x1024 .f32) (off : Fin S2x1024x1024.rank → ℕ) (inb : ∀ a, off a + S1x1024x1024.size a ≤ S2x1024x1024.size a)
    : Memref sig .tc .vmem S1024x1024 .f32 :=
  (A.slice (Rect.unit (s := S2x1024x1024) off S1x1024x1024.size inb) (fun _ => rfl)).squeeze S1024x1024 squeezes_S1x1024x1024_S1024x1024

/-- A slot read back after a copy into it holds the copy. -/
theorem slot_same (A : Memref sig .tc .vmem S2x1024x1024 .f32) (off : Fin S2x1024x1024.rank → ℕ) (inb) (f : A.view.ty.Contents (Elt F)) (w : S1024x1024.Idx → Elt F .f32) :
    shapeCast S1024x1024 (A.view.readAt (Elt F) (Rect.unit (s := S2x1024x1024) off S1x1024x1024.size inb).toLoadRect
      ((slotM A off inb).view.write (Elt F) f w Finset.univ)) shapeCasts_S1x1024x1024_S1024x1024 = w := by
  have e : (slotM A off inb).view.write (Elt F) f w Finset.univ
      = A.view.writes (Elt F) f [⟨Rect.unit (s := S2x1024x1024) off S1x1024x1024.size inb, fun x => w ((Shape.reshapeEquiv (by decide : S1024x1024.numel = S1x1024x1024.numel)).symm x)⟩] :=
    View.write_reshape_univ (A.view.slice (Rect.unit (s := S2x1024x1024) off S1x1024x1024.size inb)) (show S1024x1024.numel = S1x1024x1024.numel by decide) f w
  rw [e]
  funext y
  refine (View.read_writes_cons_emb A.view f _ _ [] _).trans ?_
  exact congrArg w (Equiv.symm_apply_apply (Shape.reshapeEquiv (by decide : S1024x1024.numel = S1x1024x1024.numel)) y)

/-- A slot read back after a copy into the other slot holds what it held. -/
theorem slot_other (A : Memref sig .tc .vmem S2x1024x1024 .f32) (off off' : Fin S2x1024x1024.rank → ℕ) (inb inb') (f : A.view.ty.Contents (Elt F)) (w : S1024x1024.Idx → Elt F .f32)
    (h : off 0 + 1 ≤ off' 0 ∨ off' 0 + 1 ≤ off 0) :
    A.view.readAt (Elt F) (Rect.unit (s := S2x1024x1024) off S1x1024x1024.size inb).toLoadRect
      ((slotM A off' inb').view.write (Elt F) f w Finset.univ)
     = A.view.readAt (Elt F) (Rect.unit (s := S2x1024x1024) off S1x1024x1024.size inb).toLoadRect f := by
  have e : (slotM A off' inb').view.write (Elt F) f w Finset.univ
      = A.view.writes (Elt F) f [⟨Rect.unit (s := S2x1024x1024) off' S1x1024x1024.size inb', fun x => w ((Shape.reshapeEquiv (by decide : S1024x1024.numel = S1x1024x1024.numel)).symm x)⟩] :=
    View.write_reshape_univ (A.view.slice (Rect.unit (s := S2x1024x1024) off' S1x1024x1024.size inb')) (show S1024x1024.numel = S1x1024x1024.numel by decide) f w
  rw [e]
  funext y
  refine View.read_writes_cons_unit_of_not_mem A.view f inb' _ [] _ rfl 0 ?_
  have hy : (y 0).val < 1 := (y 0).isLt
  show off 0 + 1 * (y 0).val < off' 0 ∨ off' 0 + 1 ≤ off 0 + 1 * (y 0).val
  omega

/-- A slot read back after a copy into it and then one into the other slot. -/
theorem slot_two (A : Memref sig .tc .vmem S2x1024x1024 .f32) (off off' : Fin S2x1024x1024.rank → ℕ) (inb inb') (f : A.view.ty.Contents (Elt F)) (w w' : S1024x1024.Idx → Elt F .f32)
    (h : off 0 + 1 ≤ off' 0 ∨ off' 0 + 1 ≤ off 0) :
    shapeCast S1024x1024 (A.view.readAt (Elt F) (Rect.unit (s := S2x1024x1024) off S1x1024x1024.size inb).toLoadRect
      ((slotM A off' inb').view.write (Elt F) ((slotM A off inb).view.write (Elt F) f w Finset.univ) w' Finset.univ)) shapeCasts_S1x1024x1024_S1024x1024 = w := by
  rw [slot_other A off off' inb inb' _ w' h]; exact slot_same A off inb f w

/-- An entailment onto a predicate at one of two equal results. -/
theorem ent_congr {α : Type} {P : sProp 𝕄} {Q : α → sProp 𝕄} {x y : α} (e : y = x) (h : P ⊢ Q y) : P ⊢ Q x := e ▸ h

/-- The chunk of the input weight copied from column `o` on. -/
def chunkW (w : Vec F S1024x6144 .f32) (off : Fin S1024x6144.rank → ℕ) (inb : ∀ a, off a + S1024x1024.size a ≤ S1024x6144.size a) : FVec F S1024x1024 .f32 :=
  fun x => w ((Rect.unit (s := S1024x6144) off S1024x1024.size inb).emb x)

/-- Halving and rounding a chunk gives the chunk of the halved, rounded weight. -/
theorem pay_chunk (w : Vec F S1024x6144 .f32) (off) (inb) (x : S1024x1024.Idx) (v : Vec F S1x1024x1024 .f32)
    (h : shapeCast S1024x1024 v shapeCasts_S1x1024x1024_S1024x1024 = chunkW w off inb) :
    k0_pay4 v x = halfW w ((Rect.unit (s := S1024x6144) off S1024x1024.size inb).emb x) := by
  simp only [k0_pay4, shapeCast_self]
  rw [h]; rfl

/-- What the first part hands on, from the block's rows, the weights and the halved weight kept. -/
abbrev firstOut (x0 : Vec F S512x1024 .f32) (x1 : Vec F S1x1024 .f32) (x2 : Vec F S1x2048 .f32) (wh : Vec F S1024x6144 .bf16) :
    (Σ' (v4 : FVec F S512x1024 .f32) (v19 : FVec F S512x1024 .bf16) (v31 : FVec F S512x2048 .f32) (v33 : FVec F S1x2048 .f32), FVec F S512x1 .f32) :=
  ⟨k0_pay11 x0, k0_pay12 x0 x1, k0_pay13 x0 x1 (fun y => wh ((Rect.unit (s := S1024x6144) ![0, 2048] S1024x2048.size inb_S1024x6144_S1024x2048_0_2048).emb y)), k0_pay14 x2, k0_pay15 x0 x1 (fun y => wh ((Rect.unit (s := S1024x6144) ![0, 2048] S1024x2048.size inb_S1024x6144_S1024x2048_0_2048).emb y))⟩

/-- The same from the values the loads return. -/
theorem firstOut_eq (x0 a0 : Vec F S512x1024 .f32) (x1 a1 : Vec F S1x1024 .f32) (x2 a2 : Vec F S1x2048 .f32) (wh : Vec F S1024x6144 .bf16) (b : Vec F S1024x2048 .bf16)
    (h0 : a0 = x0) (h3 : a1 = x1) (h4 : a2 = x2) (hb : b = fun y => wh ((Rect.unit (s := S1024x6144) ![0, 2048] S1024x2048.size inb_S1024x6144_S1024x2048_0_2048).emb y)) :
    firstOut x0 x1 x2 wh = ⟨k0_pay11 a0, k0_pay12 a0 a1, k0_pay13 a0 a1 b, k0_pay14 a2, k0_pay15 a0 a1 b⟩ := by
  subst h0 h3 h4 hb; rfl

/-- The six halved chunks, stored one beside the other, are the halved weight. -/
theorem halves (V : View sig .tc .vmem S1024x6144 .bf16) (f : V.ty.Contents (Elt F)) (w : Vec F S1024x6144 .f32) (w0 w1 w2 w3 w4 w5 : Vec F S1x1024x1024 .f32)
    (h0 : shapeCast S1024x1024 w0 shapeCasts_S1x1024x1024_S1024x1024 = chunkW w ![0, 0] inb_S1024x6144_S1024x1024_0_0) (h1 : shapeCast S1024x1024 w1 shapeCasts_S1x1024x1024_S1024x1024 = chunkW w ![0, 1024] inb_S1024x6144_S1024x1024_0_1024) (h2 : shapeCast S1024x1024 w2 shapeCasts_S1x1024x1024_S1024x1024 = chunkW w ![0, 2048] inb_S1024x6144_S1024x1024_0_2048) (h3 : shapeCast S1024x1024 w3 shapeCasts_S1x1024x1024_S1024x1024 = chunkW w ![0, 3072] inb_S1024x6144_S1024x1024_0_3072) (h4 : shapeCast S1024x1024 w4 shapeCasts_S1x1024x1024_S1024x1024 = chunkW w ![0, 4096] inb_S1024x6144_S1024x1024_0_4096) (h5 : shapeCast S1024x1024 w5 shapeCasts_S1x1024x1024_S1024x1024 = chunkW w ![0, 5120] inb_S1024x6144_S1024x1024_0_5120) :
    V.read (Elt F) (V.writes (Elt F) f [⟨Rect.unit (s := S1024x6144) ![0, 5120] S1024x1024.size inb_S1024x6144_S1024x1024_0_5120, k0_pay10 w5⟩,
      ⟨Rect.unit (s := S1024x6144) ![0, 4096] S1024x1024.size inb_S1024x6144_S1024x1024_0_4096, k0_pay9 w4⟩,
      ⟨Rect.unit (s := S1024x6144) ![0, 3072] S1024x1024.size inb_S1024x6144_S1024x1024_0_3072, k0_pay8 w3⟩,
      ⟨Rect.unit (s := S1024x6144) ![0, 2048] S1024x1024.size inb_S1024x6144_S1024x1024_0_2048, k0_pay7 (k0_pay6 w2) (Scalar.ofBits .f32 0x3F000000#32)⟩,
      ⟨Rect.unit (s := S1024x6144) ![0, 1024] S1024x1024.size inb_S1024x6144_S1024x1024_0_1024, k0_pay5 w1⟩,
      ⟨Rect.unit (s := S1024x6144) ![0, 0] S1024x1024.size inb_S1024x6144_S1024x1024_0_0, k0_pay4 w0⟩]) = halfW w := by
  funext y
  refine View.read_writes_apply_of_pieces V f (halfW w) _ ?_ y ?_
  rotate_left
  · exact View.cover_of_tiledL (s := S1024x6144) _ S1024x1024.size (by sl_kernel_rfl) y
  intro p hp x
  simp only [List.mem_cons, List.not_mem_nil, or_false] at hp
  rcases hp with rfl | rfl | rfl | rfl | rfl | rfl
  · exact pay_chunk w _ _ x w5 h5
  · exact pay_chunk w _ _ x w4 h4
  · exact pay_chunk w _ _ x w3 h3
  · exact pay_chunk w _ _ x w2 h2
  · exact pay_chunk w _ _ x w1 h1
  · exact pay_chunk w _ _ x w0 h0

set_option maxHeartbeats 1600000 in set_option sl_exec.dmaWindow true in set_option sl_exec.dmaWindowSet true in set_option sl_exec.squeezeSlice true in
/-- The first part of the body at a later point: the kept scratch is read. -/
theorem part4_B (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S8x128x128 .f32) (harg5 : arg5.IsWhole) (arg6 : Memref sig .tc .vmem S128x8 .f32) (harg6 : arg6.IsWhole) (arg7 : Memref sig .tc .vmem S2048x1024 .bf16) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1024x6144 .bf16) (harg11 : arg11.IsWhole) (arg12 : Memref sig .tc .vmem S2x1024x1024 .f32) (harg12 : arg12.IsWhole) (hc0 : ¬cond0_0 i)
    (x0 : Vec F S512x1024 .f32) (x1 : Vec F S1x1024 .f32) (x2 : Vec F S1x2048 .f32) (xs2 : Vec F S1024x6144 .bf16) (fh0 : HbBuf0 (F := F) c hbM0_0)
    (W : Waits sig Unit) (Q : (Σ' (v4 : FVec F S512x1024 .f32) (v19 : FVec F S512x1024 .bf16) (v31 : FVec F S512x2048 .f32) (v33 : FVec F S1x2048 .f32), FVec F S512x1 .f32) → sProp 𝕄) :
        iprop(owns (c : Thread nD τ) arg1 fullShare x0 ∗ owns (c : Thread nD τ) arg2 fullShare x1 ∗ owns (c : Thread nD τ) arg4 fullShare x2 ∗ owns (c : Thread nD τ) arg11 fullShare xs2 ∗ (∃ d, owns (c : Thread nD τ) arg12 fullShare d) ∗ semVal ((c : Thread nD τ), SemLoc.dma 9) 0 ∗ semVal ((c : Thread nD τ), SemLoc.dma 10) 0 ∗ hbPt0 c hbM0_0 fh0 ∗ owes (c : Thread nD τ) 0 W
         ∗ (iprop(owns (c : Thread nD τ) arg1 fullShare x0 ∗ owns (c : Thread nD τ) arg2 fullShare x1 ∗ owns (c : Thread nD τ) arg4 fullShare x2 ∗ owns (c : Thread nD τ) arg11 fullShare (xs2) ∗ (∃ d, owns (c : Thread nD τ) arg12 fullShare d) ∗ semVal ((c : Thread nD τ), SemLoc.dma 9) 0 ∗ semVal ((c : Thread nD τ), SemLoc.dma 10) 0 ∗ hbPt0 c hbM0_0 fh0 ∗ (∃ W', owes (c : Thread nD τ) 0 W'))
            -∗ Q (firstOut x0 x1 x2 (xs2))))
          ⊢ wp frame (wpE (defs₀ (F := F)) Variants.none c none) Set.univ (k0_part4 i arg1 harg1 arg2 harg2 (Memref.whole main_arg2) (Memref.isWhole_whole _) arg4 harg4 arg5 harg5 arg6 harg6 arg7 harg7 arg8 harg8 arg9 harg9 arg10 harg10 arg11 harg11 arg12 harg12 cc0_scratch4) Q := by
    simp only [k0_part4_eq_skeleton]; unfold k0_part4_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%fs2, %hfs2, HS2⟩, ⟨%ds3, %fs3, -, HS3⟩, Hq0, Hq1, Hh0, HW, Hk⟩
    obtain rfl := harg1.eq_unread hf0; obtain rfl := harg2.eq_unread hf1; obtain rfl := harg4.eq_unread hf2
    obtain rfl := harg11.eq_unread hfs2
    sl_exec (disch := first | sl_exact hc0)
    sl_step
    rw [← firstOut_eq x0 _ x1 _ x2 _ xs2 _ ((View.readAt_full _ _ _).trans (harg1.read_unread _))
      ((View.readAt_full _ _ _).trans (harg2.read_unread _)) ((View.readAt_full _ _ _).trans (harg4.read_unread _)) (by funext y; exact congrFun (harg11.read_unread xs2) _)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [HS2]
    · iexists _; isplitr; swap; · iexact HS2
      ipureintro; exact harg11.read_unread _
    isplitl [HS3]
    · iexists _, _; isplitr; swap; · iexact HS3
      ipureintro; rfl
    isplitl [Hq0]; · iexact Hq0
    isplitl [Hq1]; · iexact Hq1
    isplitl [Hh0]; · iexact Hh0
    iexists _; iexact HW

end Cert.Kernel2Ideal.Own

end
-- ==== Proof.L0Tile.lean ====
/- One chunk of one group of the gated rows, and the rows of a block put together from them. -/
module

public import proofs.«01_k».proof.Proof.L0Fill

@[expose] public section

set_option maxRecDepth 16384

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The chunk's rows of a group's columns fit. -/
theorem slices_row (r : Fin 4) : S512x256.Slices ![128 * r.val, 0] S128x256 := by
  fin_cases r <;> decide
/-- A group's columns of the first branch lie in the weight. -/
theorem inb_u (g : Fin 8) : ∀ a, (![0, 256 * g.val] : Fin 2 → ℕ) a + S1024x256.size a ≤ S1024x6144.size a := by fin_cases g <;> decide
/-- A group's columns of the gate lie in the weight. -/
theorem inb_g (g : Fin 8) : ∀ a, (![0, 4096 + 256 * g.val] : Fin 2 → ℕ) a + S1024x256.size a ≤ S1024x6144.size a := by fin_cases g <;> decide
/-- A group's mixing matrix lies in the stack. -/
theorem inb_s (g : Fin 8) : ∀ a, (![g.val, 0, 0] : Fin 3 → ℕ) a + S1x128x128.size a ≤ S8x128x128.size a := by fin_cases g <;> decide
/-- A group's bias is a column of the bias. -/
theorem inb_b (g : Fin 8) : ∀ a, (![0, g.val] : Fin 2 → ℕ) a + S128x1.size a ≤ S128x8.size a := by fin_cases g <;> decide
/-- A chunk's rows and a group's columns lie in the block. -/
theorem inb_y (r : Fin 4) (g : Fin 8) : ∀ a, (![128 * r.val, 256 * g.val] : Fin 2 → ℕ) a + S128x256.size a ≤ S512x2048.size a := by
  have h1 := r.isLt; have h2 := g.isLt
  intro a; fin_cases a
  · show 128 * r.val + 128 ≤ 512; omega
  · show 256 * g.val + 256 ≤ 2048; omega

/-- A chunk of a group: the first branch times the mixed values times the gate. -/
def tileOf (r : Fin 4) (v25 : FVec F S512x1024 .bf16) (wu wg : Vec F S1024x256 .bf16) (ws : Vec F S1x128x128 .f32) (b : Vec F S128x1 .f32) (vn : Vec F S128x256 .bf16) : FVec F S128x256 .bf16 :=
  shapeCast S128x256 (truncf .bf16 (mulf (mulf (extractStridedSlice S128x256 ![128 * r.val, 0] (k0_pay18 v25 wu) (slices_row r))
    (addf (matmul dot_S128x128_S128x256_S128x256_1_0_0_1_n_n none (k0_pay80 k0_pay17 ws) vn (constant S128x256 .f32 0x00000000#32)) (broadcastTo S128x256 (k0_pay81 b) broadcasts_S128x1_S128x256)))
    (extractStridedSlice S128x256 ![128 * r.val, 0] (k0_pay19 v25 wg) (slices_row r))) bitsLt_bf16_f32) shapeCasts_S128x256_S128x256

/-- The chunk `r` of the group `g`, from the arrays the body holds. -/
def tileG (v25 : FVec F S512x1024 .bf16) (wh : Vec F S1024x6144 .bf16) (x3 : Vec F S8x128x128 .f32) (x4 : Vec F S128x8 .f32) (vn : Vec F S512x2048 .bf16) (r : Fin 4) (g : Fin 8) : FVec F S128x256 .bf16 :=
  tileOf r v25 (fun j => wh ((Rect.unit (s := S1024x6144) ![0, 256 * g.val] S1024x256.size (inb_u g)).emb j))
    (fun j => wh ((Rect.unit (s := S1024x6144) ![0, 4096 + 256 * g.val] S1024x256.size (inb_g g)).emb j))
    (fun j => x3 ((Rect.unit (s := S8x128x128) ![g.val, 0, 0] S1x128x128.size (inb_s g)).emb j))
    (fun j => x4 ((Rect.unit (s := S128x8) ![0, g.val] S128x1.size (inb_b g)).emb j))
    (fun j => vn ((Rect.unit (s := S512x2048) ![128 * r.val, 256 * g.val] S128x256.size (inb_y r g)).emb j))

/-- The row chunk and the column group of an index, and its place within them. -/
def rowOf (y : S512x2048.Idx) : Fin 4 := ⟨(y 0).val / 128, by have : (y 0).val < 512 := (y 0).isLt; omega⟩
/-- The group of an index of the block. -/
def grpOf (y : S512x2048.Idx) : Fin 8 := ⟨(y 1).val / 256, by have : (y 1).val < 2048 := (y 1).isLt; omega⟩
/-- The place of an index in its tile. -/
def locOf (y : S512x2048.Idx) : S128x256.Idx := fun a => match a with
  | ⟨0, _⟩ => ⟨(y 0).val % 128, Nat.mod_lt _ (by decide)⟩
  | ⟨1, _⟩ => ⟨(y 1).val % 256, Nat.mod_lt _ (by decide)⟩

/-- The gated rows of a block. -/
def gated (v25 : FVec F S512x1024 .bf16) (wh : Vec F S1024x6144 .bf16) (x3 : Vec F S8x128x128 .f32) (x4 : Vec F S128x8 .f32) (vn : Vec F S512x2048 .bf16) : Vec F S512x2048 .bf16 :=
  fun y => tileG v25 wh x3 x4 vn (rowOf y) (grpOf y) (locOf y)

/-- The gated rows at a chunk's place are the chunk's. -/
theorem gated_emb (v25 : FVec F S512x1024 .bf16) (wh : Vec F S1024x6144 .bf16) (x3 : Vec F S8x128x128 .f32) (x4 : Vec F S128x8 .f32) (vn : Vec F S512x2048 .bf16) (r : Fin 4) (g : Fin 8) (x : S128x256.Idx) :
    gated v25 wh x3 x4 vn ((Rect.unit (s := S512x2048) ![128 * r.val, 256 * g.val] S128x256.size (inb_y r g)).emb x) = tileG v25 wh x3 x4 vn r g x := by
  have h0 : (x 0).val < 128 := (x 0).isLt
  have h1 : (x 1).val < 256 := (x 1).isLt
  have e0 : rowOf ((Rect.unit (s := S512x2048) ![128 * r.val, 256 * g.val] S128x256.size (inb_y r g)).emb x) = r :=
    Fin.ext (show (128 * r.val + 1 * (x 0).val) / 128 = r.val by omega)
  have e1 : grpOf ((Rect.unit (s := S512x2048) ![128 * r.val, 256 * g.val] S128x256.size (inb_y r g)).emb x) = g :=
    Fin.ext (show (256 * g.val + 1 * (x 1).val) / 256 = g.val by omega)
  have e2 : locOf ((Rect.unit (s := S512x2048) ![128 * r.val, 256 * g.val] S128x256.size (inb_y r g)).emb x) = x := by
    funext a; apply Fin.ext
    match a with
    | ⟨0, _⟩ => exact (show (128 * r.val + 1 * (x 0).val) % 128 = (x 0).val by omega)
    | ⟨1, _⟩ => exact (show (256 * g.val + 1 * (x 1).val) % 256 = (x 1).val by omega)
  unfold gated
  rw [e0, e1, e2]

/-- The second branch, activated and normalised. -/
abbrev normV (x0 : Vec F S512x1024 .f32) (x1 : Vec F S1x1024 .f32) (x2 : Vec F S1x2048 .f32) (wh : Vec F S1024x6144 .bf16) : FVec F S512x2048 .bf16 :=
  k0_pay16 (k0_pay13 x0 x1 (fun y => wh ((Rect.unit (s := S1024x6144) ![0, 2048] S1024x2048.size inb_S1024x6144_S1024x2048_0_2048).emb y))) (k0_pay14 x2) (k0_pay15 x0 x1 (fun y => wh ((Rect.unit (s := S1024x6144) ![0, 2048] S1024x2048.size inb_S1024x6144_S1024x2048_0_2048).emb y)))

/-- What the body leaves in the output block. -/
def blockOut (x0 : Vec F S512x1024 .f32) (x1 : Vec F S1x1024 .f32) (x2 : Vec F S1x2048 .f32) (x3 : Vec F S8x128x128 .f32) (x4 : Vec F S128x8 .f32) (x5 : Vec F S2048x1024 .bf16) (wh : Vec F S1024x6144 .bf16) : FVec F S512x1024 .f32 :=
  k0_pay3 (k0_pay11 x0) (gated (k0_pay12 x0 x1) wh x3 x4 (normV x0 x1 x2 wh)) x5

/-- A chunk from the loads the body does, the normalised rows' given by an equation. -/
theorem tile_vn (r : Fin 4) (g : Fin 8) (v25 : FVec F S512x1024 .bf16) (wh : Vec F S1024x6144 .bf16) (x3 : Vec F S8x128x128 .f32) (x4 : Vec F S128x8 .f32) (vn : Vec F S512x2048 .bf16) (w : Vec F S128x256 .bf16)
    (h : w = fun j => vn ((Rect.unit (s := S512x2048) ![128 * r.val, 256 * g.val] S128x256.size (inb_y r g)).emb j)) :
    tileOf r v25 (fun j => wh ((Rect.unit (s := S1024x6144) ![0, 256 * g.val] S1024x256.size (inb_u g)).emb j))
    (fun j => wh ((Rect.unit (s := S1024x6144) ![0, 4096 + 256 * g.val] S1024x256.size (inb_g g)).emb j))
    (fun j => x3 ((Rect.unit (s := S8x128x128) ![g.val, 0, 0] S1x128x128.size (inb_s g)).emb j))
    (fun j => x4 ((Rect.unit (s := S128x8) ![0, g.val] S128x1.size (inb_b g)).emb j)) w = tileG v25 wh x3 x4 vn r g := by
  subst h; rfl

end Cert.Kernel2Ideal.Own

end
-- ==== Proof.L0Body.lean ====
/- The body of the gMLP layer kernel, run over one block of rows. -/
module

public import proofs.«01_k».proof.Proof.L0Tile
public import Idealize.ShloMosaic.Lib.VecWindow

@[expose] public section

set_option maxRecDepth 16384

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body, its first part given, run over one block. -/
theorem body_run (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S8x128x128 .f32) (harg5 : arg5.IsWhole) (arg6 : Memref sig .tc .vmem S128x8 .f32) (harg6 : arg6.IsWhole) (arg7 : Memref sig .tc .vmem S2048x1024 .bf16) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1024x6144 .bf16) (harg11 : arg11.IsWhole) (arg12 : Memref sig .tc .vmem S2x1024x1024 .f32) (harg12 : arg12.IsWhole)
    (x0 : Vec F S512x1024 .f32) (x1 : Vec F S1x1024 .f32) (x2 : Vec F S1x2048 .f32) (x3 : Vec F S8x128x128 .f32) (x4 : Vec F S128x8 .f32) (x5 : Vec F S2048x1024 .bf16) (wh : Vec F S1024x6144 .bf16) (fh0 : HbBuf0 (F := F) c hbM0_0) (R : sProp 𝕄)
    (h4 : ∀ Q : (Σ' (v4 : FVec F S512x1024 .f32) (v19 : FVec F S512x1024 .bf16) (v31 : FVec F S512x2048 .f32) (v33 : FVec F S1x2048 .f32), FVec F S512x1 .f32) → sProp 𝕄,
        iprop(R ∗ (iprop(owns (c : Thread nD τ) arg1 fullShare x0 ∗ owns (c : Thread nD τ) arg2 fullShare x1 ∗ owns (c : Thread nD τ) arg4 fullShare x2 ∗ owns (c : Thread nD τ) arg11 fullShare wh ∗ (∃ d, owns (c : Thread nD τ) arg12 fullShare d) ∗ semVal ((c : Thread nD τ), SemLoc.dma 9) 0 ∗ semVal ((c : Thread nD τ), SemLoc.dma 10) 0 ∗ hbPt0 c hbM0_0 fh0 ∗ (∃ W', owes (c : Thread nD τ) 0 W')) -∗ Q (firstOut x0 x1 x2 wh))) ⊢ wp frame (wpE (defs₀ (F := F)) Variants.none c none) Set.univ (k0_part4 i arg1 harg1 arg2 harg2 (Memref.whole main_arg2) (Memref.isWhole_whole _) arg4 harg4 arg5 harg5 arg6 harg6 arg7 harg7 arg8 harg8 arg9 harg9 arg10 harg10 arg11 harg11 arg12 harg12 cc0_scratch4) Q)
    (K : PUnit → sProp 𝕄) :
        iprop(R ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg4 fullShare x2 ∗ owns (c : Thread nD τ) arg11 fullShare wh ∗ (∃ d, owns (c : Thread nD τ) arg12 fullShare d) ∗ semVal ((c : Thread nD τ), SemLoc.dma 9) 0 ∗ semVal ((c : Thread nD τ), SemLoc.dma 10) 0 ∗ hbPt0 c hbM0_0 fh0 ∗ (∃ W', owes (c : Thread nD τ) 0 W') ∗ owns (c : Thread nD τ) arg5 fullShare x3 ∗ owns (c : Thread nD τ) arg6 fullShare x4 ∗ owns (c : Thread nD τ) arg7 fullShare x5 ∗ owns (c : Thread nD τ) arg8 fullShare (blockOut x0 x1 x2 x3 x4 x5 wh) ∗ (∃ d, owns (c : Thread nD τ) arg9 fullShare d) ∗ (∃ d, owns (c : Thread nD τ) arg10 fullShare d)) -∗ K ⟨⟩))
          ⊢ wp frame (wpE (defs₀ (F := F)) Variants.none c none) Set.univ (cc0_gmlp_layer i arg1 harg1 arg2 harg2 (Memref.whole main_arg2) (Memref.isWhole_whole _) arg4 harg4 arg5 harg5 arg6 harg6 arg7 harg7 arg8 harg8 arg9 harg9 arg10 harg10 arg11 harg11 arg12 harg12 cc0_scratch4) K := by
    simp only [cc0_gmlp_layer_eq_skeleton]; unfold cc0_gmlp_layer_skel
    rw [wp_bind]
    refine BI.BIBase.Entails.trans ?_ (h4 _)
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    iintro ⟨HR, H3, H4, H5, H6, HS0, HS1, Hk⟩
    isplitl [HR]
    · iexact HR
    unfold owns
    iintro ⟨⟨%f0, %hf0, H0⟩, ⟨%f1, %hf1, H1⟩, ⟨%f2, %hf2, H2⟩, ⟨%fs2, %hfs2, HS2⟩, ⟨%ds3, %fs3, -, HS3⟩, Hq0, Hq1, Hh0, ⟨%W', HW⟩⟩
    icases H3 with ⟨%f3, %hf3, H3⟩
    icases H4 with ⟨%f4, %hf4, H4⟩
    icases H5 with ⟨%f5, %hf5, H5⟩
    icases H6 with ⟨%d6, %f6, -, H6⟩
    icases HS0 with ⟨%ds0, %fs0, -, HS0⟩
    icases HS1 with ⟨%ds1, %fs1, -, HS1⟩
    subst hf0 hf1 hf2 hf3 hf4 hf5 hfs2
    sl_exec
    sl_step
    have hN : ∀ (r : Fin 4) (g : Fin 8), arg9.view.readCov (Val := Elt F) (body_run.sl.HS0_1 c arg1 arg2 arg4 arg11 f0 f1 f2 fs2) (Rect.unit (s := S512x2048) ![128 * r.val, 256 * g.val] S128x256.size (inb_y r g)).toLoadRect
        = fun j => (normV (View.read (Elt F) arg1.view f0) (View.read (Elt F) arg2.view f1) (View.read (Elt F) arg4.view f2) (View.read (Elt F) arg11.view fs2)) ((Rect.unit (s := S512x2048) ![128 * r.val, 256 * g.val] S128x256.size (inb_y r g)).emb j) := fun r g => by
      unfold body_run.sl.HS0_1
      funext j
      refine (congrFun (View.read_writes_full arg9.view _ inb_S512x2048_S512x2048_0_0 _ []) _).trans ?_
      rfl
    have hY : (body_run.sl.v637 c arg1 arg2 arg4 arg5 arg6 arg9 arg10 arg11 f0 f1 f2 fs2 f3 f4) = gated (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) := by
      unfold body_run.sl.v637
      refine (View.readAt_full _ _ _).trans ?_
      funext y
      refine View.read_writes_apply_of_pieces arg10.view _ (gated (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2))) _ ?_ y ?_
      rotate_left
      · exact View.cover_of_tiledL (s := S512x2048) _ S128x256.size (by sl_kernel_rfl) y
      intro p hp x
      unfold body_run.sl.HS1_32 at hp
      simp only [List.mem_cons, List.not_mem_nil, or_false] at hp
      rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
      · exact (congrFun (tile_vn 3 7 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 3 7)) x).trans (gated_emb _ _ _ _ _ 3 7 x).symm
      · exact (congrFun (tile_vn 2 7 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 2 7)) x).trans (gated_emb _ _ _ _ _ 2 7 x).symm
      · exact (congrFun (tile_vn 1 7 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 1 7)) x).trans (gated_emb _ _ _ _ _ 1 7 x).symm
      · exact (congrFun (tile_vn 0 7 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 0 7)) x).trans (gated_emb _ _ _ _ _ 0 7 x).symm
      · exact (congrFun (tile_vn 3 6 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 3 6)) x).trans (gated_emb _ _ _ _ _ 3 6 x).symm
      · exact (congrFun (tile_vn 2 6 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 2 6)) x).trans (gated_emb _ _ _ _ _ 2 6 x).symm
      · exact (congrFun (tile_vn 1 6 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 1 6)) x).trans (gated_emb _ _ _ _ _ 1 6 x).symm
      · exact (congrFun (tile_vn 0 6 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 0 6)) x).trans (gated_emb _ _ _ _ _ 0 6 x).symm
      · exact (congrFun (tile_vn 3 5 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 3 5)) x).trans (gated_emb _ _ _ _ _ 3 5 x).symm
      · exact (congrFun (tile_vn 2 5 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 2 5)) x).trans (gated_emb _ _ _ _ _ 2 5 x).symm
      · exact (congrFun (tile_vn 1 5 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 1 5)) x).trans (gated_emb _ _ _ _ _ 1 5 x).symm
      · exact (congrFun (tile_vn 0 5 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 0 5)) x).trans (gated_emb _ _ _ _ _ 0 5 x).symm
      · exact (congrFun (tile_vn 3 4 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 3 4)) x).trans (gated_emb _ _ _ _ _ 3 4 x).symm
      · exact (congrFun (tile_vn 2 4 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 2 4)) x).trans (gated_emb _ _ _ _ _ 2 4 x).symm
      · exact (congrFun (tile_vn 1 4 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 1 4)) x).trans (gated_emb _ _ _ _ _ 1 4 x).symm
      · exact (congrFun (tile_vn 0 4 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 0 4)) x).trans (gated_emb _ _ _ _ _ 0 4 x).symm
      · exact (congrFun (tile_vn 3 3 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 3 3)) x).trans (gated_emb _ _ _ _ _ 3 3 x).symm
      · exact (congrFun (tile_vn 2 3 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 2 3)) x).trans (gated_emb _ _ _ _ _ 2 3 x).symm
      · exact (congrFun (tile_vn 1 3 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 1 3)) x).trans (gated_emb _ _ _ _ _ 1 3 x).symm
      · exact (congrFun (tile_vn 0 3 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 0 3)) x).trans (gated_emb _ _ _ _ _ 0 3 x).symm
      · exact (congrFun (tile_vn 3 2 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 3 2)) x).trans (gated_emb _ _ _ _ _ 3 2 x).symm
      · exact (congrFun (tile_vn 2 2 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 2 2)) x).trans (gated_emb _ _ _ _ _ 2 2 x).symm
      · exact (congrFun (tile_vn 1 2 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 1 2)) x).trans (gated_emb _ _ _ _ _ 1 2 x).symm
      · exact (congrFun (tile_vn 0 2 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 0 2)) x).trans (gated_emb _ _ _ _ _ 0 2 x).symm
      · exact (congrFun (tile_vn 3 1 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 3 1)) x).trans (gated_emb _ _ _ _ _ 3 1 x).symm
      · exact (congrFun (tile_vn 2 1 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 2 1)) x).trans (gated_emb _ _ _ _ _ 2 1 x).symm
      · exact (congrFun (tile_vn 1 1 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 1 1)) x).trans (gated_emb _ _ _ _ _ 1 1 x).symm
      · exact (congrFun (tile_vn 0 1 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 0 1)) x).trans (gated_emb _ _ _ _ _ 0 1 x).symm
      · exact (congrFun (tile_vn 3 0 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 3 0)) x).trans (gated_emb _ _ _ _ _ 3 0 x).symm
      · exact (congrFun (tile_vn 2 0 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 2 0)) x).trans (gated_emb _ _ _ _ _ 2 0 x).symm
      · exact (congrFun (tile_vn 1 0 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 1 0)) x).trans (gated_emb _ _ _ _ _ 1 0 x).symm
      · exact (congrFun (tile_vn 0 0 (k0_pay12 (View.read (Elt F) arg1.view f0) (View.read (Elt F) arg2.view f1)) (View.read (Elt F) arg11.view fs2) (View.read (Elt F) arg5.view f3) (View.read (Elt F) arg6.view f4) (normV (View.read (Elt F) arg1.view f0) (View.read (Elt F) arg2.view f1) (View.read (Elt F) arg4.view f2) (View.read (Elt F) arg11.view fs2)) _ (hN 0 0)) x).trans (gated_emb _ _ _ _ _ 0 0 x).symm
    have hO : ∀ f, arg8.view.read (Elt F) (arg8.view.writes (Elt F) f
        [⟨Rect.unit (s := S512x1024) ![0, 0] S512x1024.size inb_S512x1024_S512x1024_0_0, k0_pay3 (k0_pay11 (View.read (Elt F) arg1.view f0)) (body_run.sl.v637 c arg1 arg2 arg4 arg5 arg6 arg9 arg10 arg11 f0 f1 f2 fs2 f3 f4) (View.readAt (Elt F) arg7.view (Rect.unit (s := S2048x1024) ![0, 0] S2048x1024.size inb_S2048x1024_S2048x1024_0_0).toLoadRect f5)⟩])
        = blockOut (View.read (Elt F) arg1.view f0) (View.read (Elt F) arg2.view f1) (View.read (Elt F) arg4.view f2) (View.read (Elt F) arg5.view f3) (View.read (Elt F) arg6.view f4) (View.read (Elt F) arg7.view f5) (View.read (Elt F) arg11.view fs2) := fun f => by
      refine (View.read_writes_full arg8.view f inb_S512x1024_S512x1024_0_0 _ []).trans ?_
      rw [hY, View.readAt_full]; rfl
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [HS2]
    · iexists _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hh0]; · iexact Hh0
    isplitl [HW]; · iexists _; iexact HW
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; exact hO _
    isplitl [HS0]
    · iexists _, _; isplitr; swap; · iexact HS0
      ipureintro; rfl
    iexists _, _; isplitr; swap; · iexact HS1
    ipureintro; rfl

end Cert.Kernel2Ideal.Own

end
-- ==== Proof.L0FillA.lean ====
/- The first part of the body at the first grid point. -/
module

public import proofs.«01_k».proof.Proof.L0Fill

@[expose] public section

set_option maxRecDepth 16384

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 500000 in set_option sl_exec.dmaWindow true in set_option sl_exec.dmaWindowSet true in set_option sl_exec.squeezeSlice true in
/-- The first part of the body at the first point: it copies the input weight chunk by chunk, halves and rounds it into the kept scratch. -/
theorem part4_A (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S8x128x128 .f32) (harg5 : arg5.IsWhole) (arg6 : Memref sig .tc .vmem S128x8 .f32) (harg6 : arg6.IsWhole) (arg7 : Memref sig .tc .vmem S2048x1024 .bf16) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1024x6144 .bf16) (harg11 : arg11.IsWhole) (arg12 : Memref sig .tc .vmem S2x1024x1024 .f32) (harg12 : arg12.IsWhole) (hc0 : cond0_0 i)
    (x0 : Vec F S512x1024 .f32) (x1 : Vec F S1x1024 .f32) (x2 : Vec F S1x2048 .f32) (fh0 : HbBuf0 (F := F) c hbM0_0)
    (W : Waits sig Unit) (Q : (Σ' (v4 : FVec F S512x1024 .f32) (v19 : FVec F S512x1024 .bf16) (v31 : FVec F S512x2048 .f32) (v33 : FVec F S1x2048 .f32), FVec F S512x1 .f32) → sProp 𝕄) :
        iprop(owns (c : Thread nD τ) arg1 fullShare x0 ∗ owns (c : Thread nD τ) arg2 fullShare x1 ∗ owns (c : Thread nD τ) arg4 fullShare x2 ∗ (∃ d, owns (c : Thread nD τ) arg11 fullShare d) ∗ (∃ d, owns (c : Thread nD τ) arg12 fullShare d) ∗ semVal ((c : Thread nD τ), SemLoc.dma 9) 0 ∗ semVal ((c : Thread nD τ), SemLoc.dma 10) 0 ∗ hbPt0 c hbM0_0 fh0 ∗ owes (c : Thread nD τ) 0 W
         ∗ (iprop(owns (c : Thread nD τ) arg1 fullShare x0 ∗ owns (c : Thread nD τ) arg2 fullShare x1 ∗ owns (c : Thread nD τ) arg4 fullShare x2 ∗ owns (c : Thread nD τ) arg11 fullShare (halfW (View.read (Elt F) hbM0_0.view fh0)) ∗ (∃ d, owns (c : Thread nD τ) arg12 fullShare d) ∗ semVal ((c : Thread nD τ), SemLoc.dma 9) 0 ∗ semVal ((c : Thread nD τ), SemLoc.dma 10) 0 ∗ hbPt0 c hbM0_0 fh0 ∗ (∃ W', owes (c : Thread nD τ) 0 W'))
            -∗ Q (firstOut x0 x1 x2 (halfW (View.read (Elt F) hbM0_0.view fh0)))))
          ⊢ wp frame (wpE (defs₀ (F := F)) Variants.none c none) Set.univ (k0_part4 i arg1 harg1 arg2 harg2 (Memref.whole main_arg2) (Memref.isWhole_whole _) arg4 harg4 arg5 harg5 arg6 harg6 arg7 harg7 arg8 harg8 arg9 harg9 arg10 harg10 arg11 harg11 arg12 harg12 cc0_scratch4) Q := by
    simp only [k0_part4_eq_skeleton]; unfold k0_part4_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%ds2, %fs2, -, HS2⟩, ⟨%ds3, %fs3, -, HS3⟩, Hq0, Hq1, Hh0, HW, Hk⟩
    obtain rfl := harg1.eq_unread hf0; obtain rfl := harg2.eq_unread hf1; obtain rfl := harg4.eq_unread hf2
    sl_exec (disch := first | sl_exact hc0)
    sl_step
    have h0 : shapeCast S1024x1024 (part4_A.sl.v658 c arg12 fh0 fs3) shapeCasts_S1x1024x1024_S1024x1024 = chunkW (View.read (Elt F) hbM0_0.view fh0) ![0, 0] inb_S1024x6144_S1024x1024_0_0 := by
      unfold part4_A.sl.v658; exact slot_two arg12 _ _ _ _ _ _ _ (by decide)
    have h1 : shapeCast S1024x1024 (part4_A.sl.v676 c arg12 fh0 fs3) shapeCasts_S1x1024x1024_S1024x1024 = chunkW (View.read (Elt F) hbM0_0.view fh0) ![0, 1024] inb_S1024x6144_S1024x1024_0_1024 := by
      unfold part4_A.sl.v676; exact slot_two arg12 _ _ _ _ _ _ _ (by decide)
    have h2 : shapeCast S1024x1024 (part4_A.sl.v694 c arg12 fh0 fs3) shapeCasts_S1x1024x1024_S1024x1024 = chunkW (View.read (Elt F) hbM0_0.view fh0) ![0, 2048] inb_S1024x6144_S1024x1024_0_2048 := by
      unfold part4_A.sl.v694; exact slot_two arg12 _ _ _ _ _ _ _ (by decide)
    have h3 : shapeCast S1024x1024 (part4_A.sl.v712 c arg12 fh0 fs3) shapeCasts_S1x1024x1024_S1024x1024 = chunkW (View.read (Elt F) hbM0_0.view fh0) ![0, 3072] inb_S1024x6144_S1024x1024_0_3072 := by
      unfold part4_A.sl.v712; exact slot_two arg12 _ _ _ _ _ _ _ (by decide)
    have h4 : shapeCast S1024x1024 (part4_A.sl.v730 c arg12 fh0 fs3) shapeCasts_S1x1024x1024_S1024x1024 = chunkW (View.read (Elt F) hbM0_0.view fh0) ![0, 4096] inb_S1024x6144_S1024x1024_0_4096 := by
      unfold part4_A.sl.v730; exact slot_two arg12 _ _ _ _ _ _ _ (by decide)
    have h5 : shapeCast S1024x1024 (part4_A.sl.v743 c arg12 fh0 fs3) shapeCasts_S1x1024x1024_S1024x1024 = chunkW (View.read (Elt F) hbM0_0.view fh0) ![0, 5120] inb_S1024x6144_S1024x1024_0_5120 := by
      unfold part4_A.sl.v743; exact slot_same arg12 _ _ _ _
    have hv : ∀ f, arg11.view.read (Elt F) (arg11.view.writes (Elt F) f (part4_A.sl.HS2_6 c arg12 fh0 fs3)) = halfW (View.read (Elt F) hbM0_0.view fh0) := fun f => by
      unfold part4_A.sl.HS2_6
      exact halves arg11.view f (View.read (Elt F) hbM0_0.view fh0) _ _ _ _ _ _ h0 h1 h2 h3 h4 h5
    have hb : part4_A.sl.v20 c arg11 arg12 fh0 fs3 = fun y => halfW (View.read (Elt F) hbM0_0.view fh0) ((Rect.unit (s := S1024x6144) ![0, 2048] S1024x2048.size inb_S1024x6144_S1024x2048_0_2048).emb y) := by
      unfold part4_A.sl.v20; funext y; exact congrFun (hv _) _
    rw [← firstOut_eq x0 _ x1 _ x2 _ (halfW (View.read (Elt F) hbM0_0.view fh0)) _ ((View.readAt_full _ _ _).trans (harg1.read_unread _))
      ((View.readAt_full _ _ _).trans (harg2.read_unread _)) ((View.readAt_full _ _ _).trans (harg4.read_unread _)) hb]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [HS2]
    · iexists _; isplitr; swap; · iexact HS2
      ipureintro; exact hv _
    isplitl [HS3]
    · iexists _, _; isplitr; swap; · iexact HS3
      ipureintro; rfl
    isplitl [Hq0]; · iexact Hq0
    isplitl [Hq1]; · iexact Hq1
    isplitl [Hh0]; · iexact Hh0
    iexists _; iexact HW

end Cert.Kernel2Ideal.Own

end
-- ==== Proof.L0Run.lean ====
/- The launch of the gMLP layer kernel: the invariant between grid points, the proof data, the run and the frame. -/
module

public import proofs.«01_k».proof.Proof.L0Body
public import proofs.«01_k».proof.Proof.L0FillA

@[expose] public section

set_option maxRecDepth 16384

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- Half of the input weight in the narrow format: what the first grid point leaves in the kernel's weight buffer. -/
def halfAll (c : Dev nD) : Vec F S1024x6144 .bf16 := halfW (View.read (Elt F) hbM0_0.view (V m c main_arg2))

/-- The invariant before position `n`: at first what the launch hands over, afterwards the same with the weight buffer at half of the input weight. -/
def PhiS (c : Dev nD) : (n : ℕ) → n ≤ cfg0.N → sProp 𝕄
  | 0, _ => Pipeline.ΦD osem0 spec0 H0 (V m) c
  | _ + 1, _ => iprop(iprop((∃ d, owns (c : Thread nD τ) scM0_0 fullShare d) ∗ (∃ d, owns (c : Thread nD τ) scM0_1 fullShare d) ∗ owns (c : Thread nD τ) scM0_2 fullShare (halfAll m c) ∗ (∃ d, owns (c : Thread nD τ) scM0_3 fullShare d)) ∗ (∃ r, prngReg c r) ∗ iprop(semVal ((c : Thread nD τ), SemLoc.dma 9) 0 ∗ semVal ((c : Thread nD τ), SemLoc.dma 10) 0) ∗ iprop(hbPt0 c hbM0_0 (V m c main_arg2)))

/-- Before the first point the invariant is what the launch hands over. -/
theorem PhiS_zero (c : Dev nD) (n : ℕ) (h : n ≤ cfg0.N) (hz : n = 0) : PhiS m c n h = Pipeline.ΦD osem0 spec0 H0 (V m) c := by
  subst hz; rfl

/-- Before any later point the weight buffer holds half of the input weight. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare (halfAll m c) ∗ (∃ d, owns (c : Thread nD τ) scM0_3 fullShare d)) ∗ (∃ r, prngReg c r) ∗ iprop(semVal ((c : Thread nD τ), SemLoc.dma 9) 0 ∗ semVal ((c : Thread nD τ), SemLoc.dma 10) 0) ∗ iprop(hbPt0 c hbM0_0 (V m c main_arg2))) := by
  cases n with
  | zero => exact absurd rfl hz
  | succ n => rfl

/-- What the body leaves in the result's staging buffer at point `t`: the layer's rows of that block. -/
def blkOut (c : Dev nD) (t : Fin cfg0.N) : Vec F S512x1024 .f32 :=
  blockOut (iblk m c 0 t) (iblk m c 1 t) (iblk m c 2 t) (iblk m c 3 t) (iblk m c 4 t) (iblk m c 5 t) (halfAll m c)

/-- The proof data: the arrays at entry, each input's buffer at its block, the result's at the layer's rows, the invariant above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blkOut m c t
  Φ t := PhiS m c t.val (Nat.le_of_lt_succ t.isLt)
  q _ := fullShare
  owed _ := 0

/-- The arrays of the proof data are those at entry. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in window 0. -/
theorem after_0 (c : Dev nD) (t : Fin cfg0.N) : (dats m 0 c).after 0 t = iblk m c 0 t := by dsimp only [dats]
/-- What the body leaves in window 1. -/
theorem after_1 (c : Dev nD) (t : Fin cfg0.N) : (dats m 0 c).after 1 t = iblk m c 1 t := by dsimp only [dats]
/-- What the body leaves in window 2. -/
theorem after_2 (c : Dev nD) (t : Fin cfg0.N) : (dats m 0 c).after 2 t = iblk m c 2 t := by dsimp only [dats]
/-- What the body leaves in window 3. -/
theorem after_3 (c : Dev nD) (t : Fin cfg0.N) : (dats m 0 c).after 3 t = iblk m c 3 t := by dsimp only [dats]
/-- What the body leaves in window 4. -/
theorem after_4 (c : Dev nD) (t : Fin cfg0.N) : (dats m 0 c).after 4 t = iblk m c 4 t := by dsimp only [dats]
/-- What the body leaves in window 5. -/
theorem after_5 (c : Dev nD) (t : Fin cfg0.N) : (dats m 0 c).after 5 t = iblk m c 5 t := by dsimp only [dats]
/-- What the body leaves in window 6. -/
theorem after_6 (c : Dev nD) (t : Fin cfg0.N) : (dats m 0 c).after 6 t = blkOut m c t := by dsimp only [dats]
/-- Window 0 holds its block before the body. -/
theorem before_0 (c : Dev nD) (t : Fin cfg0.N) (d) : (dats m 0 c).before 0 t d = iblk m c 0 t :=
  before0 m (dats m 0 c) (A_eq m c 0) (after_0 m c) t d
/-- Window 1 holds its block before the body. -/
theorem before_1 (c : Dev nD) (t : Fin cfg0.N) (d) : (dats m 0 c).before 1 t d = iblk m c 1 t :=
  before1 m (dats m 0 c) (A_eq m c 1) (after_1 m c) t d
/-- Window 2 holds its block before the body. -/
theorem before_2 (c : Dev nD) (t : Fin cfg0.N) (d) : (dats m 0 c).before 2 t d = iblk m c 2 t :=
  before2 m (dats m 0 c) (A_eq m c 2) (after_2 m c) t d
/-- Window 3 holds its block before the body. -/
theorem before_3 (c : Dev nD) (t : Fin cfg0.N) (d) : (dats m 0 c).before 3 t d = iblk m c 3 t :=
  before3 m (dats m 0 c) (A_eq m c 3) (after_3 m c) t d
/-- Window 4 holds its block before the body. -/
theorem before_4 (c : Dev nD) (t : Fin cfg0.N) (d) : (dats m 0 c).before 4 t d = iblk m c 4 t :=
  before4 m (dats m 0 c) (A_eq m c 4) (after_4 m c) t d
/-- Window 5 holds its block before the body. -/
theorem before_5 (c : Dev nD) (t : Fin cfg0.N) (d) : (dats m 0 c).before 5 t d = iblk m c 5 t :=
  before5 m (dats m 0 c) (A_eq m c 5) (after_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
/-- The body at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = PhiS m c (t.val + 1) t.isLt from rfl, PhiS_pos m c (t.val + 1) _ (Nat.succ_ne_zero _),
    after_0, after_1, after_2, after_3, after_4, after_5, after_6]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  unfold blkOut
  by_cases h0 : t.val % 32 = 0
  · by_cases hz : t.val = 0
    · rw [PhiS_castSucc m c t, PhiS_zero m c _ _ hz, PhiD0_eq]
      iintro ⟨⟨⟨HS0, HS1, HS2, HS3⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
      iapply (body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _)
        (iblk m c 0 t) (iblk m c 1 t) (iblk m c 2 t) (iblk m c 3 t) (iblk m c 4 t) (iblk m c 5 t) (halfAll m c) (V m c main_arg2)
        iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ iprop(∃ d, owns (c : Thread nD τ) scM0_2 fullShare d) ∗ (∃ d, owns (c : Thread nD τ) scM0_3 fullShare d) ∗ semVal ((c : Thread nD τ), SemLoc.dma 9) 0 ∗ semVal ((c : Thread nD τ), SemLoc.dma 10) 0 ∗ hbPt0 c hbM0_0 (V m c main_arg2) ∗ owes (c : Thread nD τ) 0 W)
        (fun Q => by
          iintro ⟨⟨G0, G1, G2, G3, G4, G5, G6, G7, G8⟩, Gk⟩
          iapply (part4_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0)
            (iblk m c 0 t) (iblk m c 1 t) (iblk m c 2 t) (V m c main_arg2) W Q)
          isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          iexact Gk) _)
      isplitl [H0 H1 H2 HS2 HS3 Hq0 Hq1 Hh0 HW]
      · isplitl [H0]; · iexact H0
        isplitl [H1]; · iexact H1
        isplitl [H2]; · iexact H2
        isplitl [HS2]; · iexact HS2
        isplitl [HS3]; · iexact HS3
        isplitl [Hq0]; · iexact Hq0
        isplitl [Hq1]; · iexact Hq1
        isplitl [Hh0]; · iexact Hh0
        iexact HW
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, HS2, HS3, Hq0, Hq1, Hh0, ⟨%W', HW'⟩, H3, H4, H5, H6, HS0, HS1⟩
      isplitl [HS0 HS1 HS2 HS3 Hg Hq0 Hq1 Hh0]
      · isplitl [HS0 HS1 HS2 HS3]
        · isplitl [HS0]; · iexact HS0
          isplitl [HS1]; · iexact HS1
          isplitl [HS2]; · iexact HS2
          iexact HS3
        isplitl [Hg]; · iexact Hg
        isplitl [Hq0 Hq1]
        · isplitl [Hq0]; · iexact Hq0
          iexact Hq1
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      iexact H6
    · exfalso; omega
  · by_cases hz : t.val = 0
    · exfalso; omega
    · rw [PhiS_castSucc m c t, PhiS_pos m c _ _ hz]
      iintro ⟨⟨⟨HS0, HS1, HS2, HS3⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
      iapply (body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _)
        (iblk m c 0 t) (iblk m c 1 t) (iblk m c 2 t) (iblk m c 3 t) (iblk m c 4 t) (iblk m c 5 t) (halfAll m c) (V m c main_arg2)
        iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) scM0_2 fullShare (halfAll m c) ∗ (∃ d, owns (c : Thread nD τ) scM0_3 fullShare d) ∗ semVal ((c : Thread nD τ), SemLoc.dma 9) 0 ∗ semVal ((c : Thread nD τ), SemLoc.dma 10) 0 ∗ hbPt0 c hbM0_0 (V m c main_arg2) ∗ owes (c : Thread nD τ) 0 W)
        (fun Q => by
          iintro ⟨⟨G0, G1, G2, G3, G4, G5, G6, G7, G8⟩, Gk⟩
          iapply (part4_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h))
            (iblk m c 0 t) (iblk m c 1 t) (iblk m c 2 t) (halfAll m c) (V m c main_arg2) W Q)
          isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          iexact Gk) _)
      isplitl [H0 H1 H2 HS2 HS3 Hq0 Hq1 Hh0 HW]
      · isplitl [H0]; · iexact H0
        isplitl [H1]; · iexact H1
        isplitl [H2]; · iexact H2
        isplitl [HS2]; · iexact HS2
        isplitl [HS3]; · iexact HS3
        isplitl [Hq0]; · iexact Hq0
        isplitl [Hq1]; · iexact Hq1
        isplitl [Hh0]; · iexact Hh0
        iexact HW
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, HS2, HS3, Hq0, Hq1, Hh0, ⟨%W', HW'⟩, H3, H4, H5, H6, HS0, HS1⟩
      isplitl [HS0 HS1 HS2 HS3 Hg Hq0 Hq1 Hh0]
      · isplitl [HS0 HS1 HS2 HS3]
        · isplitl [HS0]; · iexact HS0
          isplitl [HS1]; · iexact HS1
          isplitl [HS2]; · iexact HS2
          iexact HS3
        isplitl [Hg]; · iexact Hg
        isplitl [Hq0 Hq1]
        · isplitl [Hq0]; · iexact Hq0
          iexact Hq1
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      iexact H6

/-- The body table's row at point `t` is the body at that point. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over. -/
theorem hout (c : Dev nD) : (dats m 0 c).Φ (Fin.last cfg0.N) ⊢ Pipeline.ΦD osem0 spec0 H0 (V m) c := by
  rw [show (dats m 0 c).Φ (Fin.last cfg0.N) = PhiS m c cfg0.N (Nat.le_refl _) from rfl, PhiS_pos m c _ _ (by have : cfg0.N = 32 := N_0; omega), PhiD0_eq]
  iintro ⟨⟨HS0, HS1, HS2, HS3⟩, Hg, ⟨Hq0, Hq1⟩, Hh0⟩
  isplitl [HS0 HS1 HS2 HS3]
  · isplitl [HS0]; · iexact HS0
    isplitl [HS1]; · iexact HS1
    isplitl [HS2]
    · iexists _; iexact HS2
    iexact HS3
  isplitl [Hg]; · iexact Hg
  isplitl [Hq0 Hq1]
  · isplitl [Hq0]; · iexact Hq0
    iexact Hq1
  iexact Hh0

set_option backward.isDefEq.respectTransparency.types false in
/-- The launch: every execution ends, each array of the pipeline is what the proof data say, the other buffers are as the region found them and every semaphore is at zero. -/
theorem run_main : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The kernel ends with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.Kernel2Ideal.Own
-- ==== Proof.L0Stages.lean ====
/- The body's values at an index, over the extended reals, for the layer without a pending product. -/
module

public import proofs.«01_k».proof.Proof.L0Tile
public import proofs.«01_k».proof.Proof.Stages

@[expose] public section

set_option maxRecDepth 16384

noncomputable section

namespace Cert.Kernel2Ideal.Own

open Cert.Kernel2Ideal Cert.Kernel2Ideal.Gen Cert.Own Idealize.ShloMosaic Idealize.ShloMosaic.TcCoe

/-- The named constant's value. -/
theorem cub_value : Named.named (F := Ideal) κ "gelu_cub" (φ := .f32) 0x3E922279#32 = ((80338380498831 / 281474976710656 : ℝ) : EReal) :=
  IdealRules.named_const.ideal_named_scalar _ _ _ _ rfl

/-- The input's block is taken as it is. -/
theorem p11_apply (x0 : FVec Ideal S512x1024 .f32) (i : Fin 512) (d : Fin 1024) : k0_pay11 (F := Ideal) x0 (ix2 i d) = x0 (ix2 i d) := by
  unfold k0_pay11; pointwise

/-- The first normalisation at an index. -/
theorem p12_apply (x0 : FVec Ideal S512x1024 .f32) (x1 : FVec Ideal S1x1024 .f32) (i : Fin 512) (d : Fin 1024) :
    k0_pay12 (F := Ideal) x0 x1 (ix2 i d) = rowH (fun d => k0_pay11 (F := Ideal) x0 (ix2 i d)) (fun d => x1 (ix2 0 d)) d := by
  unfold k0_pay12 rowH rmsScale; generalize k0_pay11 (F := Ideal) x0 = X; pointwise

/-- The activated branch at an index. -/
theorem p13_apply (x0 : FVec Ideal S512x1024 .f32) (x1 : FVec Ideal S1x1024 .f32) (w : FVec Ideal S1024x2048 .bf16) (i : Fin 512) (e : Fin 2048) :
    k0_pay13 (F := Ideal) x0 x1 w (ix2 i e) = geluHalf (∑ k : Fin 1024, k0_pay12 (F := Ideal) x0 x1 (ix2 i k) * w (ix2 k e)) := by
  unfold k0_pay13 geluHalf; generalize k0_pay12 (F := Ideal) x0 x1 = X; rw [cub_value, ← of_root2]; pointwise

/-- The second normalisation at an index. -/
theorem p16_apply (x0 : FVec Ideal S512x1024 .f32) (x1 : FVec Ideal S1x1024 .f32) (x2 : FVec Ideal S1x2048 .f32) (w : FVec Ideal S1024x2048 .bf16) (i : Fin 512) (e : Fin 2048) :
    k0_pay16 (F := Ideal) (k0_pay13 (F := Ideal) x0 x1 w) (k0_pay14 (F := Ideal) x2) (k0_pay15 (F := Ideal) x0 x1 w) (ix2 i e)
      = rowN (fun e => k0_pay13 (F := Ideal) x0 x1 w (ix2 i e)) (fun e => x2 (ix2 0 e)) e := by
  unfold k0_pay16 k0_pay15 k0_pay14 rowN rmsScale; generalize k0_pay13 (F := Ideal) x0 x1 w = V; pointwise

/-- The output product at an index. -/
theorem p3_apply (X : FVec Ideal S512x1024 .f32) (Y : FVec Ideal S512x2048 .bf16) (w : FVec Ideal S2048x1024 .bf16) (i : Fin 512) (d : Fin 1024) :
    k0_pay3 (F := Ideal) X Y w (ix2 i d) = rowO (fun d => X (ix2 i d)) (fun e => Y (ix2 i e)) (fun e d => w (ix2 e d)) d := by
  unfold k0_pay3 rowO; pointwise

/-- The two layers halve their weight alike. -/
theorem halfW_same (W : FVec Ideal S1024x6144 .f32) : halfW (F := Ideal) W = Cert.KernelIdeal.Own.halfW (F := Ideal) W := rfl

/-- The two layers gate their rows alike. -/
theorem gated_same (H : FVec Ideal S512x1024 .bf16) (W : FVec Ideal S1024x6144 .bf16) (x3 : FVec Ideal S8x128x128 .f32) (x4 : FVec Ideal S128x8 .f32) (N : FVec Ideal S512x2048 .bf16) :
    gated (F := Ideal) H W x3 x4 N = Cert.KernelIdeal.Own.gated (F := Ideal) H W x3 x4 N := rfl

/-- The normalised branch of a block at an index. -/
theorem normV_apply (x0 : FVec Ideal S512x1024 .f32) (x1 : FVec Ideal S1x1024 .f32) (x2 : FVec Ideal S1x2048 .f32) (W : FVec Ideal S1024x6144 .f32) (i : Fin 512) (e : Fin 2048) :
    normV (F := Ideal) x0 x1 x2 (halfW (F := Ideal) W) (ix2 i e)
      = branchN (fun d => x0 (ix2 i d)) (fun d => x1 (ix2 0 d)) (fun k j => W (ix2 k j)) (fun e => x2 (ix2 0 e)) e := by
  unfold normV
  rw [p16_apply, halfW_same]
  simp only [p13_apply, Cert.KernelIdeal.Own.emb_v, Cert.KernelIdeal.Own.halfW_apply, sum_half, geluHalf_eq, p12_apply, p11_apply]
  rfl

/-- What the body leaves in the result's block, at an index. -/
theorem blockOut_apply (x0 : FVec Ideal S512x1024 .f32) (x1 : FVec Ideal S1x1024 .f32) (x2 : FVec Ideal S1x2048 .f32) (x3 : FVec Ideal S8x128x128 .f32) (x4 : FVec Ideal S128x8 .f32) (x5 : FVec Ideal S2048x1024 .bf16) (W : FVec Ideal S1024x6144 .f32) (i : Fin 512) (d : Fin 1024) :
    blockOut (F := Ideal) x0 x1 x2 x3 x4 x5 (halfW (F := Ideal) W) (ix2 i d)
      = rowO (fun d => x0 (ix2 i d))
          (rowY (rowP (rowH (fun d => x0 (ix2 i d)) (fun d => x1 (ix2 0 d))) (fun k j => W (ix2 k j)))
            (mix (fun q => branchN (fun d => x0 (ix2 ⟨128 * (i.val / 128) + q.val, by omega⟩ d)) (fun d => x1 (ix2 0 d)) (fun k j => W (ix2 k j)) (fun e => x2 (ix2 0 e)))
              (fun g p q => x3 (ix3 g p q)) (fun g p => x4 (ix2 p g)) ⟨i.val % 128, by omega⟩))
          (fun e d => x5 (ix2 e d)) d := by
  unfold blockOut
  rw [p3_apply, gated_same, halfW_same]
  simp only [Cert.KernelIdeal.Own.gated_apply]
  rw [← halfW_same]
  simp only [normV_apply, p12_apply, p11_apply]

end Cert.Kernel2Ideal.Own

end
-- ==== Proof.L0KValue.lean ====
/- The array the pipeline leaves, in plain sums over the arguments. -/
module

public import proofs.«01_k».proof.Proof.L0Run
public import proofs.«01_k».proof.Proof.L0Stages
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Kernel2Ideal.Own

open Cert.Kernel2Ideal Cert.Kernel2Ideal.Gen Cert.Own Idealize.ShloMosaic Idealize.ShloMosaic.TcCoe
open Idealize.ShloMosaic.Pipeline (Dat Cfg Window)

variable (m : (ℓ : Loc nD τ sig) → Buf (Elt Ideal) ℓ) (c : Dev nD)

/-- The first argument, as rows. -/
theorem V_v0 (r : Fin 16384) (d : Fin 1024) :
    V m c main_v0 (ix2 r d) = m ((c : Thread nD τ).loc main_arg0) (ix3 ⟨r.val / 2048, by omega⟩ ⟨r.val % 2048, by omega⟩ d) := by
  unfold V; after_reads_at
/-- The first scale, as a row. -/
theorem V_v1 (d : Fin 1024) : V m c main_v1 (ix2 0 d) = m ((c : Thread nD τ).loc main_arg1) (ix1 d) := by
  unfold V; after_reads_at
/-- The second scale, as a row. -/
theorem V_v2 (e : Fin 2048) : V m c main_v2 (ix2 0 e) = m ((c : Thread nD τ).loc main_arg3) (ix1 e) := by
  unfold V; after_reads_at
/-- The bias, with its axes exchanged. -/
theorem V_v3 (p : Fin 128) (g : Fin 8) : V m c main_v3 (ix2 p g) = m ((c : Thread nD τ).loc main_arg5) (ix2 g p) := by
  unfold V; after_reads_at
/-- The output weight. -/
theorem V_v4 (e : Fin 2048) (d : Fin 1024) : V m c main_v4 (ix2 e d) = m ((c : Thread nD τ).loc main_arg6) (ix2 e d) := by
  unfold V; after_reads_at

/-- The row of the array that row `i` of block `t` is. -/
def row (t : Fin cfg0.N) (i : Fin 512) : Fin 16384 := ⟨512 * t.val + i.val, by have : cfg0.N = 32 := N_0; omega⟩

/-- The block of the input: the index of the block. -/
theorem e0 : ∀ t : Fin cfg0.N, win0_0.index t = ![t.val, 0] := (by decide +kernel : ∀ t : Fin grid0.N, _)
/-- The block of the first scale: the index of the block. -/
theorem e1 : ∀ t : Fin cfg0.N, win0_1.index t = ![0, 0] := (by decide +kernel : ∀ t : Fin grid0.N, _)
/-- The block of the second scale: the index of the block. -/
theorem e2 : ∀ t : Fin cfg0.N, win0_2.index t = ![0, 0] := (by decide +kernel : ∀ t : Fin grid0.N, _)
/-- The block of the mixing matrices: the index of the block. -/
theorem e3 : ∀ t : Fin cfg0.N, win0_3.index t = ![0, 0, 0] := (by decide +kernel : ∀ t : Fin grid0.N, _)
/-- The block of the bias: the index of the block. -/
theorem e4 : ∀ t : Fin cfg0.N, win0_4.index t = ![0, 0] := (by decide +kernel : ∀ t : Fin grid0.N, _)
/-- The block of the output weight: the index of the block. -/
theorem e5 : ∀ t : Fin cfg0.N, win0_5.index t = ![0, 0] := (by decide +kernel : ∀ t : Fin grid0.N, _)
/-- The result's block: the index of the block. -/
theorem e6 : ∀ t : Fin cfg0.N, win0_6.index t = ![t.val, 0] := (by decide +kernel : ∀ t : Fin grid0.N, _)

/-- The block of the input at a point, at an index. -/
theorem blk0 (t : Fin cfg0.N) (i : Fin 512) (d : Fin 1024) : iblk m c 0 t (ix2 i d) = m ((c : Thread nD τ).loc main_arg0) (ix3 ⟨(row t i).val / 2048, by omega⟩ ⟨(row t i).val % 2048, by omega⟩ d) := by
  refine Eq.trans (b := V m c main_v0 (ix2 (row t i) d)) ?_ (V_v0 m c _ _)
  blk_simp [iblk]; refine congrArg (V m c main_v0) ?_; blk_ext [e0, row]
/-- The block of the first scale, at an index. -/
theorem blk1 (t : Fin cfg0.N) (d : Fin 1024) : iblk m c 1 t (ix2 0 d) = m ((c : Thread nD τ).loc main_arg1) (ix1 d) := by
  refine Eq.trans (b := V m c main_v1 (ix2 0 d)) ?_ (V_v1 m c _)
  blk_simp [iblk]; refine congrArg (V m c main_v1) ?_; blk_ext [e1]
/-- The block of the second scale, at an index. -/
theorem blk2 (t : Fin cfg0.N) (d : Fin 2048) : iblk m c 2 t (ix2 0 d) = m ((c : Thread nD τ).loc main_arg3) (ix1 d) := by
  refine Eq.trans (b := V m c main_v2 (ix2 0 d)) ?_ (V_v2 m c _)
  blk_simp [iblk]; refine congrArg (V m c main_v2) ?_; blk_ext [e2]
/-- The block of the mixing matrices, at an index. -/
theorem blk3 (t : Fin cfg0.N) (g : Fin 8) (p q : Fin 128) : iblk m c 3 t (ix3 g p q) = m ((c : Thread nD τ).loc main_arg4) (ix3 g p q) := by
  refine Eq.trans (b := V m c main_arg4 (ix3 g p q)) ?_ (congrFun (V_main_arg4 m c) _)
  blk_simp [iblk]; refine congrArg (V m c main_arg4) ?_; blk_ext [e3]
/-- The block of the bias, at an index. -/
theorem blk4 (t : Fin cfg0.N) (p : Fin 128) (g : Fin 8) : iblk m c 4 t (ix2 p g) = m ((c : Thread nD τ).loc main_arg5) (ix2 g p) := by
  refine Eq.trans (b := V m c main_v3 (ix2 p g)) ?_ (V_v3 m c _ _)
  blk_simp [iblk]; refine congrArg (V m c main_v3) ?_; blk_ext [e4]
/-- The block of the output weight, at an index. -/
theorem blk5 (t : Fin cfg0.N) (k : Fin 2048) (d : Fin 1024) : iblk m c 5 t (ix2 k d) = m ((c : Thread nD τ).loc main_arg6) (ix2 k d) := by
  refine Eq.trans (b := V m c main_v4 (ix2 k d)) ?_ (V_v4 m c _ _)
  blk_simp [iblk]; refine congrArg (V m c main_v4) ?_; blk_ext [e5]

/-- The rows of the residual stream: the first argument's. -/
def rows (r : Fin 16384) (d : Fin 1024) : EReal :=
  m ((c : Thread nD τ).loc main_arg0) (ix3 ⟨r.val / 2048, by omega⟩ ⟨r.val % 2048, by omega⟩ d)

/-- The layer of the arguments, at a row and a column. -/
def result (r : Fin 16384) (d : Fin 1024) : EReal :=
  layer (rows m c) (fun d => m ((c : Thread nD τ).loc main_arg1) (ix1 d)) (fun k j => m ((c : Thread nD τ).loc main_arg2) (ix2 k j))
    (fun e => m ((c : Thread nD τ).loc main_arg3) (ix1 e)) (fun g p q => m ((c : Thread nD τ).loc main_arg4) (ix3 g p q))
    (fun g p => m ((c : Thread nD τ).loc main_arg5) (ix2 g p)) (fun e d => m ((c : Thread nD τ).loc main_arg6) (ix2 e d)) r d

/-- What the body leaves in a block is the layer at the block's rows. -/
theorem blkOut_apply (t : Fin cfg0.N) (i : Fin 512) (d : Fin 1024) : blkOut m c t (ix2 i d) = result m c (row t i) d := by
  have hW : halfAll m c = halfW (F := Ideal) (m ((c : Thread nD τ).loc main_arg2)) := by
    unfold halfAll; rw [V_main_arg2]; rfl
  have hmate : ∀ q : Fin 128, ∀ h, row t ⟨128 * (i.val / 128) + q.val, h⟩ = mate (row t i) q := fun q h => Fin.ext (by
    show 512 * t.val + (128 * (i.val / 128) + q.val) = 128 * ((512 * t.val + i.val) / 128) + q.val
    omega)
  have hplace : (⟨i.val % 128, by omega⟩ : Fin 128) = place (row t i) := Fin.ext (by
    show i.val % 128 = (512 * t.val + i.val) % 128
    omega)
  unfold blkOut
  rw [hW, blockOut_apply]
  simp only [blk0, blk1, blk2, blk3, blk4, blk5, hmate, hplace]
  rfl

/-- The array after the last point is the layer of the arguments. -/
theorem final : (dats m 0 c).arrAt 6 cfg0.N = (fun j : S16384x1024.Idx => result m c (j 0) (j 1) : FVec Ideal S16384x1024 .f32) := by
  refine (dats m 0 c).arrAt_eq_of_covers 6 _ (by decide +kernel) fun t hf y => ?_
  blk_simp
  rw [after_6]
  idx_vars y
  rw [blkOut_apply]
  refine congrArg₂ (result m c) ?_ ?_ <;> apply Fin.ext <;> blk_simp [e6, row] <;> simp <;> omega

end Cert.Kernel2Ideal.Own

end
-- ==== Proof.L0Parts.lean ====
/- The claims' parts about the layer without a pending product, from the runs and the values. -/
module

public import proofs.«01_k».proof.Defs
public import proofs.«01_k».proof.Proof.L0BitsRun
public import proofs.«01_k».proof.Proof.L0KValue
public import proofs.«01_k».proof.Proof.RefValue
public import proofs.«01_k».proof.Proof.Gen.Reference2Ideal.Run

@[expose] public section

set_option maxRecDepth 16384

noncomputable section

namespace Cert.Parts2

open Idealize.ShloMosaic Idealize.ShloMosaic.TcCoe Idealize.SL.Sem Cert.Own

/-- The kernel ends with its arguments unchanged and its counters at zero, over the bit patterns. -/
theorem frame_p : Cert.quiescent_Kernel2 (hKernel2 := Cert.Kernel2.Gen.facts) := fun m ρ _ => Cert.Kernel2.Own.frame m ρ

/-- The same of the kernel over the extended reals. -/
theorem frame_i : Cert.quiescent_Kernel2Ideal (hKernel2Ideal := Cert.Kernel2Ideal.Gen.facts) := fun m ρ _ => Cert.Kernel2Ideal.Own.frame m ρ

/-- The reference ends with its arguments unchanged; it has no counter. -/
theorem frame_r : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The named constant is the nearest single to its value. -/
theorem preserves : Cert.preserves_Kernel2_Kernel2Ideal :=
  IdealRules.named_const.statement Cert.Kernel2Ideal.κ "gelu_cub" .f32 0x3E922279#32 ((80338380498831 / 281474976710656 : ℝ) : EReal) rfl

set_option maxHeartbeats 4000000 in
/-- The reference's result is the layer's stages on its first argument. -/
theorem ref_out (m : (ℓ : Loc Cert.Reference2Ideal.nD Cert.Reference2Ideal.τ Cert.Reference2Ideal.sig) → Buf (Elt Ideal) ℓ) (c : Dev Cert.Reference2Ideal.nD) :
    Cert.Reference2Ideal.Value.res_out0 m c = Cert.ReferenceIdeal.Own.rLayer (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) := by
  unfold Cert.Reference2Ideal.Value.res_out0 Cert.Reference2Ideal.Value.res_main_v73 Cert.ReferenceIdeal.Own.rLayer Cert.ReferenceIdeal.Own.rO Cert.ReferenceIdeal.Own.rS Cert.ReferenceIdeal.Own.rM Cert.ReferenceIdeal.Own.rW Cert.ReferenceIdeal.Own.rN Cert.ReferenceIdeal.Own.rAct Cert.ReferenceIdeal.Own.rU Cert.ReferenceIdeal.Own.rV Cert.ReferenceIdeal.Own.rG Cert.ReferenceIdeal.Own.rP Cert.ReferenceIdeal.Own.rH
  rfl

/-- The kernel's array is the reference's result, from equal arguments. -/
theorem values_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) :
    (Cert.Reference2Ideal.Value.res_out0 m' c : FVec Ideal Cert.Reference2Ideal.S16384x1024 .f32) = fun j => Cert.Kernel2Ideal.Own.result m c (j 0) (j 1) := by
  funext j
  idx_vars j
  rw [ref_out]
  refine (Cert.ReferenceIdeal.Own.rLayer_apply _ _ _ _ _ _ _ _ _).trans ?_
  simp only [h]
  rfl

/-- From equal arguments the kernel and the reference both run, and end with the same result and unchanged arguments. -/
theorem algebraic : Cert.algebraic_Kernel2Ideal_Reference2Ideal (hKernel2Ideal := Cert.Kernel2Ideal.Gen.facts) (hReference2Ideal := Cert.Reference2Ideal.Gen.facts) := by
  intro m ρ m' ρ' _ hagree
  refine ⟨fun c => (fun j => Cert.Kernel2Ideal.Own.result m c (j 0) (j 1)), ?_, ?_⟩
  · refine (θ_run Cert.Kernel2Ideal.defs _ _).mono (fun r h c => ⟨?_, h.1.1 c⟩)
      (θ_run_and (Cert.Kernel2Ideal.Own.frame m ρ) (Cert.Kernel2Ideal.Own.run_main m ρ))
    exact (h.2.1.out_eq c 6).trans (Cert.Kernel2Ideal.Own.final m c)
  · refine (θ_run Cert.Reference2Ideal.defs _ _).mono (fun r h c => ⟨?_, (h c).2⟩) (Cert.Reference2Ideal.Value.run (F := Ideal) m' ρ')
    exact (h c).1.trans (values_eq m m' c (hagree c))

end Cert.Parts2

end
-- ==== Proof.L1Frames.lean ====
/- The claims' parts about the recurrent layer's runs: its programs end, with their arguments unchanged and their counters at zero. -/
module

public import proofs.«01_k».proof.Defs
public import proofs.«01_k».proof.Proof.Gen.Kernel3.Frame
public import proofs.«01_k».proof.Proof.Gen.Kernel3Ideal.Frame
public import proofs.«01_k».proof.Proof.Gen.Reference3Ideal.Run

@[expose] public section

set_option maxRecDepth 16384

noncomputable section

namespace Cert.Parts3

open Idealize.ShloMosaic Idealize.ShloMosaic.TcCoe Idealize.SL.Sem

/-- The kernel ends with its arguments unchanged and its counters at zero, over the bit patterns. -/
theorem frame_p : Cert.quiescent_Kernel3 (hKernel3 := Cert.Kernel3.Gen.facts) := fun m ρ _ => Cert.Kernel3.Gen.frame m ρ

/-- The same of the kernel over the extended reals. -/
theorem frame_i : Cert.quiescent_Kernel3Ideal (hKernel3Ideal := Cert.Kernel3Ideal.Gen.facts) := fun m ρ _ => Cert.Kernel3Ideal.Gen.frame m ρ

/-- The reference ends with its arguments unchanged; it has no counter. -/
theorem frame_r : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- No operation of the kernel is rewritten. -/
theorem preserves : Cert.preserves_Kernel3_Kernel3Ideal := trivial

end Cert.Parts3

end
-- ==== Proof.L2Spec.lean ====
/- The projection of the attention layer in plain sums: what both programs compute at a row and a column. -/
module

public import proofs.«01_k».proof.Proof.Spec

@[expose] public section

set_option maxRecDepth 16384

noncomputable section

namespace Cert.Own

open Idealize.ShloMosaic

/-- The reciprocal root mean square of a head. -/
def headScale (p : Fin 64 → EReal) : EReal :=
  Ideal.rsqrt (Ideal.div (∑ d, p d * p d) (Ideal.ofBits .f32 0x42800000#32) + Ideal.ofBits .f32 0x358637BD#32)

/-- The columns of a column's head. -/
def headCol (e : Fin 1024) (d : Fin 64) : Fin 1024 := ⟨64 * (e.val / 64) + d.val, by omega⟩

/-- A head scaled by its reciprocal root mean square. -/
def headQ (p : Fin 1024 → EReal) (e : Fin 1024) : EReal := p e * headScale fun d => p (headCol e d)

/-- The product of a normalised row with a column of the weight. -/
def proj (X n : Fin 1024 → EReal) (W : Fin 1024 → Fin 4112 → EReal) (j : Fin 4112) : EReal := ∑ k, rowH X n k * W k j

/-- The query of a row. -/
def specQ (X n : Fin 1024 → EReal) (W : Fin 1024 → Fin 4112 → EReal) (e : Fin 1024) : EReal :=
  headQ (fun e => proj X n W ⟨e.val, by omega⟩) e

/-- The key of a row, with both scales and the constant of the scores. -/
def specK (X n : Fin 1024 → EReal) (W : Fin 1024 → Fin 4112 → EReal) (q k : Fin 64 → EReal) (e : Fin 1024) : EReal :=
  headQ (fun e => proj X n W ⟨1024 + e.val, by omega⟩) e * k ⟨e.val % 64, by omega⟩ * q ⟨e.val % 64, by omega⟩ * Ideal.ofBits .f32 0x3E38AA3B#32

/-- The value of a row. -/
def specV (X n : Fin 1024 → EReal) (W : Fin 1024 → Fin 4112 → EReal) (e : Fin 1024) : EReal := proj X n W ⟨2048 + e.val, by omega⟩

/-- The gate of a row. -/
def specG (X n : Fin 1024 → EReal) (W : Fin 1024 → Fin 4112 → EReal) (e : Fin 1024) : EReal := silu (proj X n W ⟨3072 + e.val, by omega⟩)

end Cert.Own

end
-- ==== Proof.L2Pay.lean ====
/- The projection's body at an index, over the extended reals. -/
module

public import proofs.«01_k».proof.Proof.Gen.Kernel4Ideal.Skeleton
public import proofs.«01_k».proof.Proof.L2Spec
public import Idealize.ShloMosaic.Lib.Pointwise

@[expose] public section

set_option maxRecDepth 16384

noncomputable section

namespace Cert.Kernel4Ideal.Own

open Cert.Kernel4Ideal Cert.Kernel4Ideal.Gen Cert.Own Idealize.ShloMosaic Idealize.ShloMosaic.TcCoe

/-- The first normalisation at an index. -/
theorem p3_apply (x0 : FVec Ideal S1x1024x1024 .f32) (x1 : FVec Ideal S1x1024 .f32) (i d : Fin 1024) :
    k0_pay3 (F := Ideal) x0 x1 (ix2 i d) = rowH (fun d => x0 (ix3 0 i d)) (fun d => x1 (ix2 0 d)) d := by
  unfold k0_pay3 rowH rmsScale; pointwise

/-- The key's product at an index. -/
theorem p4_apply (x0 : FVec Ideal S1x1024x1024 .f32) (x1 : FVec Ideal S1x1024 .f32) (w : FVec Ideal S1024x1024 .bf16) (i e : Fin 1024) :
    k0_pay4 (F := Ideal) x0 x1 w (ix2 i e) = ∑ k : Fin 1024, k0_pay3 (F := Ideal) x0 x1 (ix2 i k) * w (ix2 k e) := by
  unfold k0_pay4; generalize k0_pay3 (F := Ideal) x0 x1 = X; pointwise

/-- The gate at an index. -/
theorem p7_apply (H : FVec Ideal S1024x1024 .bf16) (w : FVec Ideal S1024x1024 .bf16) (i e : Fin 1024) :
    k0_pay7 (F := Ideal) H w (ix3 0 i e) = siluHalf (∑ k : Fin 1024, H (ix2 i k) * w (ix2 k e)) := by
  unfold k0_pay7 siluHalf; pointwise

/-- The transposed product at an index. -/
theorem p8_apply (H : FVec Ideal S1024x1024 .bf16) (w : FVec Ideal S2048x1024 .bf16) (j : Fin 2048) (i : Fin 1024) :
    k0_pay8 (F := Ideal) H w (ix2 j i) = ∑ k : Fin 1024, w (ix2 j k) * H (ix2 i k) := by
  unfold k0_pay8; pointwise

/-- The value's product at an index. -/
theorem p9_apply (H : FVec Ideal S1024x1024 .bf16) (w : FVec Ideal S2048x1024 .bf16) (e i : Fin 1024) :
    k0_pay9 (F := Ideal) H w (ix3 0 e i) = ∑ k : Fin 1024, w (ix2 ⟨1024 + e.val, by omega⟩ k) * H (ix2 i k) := by
  refine Eq.trans (b := k0_pay8 (F := Ideal) H w (ix2 ⟨1024 + e.val, by omega⟩ i)) ?_ (p8_apply H w _ i)
  unfold k0_pay9; generalize k0_pay8 (F := Ideal) H w = Z; pointwise

/-- The columns of a head of the transposed product. -/
def rowsOf (Z : FVec Ideal S2048x1024 .f32) (hd : ℕ) (h : hd < 16) (i : Fin 1024) (d : Fin 64) : EReal := Z (ix2 ⟨64 * hd + d.val, by omega⟩ i)

/-- Head 0 at an index. -/
theorem q0_apply (H : FVec Ideal S1024x1024 .bf16) (w : FVec Ideal S2048x1024 .bf16) (j : Fin 64) (i : Fin 1024) :
    k0_pay12 (F := Ideal) (k0_pay10 H w) (k0_pay11 H w) (Scalar.ofBits .f32 0x42800000#32) (ix3 0 j i)
      = rowsOf (k0_pay8 H w) 0 (by omega) i j * headScale (rowsOf (k0_pay8 H w) 0 (by omega) i) := by
  unfold k0_pay12 k0_pay11 k0_pay10 rowsOf headScale; generalize k0_pay8 (F := Ideal) H w = Z; pointwise

/-- Head 1 at an index. -/
theorem q1_apply (Z : FVec Ideal S2048x1024 .f32) (j : Fin 64) (i : Fin 1024) :
    k0_pay13 (F := Ideal) Z (ix3 0 j i) = rowsOf Z 1 (by omega) i j * headScale (rowsOf Z 1 (by omega) i) := by
  unfold k0_pay13 rowsOf headScale; pointwise

/-- Head 2 at an index. -/
theorem q2_apply (Z : FVec Ideal S2048x1024 .f32) (j : Fin 64) (i : Fin 1024) :
    k0_pay14 (F := Ideal) Z (ix3 0 j i) = rowsOf Z 2 (by omega) i j * headScale (rowsOf Z 2 (by omega) i) := by
  unfold k0_pay14 rowsOf headScale; pointwise

/-- Head 3 at an index. -/
theorem q3_apply (Z : FVec Ideal S2048x1024 .f32) (j : Fin 64) (i : Fin 1024) :
    k0_pay15 (F := Ideal) Z (ix3 0 j i) = rowsOf Z 3 (by omega) i j * headScale (rowsOf Z 3 (by omega) i) := by
  unfold k0_pay15 rowsOf headScale; pointwise

/-- Head 4 at an index. -/
theorem q4_apply (Z : FVec Ideal S2048x1024 .f32) (j : Fin 64) (i : Fin 1024) :
    k0_pay16 (F := Ideal) Z (ix3 0 j i) = rowsOf Z 4 (by omega) i j * headScale (rowsOf Z 4 (by omega) i) := by
  unfold k0_pay16 rowsOf headScale; pointwise

/-- Head 5 at an index. -/
theorem q5_apply (Z : FVec Ideal S2048x1024 .f32) (j : Fin 64) (i : Fin 1024) :
    k0_pay18 (F := Ideal) (k0_pay17 Z) (ix3 0 j i) = rowsOf Z 5 (by omega) i j * headScale (rowsOf Z 5 (by omega) i) := by
  unfold k0_pay18 k0_pay17 rowsOf headScale; pointwise

/-- Head 6 at an index. -/
theorem q6_apply (Z : FVec Ideal S2048x1024 .f32) (j : Fin 64) (i : Fin 1024) :
    k0_pay19 (F := Ideal) Z (ix3 0 j i) = rowsOf Z 6 (by omega) i j * headScale (rowsOf Z 6 (by omega) i) := by
  unfold k0_pay19 rowsOf headScale; pointwise

/-- Head 7 at an index. -/
theorem q7_apply (Z : FVec Ideal S2048x1024 .f32) (j : Fin 64) (i : Fin 1024) :
    k0_pay20 (F := Ideal) Z (ix3 0 j i) = rowsOf Z 7 (by omega) i j * headScale (rowsOf Z 7 (by omega) i) := by
  unfold k0_pay20 rowsOf headScale; pointwise

/-- Head 8 at an index. -/
theorem q8_apply (Z : FVec Ideal S2048x1024 .f32) (j : Fin 64) (i : Fin 1024) :
    k0_pay24 (F := Ideal) (k0_pay21 Z) (k0_pay22 Z) k0_pay23 (ix3 0 j i) = rowsOf Z 8 (by omega) i j * headScale (rowsOf Z 8 (by omega) i) := by
  unfold k0_pay24 k0_pay22 k0_pay21 k0_pay23 rowsOf headScale; pointwise

/-- Head 9 at an index. -/
theorem q9_apply (Z : FVec Ideal S2048x1024 .f32) (j : Fin 64) (i : Fin 1024) :
    k0_pay25 (F := Ideal) Z (ix3 0 j i) = rowsOf Z 9 (by omega) i j * headScale (rowsOf Z 9 (by omega) i) := by
  unfold k0_pay25 rowsOf headScale; pointwise

/-- Head 10 at an index. -/
theorem q10_apply (Z : FVec Ideal S2048x1024 .f32) (j : Fin 64) (i : Fin 1024) :
    k0_pay26 (F := Ideal) Z (ix3 0 j i) = rowsOf Z 10 (by omega) i j * headScale (rowsOf Z 10 (by omega) i) := by
  unfold k0_pay26 rowsOf headScale; pointwise

/-- Head 11 at an index. -/
theorem q11_apply (Z : FVec Ideal S2048x1024 .f32) (j : Fin 64) (i : Fin 1024) :
    k0_pay29 (F := Ideal) (k0_pay27 Z) (k0_pay28 Z) (ix3 0 j i) = rowsOf Z 11 (by omega) i j * headScale (rowsOf Z 11 (by omega) i) := by
  unfold k0_pay29 k0_pay28 k0_pay27 rowsOf headScale; pointwise

/-- Head 12 at an index. -/
theorem q12_apply (Z : FVec Ideal S2048x1024 .f32) (j : Fin 64) (i : Fin 1024) :
    k0_pay30 (F := Ideal) Z (ix3 0 j i) = rowsOf Z 12 (by omega) i j * headScale (rowsOf Z 12 (by omega) i) := by
  unfold k0_pay30 rowsOf headScale; pointwise

/-- Head 13 at an index. -/
theorem q13_apply (Z : FVec Ideal S2048x1024 .f32) (j : Fin 64) (i : Fin 1024) :
    k0_pay32 (F := Ideal) (k0_pay31 Z) (ix3 0 j i) = rowsOf Z 13 (by omega) i j * headScale (rowsOf Z 13 (by omega) i) := by
  unfold k0_pay32 k0_pay31 rowsOf headScale; pointwise

/-- Head 14 at an index. -/
theorem q14_apply (Z : FVec Ideal S2048x1024 .f32) (j : Fin 64) (i : Fin 1024) :
    k0_pay33 (F := Ideal) Z (ix3 0 j i) = rowsOf Z 14 (by omega) i j * headScale (rowsOf Z 14 (by omega) i) := by
  unfold k0_pay33 rowsOf headScale; pointwise

/-- Head 15 at an index. -/
theorem q15_apply (Z : FVec Ideal S2048x1024 .f32) (j : Fin 64) (i : Fin 1024) :
    k0_pay34 (F := Ideal) Z (ix3 0 j i) = rowsOf Z 15 (by omega) i j * headScale (rowsOf Z 15 (by omega) i) := by
  unfold k0_pay34 rowsOf headScale; pointwise

/-- The reciprocal root of a lane of the key's squares. -/
def kroot (Z : FVec Ideal S1024x1024 .f32) (seg : FVec Ideal S1024x128 .bf16) (i : Fin 1024) (l : Fin 128) : EReal :=
  Ideal.rsqrt ((∑ k : Fin 1024, Z (ix2 i k) * Z (ix2 i k) * seg (ix2 k l)) * Ideal.ofBits .f32 0x3C800000#32 + Ideal.ofBits .f32 0x358637BD#32)

/-- The lanes of the reciprocal roots, and of what rounding left of them. -/
theorem p5_apply (x0 : FVec Ideal S1x1024x1024 .f32) (x1 : FVec Ideal S1x1024 .f32) (w : FVec Ideal S1024x1024 .bf16) (seg : FVec Ideal S1024x128 .bf16) (i : Fin 1024) (l : Fin 256) :
    k0_pay5 (F := Ideal) x0 x1 w seg (ix2 i l)
      = if h : l.val < 128 then kroot (k0_pay4 (F := Ideal) x0 x1 w) seg i ⟨l.val, h⟩
        else kroot (k0_pay4 (F := Ideal) x0 x1 w) seg i ⟨l.val - 128, by omega⟩ - kroot (k0_pay4 (F := Ideal) x0 x1 w) seg i ⟨l.val - 128, by omega⟩ := by
  unfold k0_pay5 kroot; generalize k0_pay4 (F := Ideal) x0 x1 w = Z; pointwise

/-- The scaled key at an index. -/
theorem p6_apply (Z : FVec Ideal S1024x1024 .f32) (R : FVec Ideal S1024x256 .bf16) (segt : FVec Ideal S256x1024 .bf16) (g : FVec Ideal S1x1024 .f32) (i e : Fin 1024) :
    k0_pay6 (F := Ideal) Z R segt g (ix3 0 i e) = Z (ix2 i e) * (∑ l : Fin 256, R (ix2 i l) * segt (ix2 l e)) * g (ix2 0 e) := by
  unfold k0_pay6; pointwise

end Cert.Kernel4Ideal.Own

end
-- ==== Proof.L2Blk.lean ====
/- The projection's blocks, at an index. -/
module

public import proofs.«01_k».proof.Proof.L2Pay
public import proofs.«01_k».proof.Proof.Gen.Kernel4Ideal.Frame.Runs
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Kernel4Ideal.Own

open Cert.Kernel4Ideal Cert.Kernel4Ideal.Gen Cert.Own Idealize.ShloMosaic Idealize.ShloMosaic.TcCoe
open Idealize.ShloMosaic.Pipeline (Dat Cfg Window)

variable (m : (ℓ : Loc nD τ sig) → Buf (Elt Ideal) ℓ) (c : Dev nD)

/-- The scale, as a row. -/
theorem V_v62 (d : Fin 1024) : V m c main_v62 (ix2 0 d) = m ((c : Thread nD τ).loc main_arg1) (ix1 d) := by
  unfold V; after_reads_at
/-- The key's columns of the first weight. -/
theorem V_v6_key (k e : Fin 1024) :
    V m c main_v6 (ix2 k ⟨e.val, by omega⟩) = m ((c : Thread nD τ).loc main_arg2) (ix2 k ⟨1024 + e.val, by omega⟩) := by
  unfold V; after_reads_at
/-- The gate's columns of the first weight, halved. -/
theorem V_v6_gate (k e : Fin 1024) :
    V m c main_v6 (ix2 k ⟨1024 + e.val, by omega⟩)
      = Ideal.ofBits .f32 0x3F000000#32 * m ((c : Thread nD τ).loc main_arg2) (ix2 k ⟨3072 + e.val, by omega⟩) := by
  unfold V; after_reads_at
/-- The query's rows of the second weight. -/
theorem V_v13_query (e k : Fin 1024) :
    V m c main_v13 (ix2 ⟨e.val, by omega⟩ k) = m ((c : Thread nD τ).loc main_arg2) (ix2 k ⟨e.val, by omega⟩) := by
  unfold V; after_reads_at
/-- The value's rows of the second weight. -/
theorem V_v13_value (e k : Fin 1024) :
    V m c main_v13 (ix2 ⟨1024 + e.val, by omega⟩ k) = m ((c : Thread nD τ).loc main_arg2) (ix2 k ⟨2048 + e.val, by omega⟩) := by
  unfold V; after_reads_at
/-- The query's scale. -/
def inQ (d : Fin 64) : EReal := m ((c : Thread nD τ).loc main_arg4) (ix1 d)
/-- The key's own scale. -/
def inK (d : Fin 64) : EReal := m ((c : Thread nD τ).loc main_arg5) (ix1 d)
/-- The key's scale, repeated over the heads. -/
theorem V_v31 (e : Fin 1024) :
    V m c main_v31 (ix2 0 e) = inK m c ⟨e.val % 64, by omega⟩ * inQ m c ⟨e.val % 64, by omega⟩ * Ideal.ofBits .f32 0x3E38AA3B#32 := by
  unfold V inK inQ; after_reads_at

/-- The batch of a point. -/
def bat (t : Fin cfg0.N) : Fin 8 := ⟨t.val / 2, by have : cfg0.N = 16 := N_0; omega⟩
/-- The position that row `i` of a point's block is. -/
def pos (t : Fin cfg0.N) (i : Fin 1024) : Fin 2048 := ⟨1024 * (t.val % 2) + i.val, by omega⟩

/-- The block of the input: the index of the block. -/
theorem e0 : ∀ t : Fin cfg0.N, win0_0.index t = ![t.val / 2, t.val % 2, 0] := (by decide +kernel : ∀ t : Fin grid0.N, _)
/-- The block of the scale: the index of the block. -/
theorem e1 : ∀ t : Fin cfg0.N, win0_1.index t = ![0, 0] := (by decide +kernel : ∀ t : Fin grid0.N, _)
/-- The block of the first weight: the index of the block. -/
theorem e2 : ∀ t : Fin cfg0.N, win0_2.index t = ![0, 0] := (by decide +kernel : ∀ t : Fin grid0.N, _)
/-- The block of the second weight: the index of the block. -/
theorem e3 : ∀ t : Fin cfg0.N, win0_3.index t = ![0, 0] := (by decide +kernel : ∀ t : Fin grid0.N, _)
/-- The block of the key's scale: the index of the block. -/
theorem e6 : ∀ t : Fin cfg0.N, win0_6.index t = ![0, 0] := (by decide +kernel : ∀ t : Fin grid0.N, _)
/-- The block of the lanes: the index of the block. -/
theorem e7 : ∀ t : Fin cfg0.N, win0_7.index t = ![0, 0] := (by decide +kernel : ∀ t : Fin grid0.N, _)
/-- The block of the lanes' columns: the index of the block. -/
theorem e8 : ∀ t : Fin cfg0.N, win0_8.index t = ![0, 0] := (by decide +kernel : ∀ t : Fin grid0.N, _)
/-- The query's block: the index of the block. -/
theorem e11 : ∀ t : Fin cfg0.N, win0_11.index t = ![t.val / 2, 0, t.val % 2] := (by decide +kernel : ∀ t : Fin grid0.N, _)
/-- The key's block: the index of the block. -/
theorem e12 : ∀ t : Fin cfg0.N, win0_12.index t = ![t.val / 2, t.val % 2, 0] := (by decide +kernel : ∀ t : Fin grid0.N, _)
/-- The value's block: the index of the block. -/
theorem e14 : ∀ t : Fin cfg0.N, win0_14.index t = ![t.val / 2, 0, t.val % 2] := (by decide +kernel : ∀ t : Fin grid0.N, _)
/-- The gate's block: the index of the block. -/
theorem e15 : ∀ t : Fin cfg0.N, win0_15.index t = ![t.val / 2, t.val % 2, 0] := (by decide +kernel : ∀ t : Fin grid0.N, _)

/-- The block of the input at a point, at an index. -/
theorem blk0 (t : Fin cfg0.N) (i d : Fin 1024) : iblk m c 0 t (ix3 0 i d) = m ((c : Thread nD τ).loc main_arg0) (ix3 (bat t) (pos t i) d) := by
  refine Eq.trans (b := V m c main_arg0 (ix3 (bat t) (pos t i) d)) ?_ (congrFun (V_main_arg0 m c) _)
  blk_simp [iblk]; refine congrArg (V m c main_arg0) ?_; blk_ext [e0, bat, pos]
/-- The block of the scale, at an index. -/
theorem blk1 (t : Fin cfg0.N) (d : Fin 1024) : iblk m c 1 t (ix2 0 d) = m ((c : Thread nD τ).loc main_arg1) (ix1 d) := by
  refine Eq.trans (b := V m c main_v62 (ix2 0 d)) ?_ (V_v62 m c _)
  blk_simp [iblk]; refine congrArg (V m c main_v62) ?_; blk_ext [e1]
/-- The block of the first weight, at an index. -/
theorem blk2 (t : Fin cfg0.N) (k : Fin 1024) (e : Fin 2048) : iblk m c 2 t (ix2 k e) = V m c main_v6 (ix2 k e) := by
  blk_simp [iblk]; refine congrArg (V m c main_v6) ?_; blk_ext [e2]
/-- The block of the second weight, at an index. -/
theorem blk3 (t : Fin cfg0.N) (j : Fin 2048) (k : Fin 1024) : iblk m c 3 t (ix2 j k) = V m c main_v13 (ix2 j k) := by
  blk_simp [iblk]; refine congrArg (V m c main_v13) ?_; blk_ext [e3]
/-- The block of the key's scale, at an index. -/
theorem blk6 (t : Fin cfg0.N) (e : Fin 1024) : iblk m c 6 t (ix2 0 e) = V m c main_v31 (ix2 0 e) := by
  blk_simp [iblk]; refine congrArg (V m c main_v31) ?_; blk_ext [e6]
/-- The block of the lanes, at an index. -/
theorem blk7 (t : Fin cfg0.N) (k : Fin 1024) (l : Fin 128) : iblk m c 7 t (ix2 k l) = V m c main_v40 (ix2 k l) := by
  blk_simp [iblk]; refine congrArg (V m c main_v40) ?_; blk_ext [e7]
/-- The block of the lanes' columns, at an index. -/
theorem blk8 (t : Fin cfg0.N) (l : Fin 256) (e : Fin 1024) : iblk m c 8 t (ix2 l e) = V m c main_v43 (ix2 l e) := by
  blk_simp [iblk]; refine congrArg (V m c main_v43) ?_; blk_ext [e8]

end Cert.Kernel4Ideal.Own

end
-- ==== Proof.L2Lanes.lean ====
/- The lanes of the heads: which columns a lane sums, and the sums through them. -/
module

public import proofs.«01_k».proof.Proof.L2Blk

@[expose] public section

set_option maxRecDepth 16384

noncomputable section

namespace Cert.Kernel4Ideal.Own

open Cert.Kernel4Ideal Cert.Kernel4Ideal.Gen Cert.Own Idealize.ShloMosaic Idealize.ShloMosaic.TcCoe

variable (m : (ℓ : Loc nD τ sig) → Buf (Elt Ideal) ℓ) (c : Dev nD)

/-- The quotient of a column by the width of a head, as the words compute it. -/
theorem word_quot : ∀ k : Fin 1024, Scalar.select
          (IntOp.andi
            (IntOp.cmpi CmpIPredicate.ne
              (if BitVec.ofNat 32 k.val = 0 then 0 else if (BitVec.ofNat 32 k.val).msb = true then -1 else 1)
              (if (64#32 : BitVec 32) = 0 then (0 : BitVec 32) else if BitVec.msb 64#32 = true then -1 else 1))
            (IntOp.cmpi CmpIPredicate.ne (IntOp.remsi ArithUnit.host (BitVec.ofNat 32 k.val) 64#32) 0#32))
          (IntOp.subi (IntOp.divsi ArithUnit.host (BitVec.ofNat 32 k.val) 64#32) 1#32)
          (IntOp.divsi ArithUnit.host (BitVec.ofNat 32 k.val) 64#32) = BitVec.ofNat 32 (k.val / 64) := by decide +kernel

/-- Equality of a head and a lane, as the words compute it. -/
theorem word_eq : ∀ (h : Fin 16) (l : Fin 128), IntOp.cmpi CmpIPredicate.eq (BitVec.ofNat 32 h.val) (BitVec.ofNat 32 l.val) = if h.val = l.val then 1#1 else 0#1 := by decide +kernel

/-- A lane's indicator. -/
def lane (k : Fin 1024) (l : Fin 128) : EReal := if k.val / 64 = l.val then 1 else 0

/-- The word of a lane's indicator, as a real. -/
theorem lane_word (k : Fin 1024) (l : Fin 128) :
    FloatOps.uitofp (F := Ideal) FTy.bf16 (IntOp.cmpi CmpIPredicate.eq (BitVec.ofNat 32 (k.val / 64)) (BitVec.ofNat 32 l.val)) = lane k l := by
  rw [word_eq ⟨k.val / 64, by omega⟩ l]
  unfold lane
  split
  · show (((1#1 : BitVec 1).toNat : ℝ) : EReal) = 1
    simp
  · show (((0#1 : BitVec 1).toNat : ℝ) : EReal) = 0
    simp

/-- The indicator's array. -/
theorem V_v40 (k : Fin 1024) (l : Fin 128) : V m c main_v40 (ix2 k l) = lane k l := by
  rw [← lane_word, ← word_quot]; unfold V; after_reads_at; rfl
/-- The indicator's first copy, transposed. -/
theorem V_v43_lo (l : Fin 128) (k : Fin 1024) : V m c main_v43 (ix2 ⟨l.val, by omega⟩ k) = lane k l := by
  rw [← lane_word, ← word_quot]; unfold V; after_reads_at; rfl
/-- The indicator's second copy, transposed. -/
theorem V_v43_hi (l : Fin 128) (k : Fin 1024) : V m c main_v43 (ix2 ⟨128 + l.val, by omega⟩ k) = lane k l := by
  rw [← lane_word, ← word_quot]; unfold V; after_reads_at; rfl

/-- A sum through a lane is the sum over the lane's head. -/
theorem sum_lane (f : Fin 1024 → EReal) (h : Fin 16) :
    ∑ k : Fin 1024, f k * lane k ⟨h.val, by omega⟩ = ∑ d : Fin 64, f ⟨64 * h.val + d.val, by omega⟩ := by
  refine (Fin.sum_mul_add_fin 16 64 (fun k : Fin 1024 => f k * lane k ⟨h.val, by omega⟩)).symm.trans ?_
  rw [Finset.sum_eq_single h]
  · refine Finset.sum_congr rfl fun d _ => ?_
    have h1 : (h.val * 64 + d.val) / 64 = h.val := by omega
    unfold lane
    rw [if_pos h1, mul_one]
    exact congrArg f (Fin.ext (by show h.val * 64 + d.val = 64 * h.val + d.val; omega))
  · intro s _ hs
    refine Finset.sum_eq_zero fun d _ => ?_
    have h1 : ¬ (s.val * 64 + d.val) / 64 = h.val := fun hh => hs (Fin.ext (by omega))
    unfold lane
    rw [if_neg h1, mul_zero]
  · simp

/-- A sum over the lanes takes the column's lane. -/
theorem lane_sum (R : Fin 128 → EReal) (e : Fin 1024) :
    (∑ l : Fin 128, R l * lane e l) = R ⟨e.val / 64, by omega⟩ := by
  rw [Finset.sum_eq_single (⟨e.val / 64, by omega⟩ : Fin 128)]
  · unfold lane; simp
  · intro l _ hl
    have : ¬ e.val / 64 = l.val := fun h => hl (Fin.ext h.symm)
    unfold lane; simp [this]
  · simp

end Cert.Kernel4Ideal.Own

end
-- ==== Proof.L2KValue.lean ====
/- The arrays the projection leaves, in plain sums over the arguments. -/
module

public import proofs.«01_k».proof.Proof.L2Blk
public import proofs.«01_k».proof.Proof.Gen.Kernel4Ideal.Frame

@[expose] public section

set_option maxRecDepth 16384

noncomputable section

namespace Cert.Kernel4Ideal.Own

open Cert.Kernel4Ideal Cert.Kernel4Ideal.Gen Cert.Own Idealize.ShloMosaic Idealize.ShloMosaic.TcCoe
open Idealize.ShloMosaic.Pipeline (Dat Cfg Window)

variable (m : (ℓ : Loc nD τ sig) → Buf (Elt Ideal) ℓ) (c : Dev nD)

/-- A row of the input. -/
def inX (b : Fin 8) (s : Fin 2048) (d : Fin 1024) : EReal := m ((c : Thread nD τ).loc main_arg0) (ix3 b s d)
/-- The scale. -/
def inN (d : Fin 1024) : EReal := m ((c : Thread nD τ).loc main_arg1) (ix1 d)
/-- The weight. -/
def inW (k : Fin 1024) (j : Fin 4112) : EReal := m ((c : Thread nD τ).loc main_arg2) (ix2 k j)

/-- Equal places have equal values. -/
theorem place3 {A B C : ℕ} (f : Fin A → Fin B → Fin C → EReal) {a a' : Fin A} {b b' : Fin B} {c c' : Fin C}
    (ha : a.val = a'.val) (hb : b.val = b'.val) (hc : c.val = c'.val) : f a b c = f a' b' c' := by
  rw [Fin.ext ha, Fin.ext hb, Fin.ext hc]

/-- A normalised row of a block. -/
theorem hid (t : Fin cfg0.N) (i k : Fin 1024) :
    k0_pay3 (F := Ideal) (iblk m c 0 t) (iblk m c 1 t) (ix2 i k) = rowH (inX m c (bat t) (pos t i)) (inN m c) k := by
  rw [p3_apply]; simp only [blk0, blk1]; rfl

/-- The query's rows of a block. -/
theorem rows_eq (t : Fin cfg0.N) (hd : ℕ) (h : hd < 16) (i : Fin 1024) (d : Fin 64) :
    rowsOf (k0_pay8 (F := Ideal) (k0_pay3 (iblk m c 0 t) (iblk m c 1 t)) (iblk m c 3 t)) hd h i d
      = proj (inX m c (bat t) (pos t i)) (inN m c) (inW m c) ⟨64 * hd + d.val, by omega⟩ := by
  unfold rowsOf
  rw [p8_apply]
  unfold proj
  refine Finset.sum_congr rfl fun k _ => ?_
  rw [hid, blk3, V_v13_query m c ⟨64 * hd + d.val, by omega⟩ k, mul_comm]; rfl

/-- A head of a block is the query of the block's rows. -/
theorem head_eq (t : Fin cfg0.N) (hd : ℕ) (h : hd < 16) (i i' : Fin 1024) (j : Fin 64) (e : Fin 1024) (he : e.val = 64 * hd + j.val) (hi : i'.val = i.val) :
    rowsOf (k0_pay8 (F := Ideal) (k0_pay3 (iblk m c 0 t) (iblk m c 1 t)) (iblk m c 3 t)) hd h i j
        * headScale (rowsOf (k0_pay8 (F := Ideal) (k0_pay3 (iblk m c 0 t) (iblk m c 1 t)) (iblk m c 3 t)) hd h i)
      = specQ (inX m c (bat t) (pos t i')) (inN m c) (inW m c) e := by
  have h1 : e.val / 64 = hd := by omega
  have h2 : i' = i := Fin.ext hi
  subst h2
  unfold specQ headQ headCol
  refine congrArg₂ (· * headScale ·) ?_ (funext fun d => ?_)
  · rw [rows_eq]; exact congrArg _ (Fin.ext he.symm)
  · rw [rows_eq]; refine congrArg _ (Fin.ext ?_); show 64 * hd + d.val = 64 * (e.val / 64) + d.val; rw [h1]

/-- The value's block is the value of the block's rows. -/
theorem value_eq (t : Fin cfg0.N) (e i : Fin 1024) :
    k0_pay9 (F := Ideal) (k0_pay3 (iblk m c 0 t) (iblk m c 1 t)) (iblk m c 3 t) (ix3 0 e i)
      = specV (inX m c (bat t) (pos t i)) (inN m c) (inW m c) e := by
  rw [p9_apply]
  unfold specV proj
  refine Finset.sum_congr rfl fun k _ => ?_
  rw [hid, blk3, V_v13_value, mul_comm]; rfl

/-- What the body leaves in the value's block. -/
theorem out14 (t : Fin cfg0.N) :
    (outsAt0 m c t.val t.isLt).2.2.2.1 = k0_pay9 (F := Ideal) (k0_pay3 (iblk m c 0 t) (iblk m c 1 t)) (iblk m c 3 t) := by
  by_cases h : t.val % 2 = 0
  · rw [outsAt0_A m c t h]; dsimp only; frame_out
  · rw [outsAt0_B m c t h]; dsimp only; frame_out

/-- The value's array is the value of the arguments. -/
theorem final14 : (dats m 0 c).arrAt 14 cfg0.N
    = (fun j : S8x1024x2048.Idx => specV (inX m c (j 0) (j 2)) (inN m c) (inW m c) (j 1) : FVec Ideal S8x1024x2048 .bf16) := by
  refine (dats m 0 c).arrAt_eq_of_covers 14 _ (by decide +kernel) fun t hf y => ?_
  blk_simp
  rw [after0_14, out14]
  idx_vars y
  obtain rfl : y0 = 0 := Subsingleton.elim _ _
  rw [value_eq]
  refine place3 (fun b s e => specV (inX m c b s) (inN m c) (inW m c) e) ?_ ?_ ?_ <;> blk_simp [e14, bat, pos] <;> simp <;> omega

/-- What the body leaves in the gate's block. -/
theorem out15 (t : Fin cfg0.N) (i e : Fin 1024) :
    (outsAt0 m c t.val t.isLt).2.2.2.2.1 (ix3 0 i e) = specG (inX m c (bat t) (pos t i)) (inN m c) (inW m c) e := by
  have key : ∀ w : FVec Ideal S1024x1024 .bf16, (∀ k e : Fin 1024, w (ix2 k e) = iblk m c 2 t (ix2 k ⟨1024 + e.val, by omega⟩)) →
      k0_pay7 (F := Ideal) (k0_pay3 (iblk m c 0 t) (iblk m c 1 t)) w (ix3 0 i e) = specG (inX m c (bat t) (pos t i)) (inN m c) (inW m c) e := by
    intro w hw
    have hw' : ∀ k : Fin 1024, w (ix2 k e) = ((1 / 2 : ℝ) : EReal) * inW m c k ⟨3072 + e.val, by omega⟩ := fun k => by
      rw [hw, blk2, ← of_half]; exact V_v6_gate m c k e
    rw [p7_apply]
    simp only [hid, hw', sum_half, siluHalf_eq]
    rfl
  by_cases h : t.val % 2 = 0
  · rw [outsAt0_A m c t h]; dsimp only; frame_out
    refine key _ fun k e => View.ld_unit_apply_of _ _ _ _ _ _ fun a => ?_
    fin_cases a <;> simp
  · rw [outsAt0_B m c t h]; dsimp only; frame_out
    refine key _ fun k e => View.ld_unit_apply_of _ _ _ _ _ _ fun a => ?_
    fin_cases a <;> simp

/-- The gate's array is the gate of the arguments. -/
theorem final15 : (dats m 0 c).arrAt 15 cfg0.N
    = (fun j : S8x2048x1024.Idx => specG (inX m c (j 0) (j 1)) (inN m c) (inW m c) (j 2) : FVec Ideal S8x2048x1024 .bf16) := by
  refine (dats m 0 c).arrAt_eq_of_covers 15 _ (by decide +kernel) fun t hf y => ?_
  blk_simp
  rw [after0_15]
  idx_vars y
  obtain rfl : y0 = 0 := Subsingleton.elim _ _
  rw [out15]
  refine place3 (fun b s e => specG (inX m c b s) (inN m c) (inW m c) e) ?_ ?_ ?_ <;> blk_simp [e15, bat, pos] <;> simp <;> omega

/-- What the body leaves in the query's block. -/
theorem out11 (t : Fin cfg0.N) (e i : Fin 1024) :
    (outsAt0 m c t.val t.isLt).1 (ix3 0 e i) = specQ (inX m c (bat t) (pos t i)) (inN m c) (inW m c) e := by
  by_cases h : t.val % 2 = 0
  · rw [outsAt0_A m c t h]; dsimp only; frame_out
    canon_tiles x hx
    all_goals
      idx_vars x
      obtain rfl : x0 = 0 := Subsingleton.elim _ _
      simp only [q0_apply, q1_apply, q2_apply, q3_apply, q4_apply, q5_apply, q6_apply, q7_apply, q8_apply, q9_apply, q10_apply, q11_apply, q12_apply, q13_apply, q14_apply, q15_apply]
      exact head_eq m c t _ _ _ _ _ _ (by omega) hx2
  · rw [outsAt0_B m c t h]; dsimp only; frame_out
    canon_tiles x hx
    all_goals
      idx_vars x
      obtain rfl : x0 = 0 := Subsingleton.elim _ _
      simp only [q0_apply, q1_apply, q2_apply, q3_apply, q4_apply, q5_apply, q6_apply, q7_apply, q8_apply, q9_apply, q10_apply, q11_apply, q12_apply, q13_apply, q14_apply, q15_apply]
      exact head_eq m c t _ _ _ _ _ _ (by omega) hx2

/-- The query's array is the query of the arguments. -/
theorem final11 : (dats m 0 c).arrAt 11 cfg0.N
    = (fun j : S8x1024x2048.Idx => specQ (inX m c (j 0) (j 2)) (inN m c) (inW m c) (j 1) : FVec Ideal S8x1024x2048 .bf16) := by
  refine (dats m 0 c).arrAt_eq_of_covers 11 _ (by decide +kernel) fun t hf y => ?_
  blk_simp
  rw [after0_11]
  idx_vars y
  obtain rfl : y0 = 0 := Subsingleton.elim _ _
  rw [out11]
  refine place3 (fun b s e => specQ (inX m c b s) (inN m c) (inW m c) e) ?_ ?_ ?_ <;> blk_simp [e11, bat, pos] <;> simp <;> omega

end Cert.Kernel4Ideal.Own

end
-- ==== Proof.L2Key.lean ====
/- The key's array: the reciprocal roots through the lanes are the heads' own. -/
module

public import proofs.«01_k».proof.Proof.L2Lanes
public import proofs.«01_k».proof.Proof.L2KValue

@[expose] public section

set_option maxRecDepth 16384

noncomputable section

namespace Cert.Own

open Idealize.ShloMosaic

/-- The word of sixty-four, as a real. -/
theorem of_64 : Ideal.ofBits .f32 0x42800000#32 = ((64 : ℝ) : EReal) := by
  simp [Ideal.ofBits, Ideal.ieee, -EReal.coe_mul]; try norm_num
/-- The word of a sixty-fourth, as a real. -/
theorem of_64th : Ideal.ofBits .f32 0x3C800000#32 = ((1 / 64 : ℝ) : EReal) := by
  simp [Ideal.ofBits, Ideal.ieee, -EReal.coe_mul]; try norm_num
/-- The word of the small constant under the root, as a real. -/
theorem of_eps : Ideal.ofBits .f32 0x358637BD#32 = ((8796093 / 8796093022208 : ℝ) : EReal) := by
  simp [Ideal.ofBits, Ideal.ieee, -EReal.coe_mul]; try norm_num

/-- A square is not negative. -/
theorem sq_nonneg' (x : EReal) : 0 ≤ x * x := by
  induction x using EReal.rec with
  | bot => rw [EReal.bot_mul_bot]; exact le_top
  | top => rw [EReal.top_mul_top]; exact le_top
  | coe r => rw [← EReal.coe_mul]; exact_mod_cast mul_self_nonneg r

/-- The reciprocal root of a positive number is finite. -/
theorem rsqrt_sub_self (a : EReal) (ha : 0 < a) : Ideal.rsqrt a - Ideal.rsqrt a = 0 := by
  induction a using EReal.rec with
  | bot => exact absurd ha (by simp)
  | top => rw [Ideal.rsqrt_top]; simp
  | coe r =>
    have hr : 0 < r := by exact_mod_cast ha
    rw [Ideal.rsqrt_coe, if_neg (not_lt.mpr hr.le), if_neg hr.ne', ← EReal.coe_sub, sub_self]; rfl

/-- The scale of a head, with the mean as a product. -/
theorem headScale_eq (p : Fin 64 → EReal) :
    headScale p = Ideal.rsqrt ((∑ d, p d * p d) * Ideal.ofBits .f32 0x3C800000#32 + Ideal.ofBits .f32 0x358637BD#32) := by
  unfold headScale
  rw [of_64, of_64th, Ideal.div_coe (by norm_num)]

/-- The scale of a head is finite. -/
theorem headScale_sub (p : Fin 64 → EReal) : headScale p - headScale p = 0 := by
  rw [headScale_eq]
  refine rsqrt_sub_self _ ?_
  have h1 : (0 : EReal) ≤ (∑ d, p d * p d) * Ideal.ofBits .f32 0x3C800000#32 := by
    rw [of_64th]
    exact mul_nonneg (Finset.sum_nonneg fun d _ => sq_nonneg' _) (by exact_mod_cast (by norm_num : (0 : ℝ) ≤ 1 / 64))
  have h2 : (0 : EReal) < Ideal.ofBits .f32 0x358637BD#32 := by
    rw [of_eps]; exact_mod_cast (by norm_num : (0 : ℝ) < 8796093 / 8796093022208)
  exact lt_of_lt_of_le h2 (le_add_of_nonneg_left h1)

end Cert.Own

namespace Cert.Kernel4Ideal.Own

open Cert.Kernel4Ideal Cert.Kernel4Ideal.Gen Cert.Own Idealize.ShloMosaic Idealize.ShloMosaic.TcCoe
open Idealize.ShloMosaic.Pipeline (Dat Cfg Window)

variable (m : (ℓ : Loc nD τ sig) → Buf (Elt Ideal) ℓ) (c : Dev nD)

/-- The key's products of a row. -/
def keyP (t : Fin cfg0.N) (i e : Fin 1024) : EReal := proj (inX m c (bat t) (pos t i)) (inN m c) (inW m c) ⟨1024 + e.val, by omega⟩

/-- The lane of a head is the head's scale. -/
theorem kroot_eq (t : Fin cfg0.N) (Z : FVec Ideal S1024x1024 .f32) (i e : Fin 1024) (hZ : ∀ e : Fin 1024, Z (ix2 i e) = keyP m c t i e) :
    kroot Z (iblk m c 7 t) i ⟨e.val / 64, by omega⟩ = headScale fun d => keyP m c t i (headCol e d) := by
  rw [headScale_eq]
  unfold kroot
  have hs : ∀ k : Fin 1024, ∀ l : Fin 128, (iblk m c 7 t : FVec Ideal S1024x128 .bf16) (ix2 k l) = lane k l := fun k l =>
    (blk7 m c t k l).trans (V_v40 m c k l)
  simp only [hZ, hs]
  refine congrArg (fun z => Ideal.rsqrt (z * _ + _)) ?_
  exact sum_lane (fun k => keyP m c t i k * keyP m c t i k) ⟨e.val / 64, by omega⟩

/-- The key's block is the key of the block's rows. -/
theorem key_eq (t : Fin cfg0.N) (w : FVec Ideal S1024x1024 .bf16) (hw : ∀ k e : Fin 1024, w (ix2 k e) = iblk m c 2 t (ix2 k ⟨e.val, by omega⟩)) (i e : Fin 1024) :
    k0_pay6 (F := Ideal) (k0_pay4 (iblk m c 0 t) (iblk m c 1 t) w) (k0_pay5 (iblk m c 0 t) (iblk m c 1 t) w (iblk m c 7 t)) (iblk m c 8 t) (iblk m c 6 t) (ix3 0 i e)
      = specK (inX m c (bat t) (pos t i)) (inN m c) (inW m c) (inQ m c) (inK m c) e := by
  have hZ : ∀ e : Fin 1024, k0_pay4 (F := Ideal) (iblk m c 0 t) (iblk m c 1 t) w (ix2 i e) = keyP m c t i e := fun e => by
    rw [p4_apply]
    unfold keyP proj
    refine Finset.sum_congr rfl fun k _ => ?_
    rw [hid, hw, blk2, V_v6_key]; rfl
  have hlo : ∀ l : Fin 128, (iblk m c 8 t : FVec Ideal S256x1024 .bf16) (ix2 ⟨l.val, by omega⟩ e) = lane e l := fun l =>
    (blk8 m c t _ e).trans (V_v43_lo m c l e)
  have hhi : ∀ l : Fin 128, (iblk m c 8 t : FVec Ideal S256x1024 .bf16) (ix2 ⟨128 + l.val, by omega⟩ e) = lane e l := fun l =>
    (blk8 m c t _ e).trans (V_v43_hi m c l e)
  have hg : (iblk m c 6 t : FVec Ideal S1x1024 .f32) (ix2 0 e) = inK m c ⟨e.val % 64, by omega⟩ * inQ m c ⟨e.val % 64, by omega⟩ * Ideal.ofBits .f32 0x3E38AA3B#32 :=
    (blk6 m c t e).trans (V_v31 m c e)
  have hsum : (∑ l : Fin 256, k0_pay5 (F := Ideal) (iblk m c 0 t) (iblk m c 1 t) w (iblk m c 7 t) (ix2 i l) * (iblk m c 8 t : FVec Ideal S256x1024 .bf16) (ix2 l e))
      = headScale fun d => keyP m c t i (headCol e d) := by
    refine (Fin.sum_univ_add (a := 128) (b := 128) (fun l : Fin 256 => k0_pay5 (F := Ideal) (iblk m c 0 t) (iblk m c 1 t) w (iblk m c 7 t) (ix2 i l) * (iblk m c 8 t : FVec Ideal S256x1024 .bf16) (ix2 l e))).trans ?_
    have h1 : ∀ l : Fin 128, k0_pay5 (F := Ideal) (iblk m c 0 t) (iblk m c 1 t) w (iblk m c 7 t) (ix2 i ⟨l.val, by omega⟩) = kroot (k0_pay4 (iblk m c 0 t) (iblk m c 1 t) w) (iblk m c 7 t) i l := fun l => by
      rw [p5_apply, dif_pos (show l.val < 128 from l.isLt)]
    have h2 : ∀ l : Fin 128, k0_pay5 (F := Ideal) (iblk m c 0 t) (iblk m c 1 t) w (iblk m c 7 t) (ix2 i ⟨128 + l.val, by omega⟩)
        = kroot (k0_pay4 (iblk m c 0 t) (iblk m c 1 t) w) (iblk m c 7 t) i l - kroot (k0_pay4 (iblk m c 0 t) (iblk m c 1 t) w) (iblk m c 7 t) i l := fun l => by
      rw [p5_apply, dif_neg (show ¬ 128 + l.val < 128 by omega)]
      have : (⟨128 + l.val - 128, by omega⟩ : Fin 128) = l := Fin.ext (by show 128 + l.val - 128 = l.val; omega)
      rw [this]
    have e1 := lane_sum (fun l => kroot (k0_pay4 (iblk m c 0 t) (iblk m c 1 t) w) (iblk m c 7 t) i l) e
    have e2 := lane_sum (fun l => kroot (k0_pay4 (iblk m c 0 t) (iblk m c 1 t) w) (iblk m c 7 t) i l - kroot (k0_pay4 (iblk m c 0 t) (iblk m c 1 t) w) (iblk m c 7 t) i l) e
    have hr := kroot_eq m c t _ i e hZ
    rw [hr] at e1 e2
    rw [headScale_sub] at e2
    refine (congrArg₂ (· + ·) ((Finset.sum_congr rfl fun l _ => ?_).trans e1) ((Finset.sum_congr rfl fun l _ => ?_).trans e2)).trans (add_zero _)
    · exact congrArg₂ (· * ·) (h1 l) (hlo l)
    · exact congrArg₂ (· * ·) (h2 l) (hhi l)
  rw [p6_apply, hsum, hZ, hg]
  unfold specK headQ
  simp only [mul_assoc]
  rfl

/-- What the body leaves in the key's block. -/
theorem out12 (t : Fin cfg0.N) (i e : Fin 1024) :
    (outsAt0 m c t.val t.isLt).2.1 (ix3 0 i e) = specK (inX m c (bat t) (pos t i)) (inN m c) (inW m c) (inQ m c) (inK m c) e := by
  by_cases h : t.val % 2 = 0
  · rw [outsAt0_A m c t h]; dsimp only; frame_out
    refine key_eq m c t _ (fun k e => View.ld_unit_apply_of _ _ _ _ _ _ fun a => ?_) i e
    fin_cases a <;> simp
  · rw [outsAt0_B m c t h]; dsimp only; frame_out
    refine key_eq m c t _ (fun k e => View.ld_unit_apply_of _ _ _ _ _ _ fun a => ?_) i e
    fin_cases a <;> simp

/-- The key's array is the key of the arguments. -/
theorem final12 : (dats m 0 c).arrAt 12 cfg0.N
    = (fun j : S8x2048x1024.Idx => specK (inX m c (j 0) (j 1)) (inN m c) (inW m c) (inQ m c) (inK m c) (j 2) : FVec Ideal S8x2048x1024 .bf16) := by
  refine (dats m 0 c).arrAt_eq_of_covers 12 _ (by decide +kernel) fun t hf y => ?_
  blk_simp
  rw [after0_12]
  idx_vars y
  obtain rfl : y0 = 0 := Subsingleton.elim _ _
  rw [out12]
  refine place3 (fun b s e => specK (inX m c b s) (inN m c) (inW m c) (inQ m c) (inK m c) e) ?_ ?_ ?_ <;> blk_simp [e12, bat, pos] <;> simp <;> omega

end Cert.Kernel4Ideal.Own

end
-- ==== Proof.L2RefValue.lean ====
/- The projection's reference at an index, over the extended reals. -/
module

public import proofs.«01_k».proof.Proof.Gen.Reference4Ideal.Read
public import proofs.«01_k».proof.Proof.L2Spec
public import Idealize.ShloMosaic.Lib.Pointwise

@[expose] public section

set_option maxRecDepth 16384

noncomputable section

namespace Cert.Reference4Ideal.Own

open Cert.Reference4Ideal Cert.Reference4Ideal.Gen Cert.Reference4Ideal.Read Cert.Own Idealize.ShloMosaic Idealize.ShloMosaic.TcCoe Idealize.SL.Sem Idealize.ShloMosaic.StableHlo

variable (x0 : FVec Ideal S8x2048x1024 .f32) (x1 : FVec Ideal S1024 .f32) (x2 : FVec Ideal S1024x4112 .f32) (x4 x5 : FVec Ideal S64 .f32)

/-- The normalisation at an index. -/
theorem r12_apply (b : Fin 8) (s : Fin 2048) (d : Fin 1024) :
    val_main_v12 (F := Ideal) x0 x1 (ix3 b s d) = rowH (fun d => x0 (ix3 b s d)) (fun d => x1 (ix1 d)) d := by
  unfold val_main_v12 val_main_v11 val_main_v10 val_main_v9 val_main_v8 val_main_v7 val_main_v6 val_main_v5 val_main_v4 val_main_v3 val_main_v2 val_main_v1 val_main_v0 val_main_cst_1 val_main_cst_0 val_main_cst rowH rmsScale
  pointwise

/-- The product at an index. -/
theorem r13_apply (b : Fin 8) (s : Fin 2048) (j : Fin 4112) :
    val_main_v13 (F := Ideal) x0 x1 x2 (ix3 b s j) = proj (fun d => x0 (ix3 b s d)) (fun d => x1 (ix1 d)) (fun k j => x2 (ix2 k j)) j := by
  refine Eq.trans (b := ∑ k : Fin 1024, val_main_v12 (F := Ideal) x0 x1 (ix3 b s k) * x2 (ix2 k j)) ?_ ?_
  · unfold val_main_v13; generalize val_main_v12 (F := Ideal) x0 x1 = H; pointwise
  · simp only [r12_apply]; rfl

/-- The value at an index. -/
theorem r59_apply (b : Fin 8) (e : Fin 1024) (s : Fin 2048) :
    val_main_v59 (F := Ideal) x0 x1 x2 (ix3 b e s) = val_main_v13 (F := Ideal) x0 x1 x2 (ix3 b s ⟨2048 + e.val, by omega⟩) := by
  unfold val_main_v59 val_main_v58 val_main_v16; generalize val_main_v13 (F := Ideal) x0 x1 x2 = P; pointwise

/-- The gate at an index. -/
theorem r61_apply (b : Fin 8) (s : Fin 2048) (e : Fin 1024) :
    val_main_v61 (F := Ideal) x0 x1 x2 (ix3 b s e) = silu (val_main_v13 (F := Ideal) x0 x1 x2 (ix3 b s ⟨3072 + e.val, by omega⟩)) := by
  unfold val_main_v61 val_main_v60 val_main_call0_v5 val_main_call0_v4 val_main_call0_v3 val_main_call0_v2 val_main_call0_v1 val_main_call0_v0 val_main_call0_cst val_main_call0_cst_0 val_main_v17 silu
  generalize val_main_v13 (F := Ideal) x0 x1 x2 = P; pointwise

/-- The query's heads, unscaled, at an index. -/
theorem r19_apply (b : Fin 8) (s : Fin 2048) (h : Fin 16) (d : Fin 64) :
    val_main_v19 (F := Ideal) x0 x1 x2 (ix4 b s h d) = val_main_v13 (F := Ideal) x0 x1 x2 (ix3 b s ⟨64 * h.val + d.val, by omega⟩) := by
  unfold val_main_v19 val_main_v14; generalize val_main_v13 (F := Ideal) x0 x1 x2 = P; pointwise; simp only [mul_comm]

/-- The query's heads at an index. -/
theorem r33_apply (b : Fin 8) (s : Fin 2048) (h : Fin 16) (d : Fin 64) :
    val_main_v33 (F := Ideal) x0 x1 x2 (ix4 b s h d)
      = val_main_v19 (F := Ideal) x0 x1 x2 (ix4 b s h d) * headScale (fun d => val_main_v19 (F := Ideal) x0 x1 x2 (ix4 b s h d)) := by
  unfold val_main_v33 val_main_v32 val_main_v31 val_main_v20 val_main_v30 val_main_v29 val_main_v28 val_main_v27 val_main_v26 val_main_v25 val_main_v24 val_main_v23 val_main_v22 val_main_v21 val_main_cst_2 val_main_cst_3 val_main_cst_4 val_main_cst_5 headScale
  generalize val_main_v19 (F := Ideal) x0 x1 x2 = Q; pointwise

/-- The query at an index. -/
theorem r55_apply (b : Fin 8) (e : Fin 1024) (s : Fin 2048) :
    val_main_v55 (F := Ideal) x0 x1 x2 (ix3 b e s) = val_main_v33 (F := Ideal) x0 x1 x2 (ix4 b s ⟨e.val / 64, by omega⟩ ⟨e.val % 64, by omega⟩) := by
  unfold val_main_v55 val_main_v54 val_main_v53; generalize val_main_v33 (F := Ideal) x0 x1 x2 = Q; pointwise

/-- The key's heads, unscaled, at an index. -/
theorem r34_apply (b : Fin 8) (s : Fin 2048) (h : Fin 16) (d : Fin 64) :
    val_main_v34 (F := Ideal) x0 x1 x2 (ix4 b s h d) = val_main_v13 (F := Ideal) x0 x1 x2 (ix3 b s ⟨1024 + (64 * h.val + d.val), by omega⟩) := by
  unfold val_main_v34 val_main_v15; generalize val_main_v13 (F := Ideal) x0 x1 x2 = P; pointwise; simp only [mul_comm]

/-- The key's heads at an index. -/
theorem r52_apply (b : Fin 8) (s : Fin 2048) (h : Fin 16) (d : Fin 64) :
    val_main_v52 (F := Ideal) x0 x1 x2 x4 x5 (ix4 b s h d)
      = val_main_v34 (F := Ideal) x0 x1 x2 (ix4 b s h d) * headScale (fun d => val_main_v34 (F := Ideal) x0 x1 x2 (ix4 b s h d))
          * x5 (ix1 d) * x4 (ix1 d) * Ideal.ofBits .f32 0x3E38AA3B#32 := by
  unfold val_main_v52 val_main_v51 val_main_cst_9 val_main_v50 val_main_v49 val_main_v48 val_main_v47 val_main_v46 val_main_v45 val_main_v44 val_main_v43 val_main_v42 val_main_v41 val_main_v40 val_main_v39 val_main_v38 val_main_v37 val_main_v36 val_main_v35 val_main_cst_6 val_main_cst_7 val_main_cst_8 headScale
  generalize val_main_v34 (F := Ideal) x0 x1 x2 = Q; pointwise

/-- The key at an index. -/
theorem r57_apply (b : Fin 8) (s : Fin 2048) (e : Fin 1024) :
    val_main_v57 (F := Ideal) x0 x1 x2 x4 x5 (ix3 b s e) = val_main_v52 (F := Ideal) x0 x1 x2 x4 x5 (ix4 b s ⟨e.val / 64, by omega⟩ ⟨e.val % 64, by omega⟩) := by
  unfold val_main_v57 val_main_v56; generalize val_main_v52 (F := Ideal) x0 x1 x2 x4 x5 = Q; pointwise

/-- The reference's value is the projection's. -/
theorem refV (b : Fin 8) (e : Fin 1024) (s : Fin 2048) :
    val_main_v59 (F := Ideal) x0 x1 x2 (ix3 b e s) = specV (fun d => x0 (ix3 b s d)) (fun d => x1 (ix1 d)) (fun k j => x2 (ix2 k j)) e := by
  rw [r59_apply, r13_apply]; rfl

/-- The reference's gate is the projection's. -/
theorem refG (b : Fin 8) (s : Fin 2048) (e : Fin 1024) :
    val_main_v61 (F := Ideal) x0 x1 x2 (ix3 b s e) = specG (fun d => x0 (ix3 b s d)) (fun d => x1 (ix1 d)) (fun k j => x2 (ix2 k j)) e := by
  rw [r61_apply, r13_apply]; rfl

/-- The reference's query is the projection's. -/
theorem refQ (b : Fin 8) (e : Fin 1024) (s : Fin 2048) :
    val_main_v55 (F := Ideal) x0 x1 x2 (ix3 b e s) = specQ (fun d => x0 (ix3 b s d)) (fun d => x1 (ix1 d)) (fun k j => x2 (ix2 k j)) e := by
  have he : 64 * (e.val / 64) + e.val % 64 = e.val := by omega
  rw [r55_apply, r33_apply]
  simp only [r19_apply, r13_apply, he]
  rfl

/-- The reference's key is the projection's. -/
theorem refK (b : Fin 8) (s : Fin 2048) (e : Fin 1024) :
    val_main_v57 (F := Ideal) x0 x1 x2 x4 x5 (ix3 b s e)
      = specK (fun d => x0 (ix3 b s d)) (fun d => x1 (ix1 d)) (fun k j => x2 (ix2 k j)) (fun d => x4 (ix1 d)) (fun d => x5 (ix1 d)) e := by
  have he : 64 * (e.val / 64) + e.val % 64 = e.val := by omega
  rw [r57_apply, r52_apply]
  simp only [r34_apply, r13_apply, he]
  rfl

end Cert.Reference4Ideal.Own

end
-- ==== Proof.L2Parts.lean ====
/- The claims' parts about the attention layer's projection, from the runs and the values. -/
module

public import proofs.«01_k».proof.Defs
public import proofs.«01_k».proof.Proof.L2Key
public import proofs.«01_k».proof.Proof.L2RefValue
public import proofs.«01_k».proof.Proof.Gen.Kernel4.Frame
public import proofs.«01_k».proof.Proof.Gen.Kernel4Ideal.Frame
public import proofs.«01_k».proof.Proof.Gen.Reference4Ideal.Run

@[expose] public section

set_option maxRecDepth 16384

noncomputable section

namespace Cert.Parts4

open Idealize.ShloMosaic Idealize.ShloMosaic.TcCoe Idealize.SL.Sem Cert.Own

/-- The kernel ends with its arguments unchanged and its counters at zero, over the bit patterns. -/
theorem frame_p : Cert.quiescent_Kernel4 (hKernel4 := Cert.Kernel4.Gen.facts) := fun m ρ _ => Cert.Kernel4.Gen.frame m ρ

/-- The same of the kernel over the extended reals. -/
theorem frame_i : Cert.quiescent_Kernel4Ideal (hKernel4Ideal := Cert.Kernel4Ideal.Gen.facts) := fun m ρ _ => Cert.Kernel4Ideal.Gen.frame m ρ

/-- The reference ends with its arguments unchanged; it has no counter. -/
theorem frame_r : Cert.quiescent_Reference4Ideal (hReference4Ideal := Cert.Reference4Ideal.Gen.facts) := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- No rule was applied. -/
theorem preserves : Cert.preserves_Kernel4_Kernel4Ideal := trivial

/-- From equal arguments the kernel and the reference both run, and end with the same query, key, value and gate and unchanged arguments. -/
theorem algebraic : Cert.algebraic_Kernel4Ideal_Reference4Ideal (hKernel4Ideal := Cert.Kernel4Ideal.Gen.facts) (hReference4Ideal := Cert.Reference4Ideal.Gen.facts) := by
  intro m ρ m' ρ' _ hagree
  refine ⟨fun c => (fun j => specQ (Cert.Kernel4Ideal.Own.inX m c (j 0) (j 2)) (Cert.Kernel4Ideal.Own.inN m c) (Cert.Kernel4Ideal.Own.inW m c) (j 1)),
    fun c => (fun j => specK (Cert.Kernel4Ideal.Own.inX m c (j 0) (j 1)) (Cert.Kernel4Ideal.Own.inN m c) (Cert.Kernel4Ideal.Own.inW m c) (Cert.Kernel4Ideal.Own.inQ m c) (Cert.Kernel4Ideal.Own.inK m c) (j 2)),
    fun c => (fun j => specV (Cert.Kernel4Ideal.Own.inX m c (j 0) (j 2)) (Cert.Kernel4Ideal.Own.inN m c) (Cert.Kernel4Ideal.Own.inW m c) (j 1)),
    fun c => (fun j => specG (Cert.Kernel4Ideal.Own.inX m c (j 0) (j 1)) (Cert.Kernel4Ideal.Own.inN m c) (Cert.Kernel4Ideal.Own.inW m c) (j 2)), ?_, ?_⟩
  · refine (θ_run Cert.Kernel4Ideal.defs _ _).mono (fun r h c => ⟨?_, ?_, ?_, ?_, h.1.1 c⟩)
      (θ_run_and (Cert.Kernel4Ideal.Gen.frame m ρ) (Cert.Kernel4Ideal.Gen.run_main m ρ))
    · exact ((h.2 c).1 11).trans (Cert.Kernel4Ideal.Own.final11 m c)
    · exact ((h.2 c).1 12).trans (Cert.Kernel4Ideal.Own.final12 m c)
    · exact ((h.2 c).1 14).trans (Cert.Kernel4Ideal.Own.final14 m c)
    · exact ((h.2 c).1 15).trans (Cert.Kernel4Ideal.Own.final15 m c)
  · refine (θ_run Cert.Reference4Ideal.defs _ _).mono (fun r h c => ⟨(h c).1.trans ?_, (h c).2.1.trans ?_, (h c).2.2.1.trans ?_, (h c).2.2.2.1.trans ?_, (h c).2.2.2.2⟩)
      (Cert.Reference4Ideal.Value.run (F := Ideal) m' ρ')
    · rw [Cert.Reference4Ideal.Read.val_main_v55_eq]
      obtain ⟨h0, h1, h2, -, -, -⟩ := hagree c
      rw [h0, h1, h2]
      funext j
      idx_vars j
      exact Cert.Reference4Ideal.Own.refQ _ _ _ _ _ _
    · rw [Cert.Reference4Ideal.Read.val_main_v57_eq]
      obtain ⟨h0, h1, h2, -, h4, h5⟩ := hagree c
      rw [h0, h1, h2, h4, h5]
      funext j
      idx_vars j
      exact Cert.Reference4Ideal.Own.refK _ _ _ _ _ _ _ _
    · rw [Cert.Reference4Ideal.Read.val_main_v59_eq]
      obtain ⟨h0, h1, h2, -, -, -⟩ := hagree c
      rw [h0, h1, h2]
      funext j
      idx_vars j
      exact Cert.Reference4Ideal.Own.refV _ _ _ _ _ _
    · rw [Cert.Reference4Ideal.Read.val_main_v61_eq]
      obtain ⟨h0, h1, h2, -, -, -⟩ := hagree c
      rw [h0, h1, h2]
      funext j
      idx_vars j
      exact Cert.Reference4Ideal.Own.refG _ _ _ _ _ _

end Cert.Parts4

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel3
public import proofs.«01_k».proof.Proof.Gen.Kernel4
public import proofs.«01_k».proof.Proof.Gen.Kernel3.Skeleton
public import proofs.«01_k».proof.Proof.Gen.Kernel4.Skeleton
public import proofs.«01_k».proof.Proof.Gen.Kernel3.Launch
public import proofs.«01_k».proof.Proof.Gen.Kernel4.Launch
public import proofs.«01_k».proof.Proof.Gen.Kernel3.Points
public import proofs.«01_k».proof.Proof.Gen.Kernel4.Points
public import proofs.«01_k».proof.Proof.Gen.Kernel3.Frame
public import proofs.«01_k».proof.Proof.Gen.Kernel4.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3Ideal
public import proofs.«01_k».proof.Proof.Gen.Kernel4Ideal
public import proofs.«01_k».proof.Proof.Gen.Kernel3Ideal.Skeleton
public import proofs.«01_k».proof.Proof.Gen.Kernel4Ideal.Skeleton
public import proofs.«01_k».proof.Proof.Gen.Kernel3Ideal.Launch
public import proofs.«01_k».proof.Proof.Gen.Kernel4Ideal.Launch
public import proofs.«01_k».proof.Proof.Gen.Kernel3Ideal.Points
public import proofs.«01_k».proof.Proof.Gen.Kernel4Ideal.Points
public import proofs.«01_k».proof.Proof.Gen.Kernel3Ideal.Frame
public import proofs.«01_k».proof.Proof.Gen.Kernel4Ideal.Frame
public import proofs.«01_k».proof.Proof.Gen.Kernel3Ideal.Value
public import proofs.«01_k».proof.Proof.Gen.Kernel4Ideal.Value
public import proofs.«01_k».proof.Proof.Gen.Reference2Ideal
public import proofs.«01_k».proof.Proof.Gen.Reference2Ideal.Run
public import proofs.«01_k».proof.Proof.Gen.Reference3Ideal
public import proofs.«01_k».proof.Proof.Gen.Reference4Ideal
public import proofs.«01_k».proof.Proof.Gen.Reference3Ideal.Run
public import proofs.«01_k».proof.Proof.Gen.Reference4Ideal.Run
public import proofs.«01_k».proof.Proof.Gen.Reference4Ideal.Read
public import proofs.«01_k».proof.Proof.Parts
public import proofs.«01_k».proof.Proof.L0Parts
public import proofs.«01_k».proof.Proof.L1Frames
public import proofs.«01_k».proof.Proof.L2Parts
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Parts.frame_p, Cert.Parts.frame_i, Cert.Parts.frame_r,
    Cert.Parts2.frame_p, Cert.Parts2.frame_i, Cert.Parts2.frame_r,
    Cert.Parts3.frame_p, Cert.Parts3.frame_i, Cert.Parts3.frame_r,
    Cert.Parts4.frame_p, Cert.Parts4.frame_i, Cert.Parts4.frame_r,
    Cert.Parts.preserves, Cert.Parts.algebraic,
    Cert.Parts2.preserves, Cert.Parts2.algebraic,
    Cert.Parts3.preserves,
    Cert.Parts4.preserves, Cert.Parts4.algebraic⟩

end Cert.Proof

end
